-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S256x1024 : Shape := ⟨2, ![256, 1024]⟩
abbrev S4x256x256 : Shape := ⟨3, ![4, 256, 256]⟩
abbrev S3x2x128x512 : Shape := ⟨4, ![3, 2, 128, 512]⟩
abbrev S2x3x2x2 : Shape := ⟨4, ![2, 3, 2, 2]⟩
abbrev S2 : Shape := ⟨1, ![2]⟩
abbrev S3x2 : Shape := ⟨2, ![3, 2]⟩
abbrev S_ : Shape := ⟨0, ![]⟩
abbrev S128x1024 : Shape := ⟨2, ![128, 1024]⟩
abbrev S1x1x1x1 : Shape := ⟨4, ![1, 1, 1, 1]⟩
abbrev S1x128x128 : Shape := ⟨3, ![1, 128, 128]⟩
abbrev S128x128 : Shape := ⟨2, ![128, 128]⟩
abbrev S1 : Shape := ⟨1, ![1]⟩
abbrev S1x256x256 : Shape := ⟨3, ![1, 256, 256]⟩
abbrev S256x256 : Shape := ⟨2, ![256, 256]⟩
abbrev S128x512 : Shape := ⟨2, ![128, 512]⟩
abbrev S128x64 : Shape := ⟨2, ![128, 64]⟩
abbrev S512x64 : Shape := ⟨2, ![512, 64]⟩
abbrev S128 : Shape := ⟨1, ![128]⟩
abbrev S128x1 : Shape := ⟨2, ![128, 1]⟩
abbrev S128x256 : Shape := ⟨2, ![128, 256]⟩
abbrev S1x128x512 : Shape := ⟨3, ![1, 128, 512]⟩
abbrev S1x1 : Shape := ⟨2, ![1, 1]⟩
abbrev S1x1x128x512 : Shape := ⟨4, ![1, 1, 128, 512]⟩

abbrev nBuf : Space → Nat
  | .hbm => 8
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S256x1024, .f32⟩
  | .hbm, ⟨6, _⟩ => ⟨S256x1024, .f32⟩
  | .hbm, ⟨7, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S2x128x512, .f32⟩
  | .local _ .vmem, ⟨6, _⟩ => ⟨S256x1024, .bf16⟩
  | .local _ .vmem, ⟨7, _⟩ => ⟨S256x1024, .bf16⟩
  | .local _ .vmem, ⟨8, _⟩ => ⟨S4x256x256, .bf16⟩
  | .local _ .vmem, ⟨9, _⟩ => ⟨S4x256x256, .bf16⟩
  | .local _ .vmem, ⟨10, _⟩ => ⟨S2x128x512, .bf16⟩
  | .local _ .vmem, ⟨11, _⟩ => ⟨S3x2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_20 : BitVec 32) (c0_i32_22 : BitVec 32) : Fin 2 → Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.addi v2 c1_i32_20
  let c4_i32_21 : BitVec 32 := 4#32
  let v29 : BitVec 32 := Scalar.remsi v28 c4_i32_21
  let c256_i32 : BitVec 32 := 256#32
  let v30 : BitVec 32 := Scalar.muli v29 c256_i32
  let v31 : BitVec 32 := Scalar.addi v30 c0_i32_22
  ![0, v31.toNat]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v28 : BitVec 32 := Scalar.addi v2 c1_i32_20
  let c4_i32_21 : BitVec 32 := 4#32
  let v29 : BitVec 32 := Scalar.remsi v28 c4_i32_21
  let c1_i32_32 : BitVec 32 := 1#32
  let v32 : BitVec 32 := Scalar.muli v29 c1_i32_32
  let v33 : BitVec 32 := Scalar.addi c0_i32_33 v32
  v33.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v28 : BitVec 32 := Scalar.addi v2 c1_i32_20
  let c4_i32_21 : BitVec 32 := 4#32
  let v29 : BitVec 32 := Scalar.remsi v28 c4_i32_21
  let c1_i32_48 : BitVec 32 := 1#32
  let v43 : BitVec 32 := Scalar.muli v29 c1_i32_48
  let v44 : BitVec 32 := Scalar.addi c0_i32_49 v43
  v44.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v52 : BitVec 32 := Scalar.addi v2 c2_i32_53
  let c4_i32_54 : BitVec 32 := 4#32
  let v53 : BitVec 32 := Scalar.remsi v52 c4_i32_54
  let c1_i32_66 : BitVec 32 := 1#32
  let v56 : BitVec 32 := Scalar.muli v53 c1_i32_66
  let v57 : BitVec 32 := Scalar.addi c0_i32_67 v56
  v57.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v52 : BitVec 32 := Scalar.addi v2 c2_i32_53
  let c4_i32_54 : BitVec 32 := 4#32
  let v53 : BitVec 32 := Scalar.remsi v52 c4_i32_54
  let c1_i32_82 : BitVec 32 := 1#32
  let v67 : BitVec 32 := Scalar.muli v53 c1_i32_82
  let v68 : BitVec 32 := Scalar.addi c0_i32_83 v67
  v68.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v76 : BitVec 32 := Scalar.addi v2 c3_i32_87
  let c4_i32_88 : BitVec 32 := 4#32
  let v77 : BitVec 32 := Scalar.remsi v76 c4_i32_88
  let c1_i32_100 : BitVec 32 := 1#32
  let v80 : BitVec 32 := Scalar.muli v77 c1_i32_100
  let v81 : BitVec 32 := Scalar.addi c0_i32_101 v80
  v81.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v76 : BitVec 32 := Scalar.addi v2 c3_i32_87
  let c4_i32_88 : BitVec 32 := 4#32
  let v77 : BitVec 32 := Scalar.remsi v76 c4_i32_88
  let c1_i32_116 : BitVec 32 := 1#32
  let v91 : BitVec 32 := Scalar.muli v77 c1_i32_116
  let v92 : BitVec 32 := Scalar.addi c0_i32_117 v91
  v92.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_121 : BitVec 32 := 1#32
  let v100 : BitVec 32 := Scalar.addi v2 c1_i32_121
  let c4_i32_122 : BitVec 32 := 4#32
  let v101 : BitVec 32 := Scalar.remsi v100 c4_i32_122
  let c1_i32_133 : BitVec 32 := 1#32
  let v104 : BitVec 32 := Scalar.muli v101 c1_i32_133
  let v105 : BitVec 32 := Scalar.addi c0_i32_134 v104
  v105.toNat
def k0_dev11 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_121 : BitVec 32 := 1#32
  let v100 : BitVec 32 := Scalar.addi v2 c1_i32_121
  let c4_i32_122 : BitVec 32 := 4#32
  let v101 : BitVec 32 := Scalar.remsi v100 c4_i32_122
  let c1_i32_149 : BitVec 32 := 1#32
  let v115 : BitVec 32 := Scalar.muli v101 c1_i32_149
  let v116 : BitVec 32 := Scalar.addi c0_i32_150 v115
  v116.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_154 : BitVec 32 := 2#32
  let v124 : BitVec 32 := Scalar.addi v2 c2_i32_154
  let c4_i32_155 : BitVec 32 := 4#32
  let v125 : BitVec 32 := Scalar.remsi v124 c4_i32_155
  let c1_i32_167 : BitVec 32 := 1#32
  let v128 : BitVec 32 := Scalar.muli v125 c1_i32_167
  let v129 : BitVec 32 := Scalar.addi c0_i32_168 v128
  v129.toNat
def k0_dev13 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_154 : BitVec 32 := 2#32
  let v124 : BitVec 32 := Scalar.addi v2 c2_i32_154
  let c4_i32_155 : BitVec 32 := 4#32
  let v125 : BitVec 32 := Scalar.remsi v124 c4_i32_155
  let c1_i32_183 : BitVec 32 := 1#32
  let v139 : BitVec 32 := Scalar.muli v125 c1_i32_183
  let v140 : BitVec 32 := Scalar.addi c0_i32_184 v139
  v140.toNat
def k0_dev14 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_188 : BitVec 32 := 3#32
  let v148 : BitVec 32 := Scalar.addi v2 c3_i32_188
  let c4_i32_189 : BitVec 32 := 4#32
  let v149 : BitVec 32 := Scalar.remsi v148 c4_i32_189
  let c1_i32_201 : BitVec 32 := 1#32
  let v152 : BitVec 32 := Scalar.muli v149 c1_i32_201
  let v153 : BitVec 32 := Scalar.addi c0_i32_202 v152
  v153.toNat
def k0_dev15 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_188 : BitVec 32 := 3#32
  let v148 : BitVec 32 := Scalar.addi v2 c3_i32_188
  let c4_i32_189 : BitVec 32 := 4#32
  let v149 : BitVec 32 := Scalar.remsi v148 c4_i32_189
  let c1_i32_217 : BitVec 32 := 1#32
  let v163 : BitVec 32 := Scalar.muli v149 c1_i32_217
  let v164 : BitVec 32 := Scalar.addi c0_i32_218 v163
  v164.toNat
def k0_off2 (d0 : Dev nD) (c1_i32_229 : BitVec 32) (c0_i32_232 : BitVec 32) : Fin 2 → Nat :=
  let c128_i32_246 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v184 : BitVec 32 := Scalar.addi v2 c1_i32_229
  let c4_i32_230 : BitVec 32 := 4#32
  let v185 : BitVec 32 := Scalar.remsi v184 c4_i32_230
  let c256_i32_231 : BitVec 32 := 256#32
  let v186 : BitVec 32 := Scalar.muli v185 c256_i32_231
  let v187 : BitVec 32 := Scalar.addi v186 c0_i32_232
  ![128, v187.toNat]
def k0_dev16 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_229 : BitVec 32 := 1#32
  let v184 : BitVec 32 := Scalar.addi v2 c1_i32_229
  let c4_i32_230 : BitVec 32 := 4#32
  let v185 : BitVec 32 := Scalar.remsi v184 c4_i32_230
  let c1_i32_242 : BitVec 32 := 1#32
  let v188 : BitVec 32 := Scalar.muli v185 c1_i32_242
  let v189 : BitVec 32 := Scalar.addi c0_i32_243 v188
  v189.toNat
def k0_dev17 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_229 : BitVec 32 := 1#32
  let v184 : BitVec 32 := Scalar.addi v2 c1_i32_229
  let c4_i32_230 : BitVec 32 := 4#32
  let v185 : BitVec 32 := Scalar.remsi v184 c4_i32_230
  let c1_i32_258 : BitVec 32 := 1#32
  let v199 : BitVec 32 := Scalar.muli v185 c1_i32_258
  let v200 : BitVec 32 := Scalar.addi c0_i32_259 v199
  v200.toNat
def k0_dev18 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_263 : BitVec 32 := 2#32
  let v208 : BitVec 32 := Scalar.addi v2 c2_i32_263
  let c4_i32_264 : BitVec 32 := 4#32
  let v209 : BitVec 32 := Scalar.remsi v208 c4_i32_264
  let c1_i32_276 : BitVec 32 := 1#32
  let v212 : BitVec 32 := Scalar.muli v209 c1_i32_276
  let v213 : BitVec 32 := Scalar.addi c0_i32_277 v212
  v213.toNat
def k0_dev19 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_263 : BitVec 32 := 2#32
  let v208 : BitVec 32 := Scalar.addi v2 c2_i32_263
  let c4_i32_264 : BitVec 32 := 4#32
  let v209 : BitVec 32 := Scalar.remsi v208 c4_i32_264
  let c1_i32_292 : BitVec 32 := 1#32
  let v223 : BitVec 32 := Scalar.muli v209 c1_i32_292
  let v224 : BitVec 32 := Scalar.addi c0_i32_293 v223
  v224.toNat
def k0_dev20 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_297 : BitVec 32 := 3#32
  let v232 : BitVec 32 := Scalar.addi v2 c3_i32_297
  let c4_i32_298 : BitVec 32 := 4#32
  let v233 : BitVec 32 := Scalar.remsi v232 c4_i32_298
  let c1_i32_310 : BitVec 32 := 1#32
  let v236 : BitVec 32 := Scalar.muli v233 c1_i32_310
  let v237 : BitVec 32 := Scalar.addi c0_i32_311 v236
  v237.toNat
def k0_dev21 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_297 : BitVec 32 := 3#32
  let v232 : BitVec 32 := Scalar.addi v2 c3_i32_297
  let c4_i32_298 : BitVec 32 := 4#32
  let v233 : BitVec 32 := Scalar.remsi v232 c4_i32_298
  let c1_i32_326 : BitVec 32 := 1#32
  let v247 : BitVec 32 := Scalar.muli v233 c1_i32_326
  let v248 : BitVec 32 := Scalar.addi c0_i32_327 v247
  v248.toNat
def k0_dev22 (d0 : Dev nD) : Nat :=
  let c0_i32_345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_331 : BitVec 32 := 1#32
  let v256 : BitVec 32 := Scalar.addi v2 c1_i32_331
  let c4_i32_332 : BitVec 32 := 4#32
  let v257 : BitVec 32 := Scalar.remsi v256 c4_i32_332
  let c1_i32_344 : BitVec 32 := 1#32
  let v260 : BitVec 32 := Scalar.muli v257 c1_i32_344
  let v261 : BitVec 32 := Scalar.addi c0_i32_345 v260
  v261.toNat
def k0_dev23 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_331 : BitVec 32 := 1#32
  let v256 : BitVec 32 := Scalar.addi v2 c1_i32_331
  let c4_i32_332 : BitVec 32 := 4#32
  let v257 : BitVec 32 := Scalar.remsi v256 c4_i32_332
  let c1_i32_360 : BitVec 32 := 1#32
  let v271 : BitVec 32 := Scalar.muli v257 c1_i32_360
  let v272 : BitVec 32 := Scalar.addi c0_i32_361 v271
  v272.toNat
def k0_dev24 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_365 : BitVec 32 := 2#32
  let v280 : BitVec 32 := Scalar.addi v2 c2_i32_365
  let c4_i32_366 : BitVec 32 := 4#32
  let v281 : BitVec 32 := Scalar.remsi v280 c4_i32_366
  let c1_i32_378 : BitVec 32 := 1#32
  let v284 : BitVec 32 := Scalar.muli v281 c1_i32_378
  let v285 : BitVec 32 := Scalar.addi c0_i32_379 v284
  v285.toNat
def k0_dev25 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_365 : BitVec 32 := 2#32
  let v280 : BitVec 32 := Scalar.addi v2 c2_i32_365
  let c4_i32_366 : BitVec 32 := 4#32
  let v281 : BitVec 32 := Scalar.remsi v280 c4_i32_366
  let c1_i32_394 : BitVec 32 := 1#32
  let v295 : BitVec 32 := Scalar.muli v281 c1_i32_394
  let v296 : BitVec 32 := Scalar.addi c0_i32_395 v295
  v296.toNat
def k0_dev26 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_399 : BitVec 32 := 3#32
  let v304 : BitVec 32 := Scalar.addi v2 c3_i32_399
  let c4_i32_400 : BitVec 32 := 4#32
  let v305 : BitVec 32 := Scalar.remsi v304 c4_i32_400
  let c1_i32_412 : BitVec 32 := 1#32
  let v308 : BitVec 32 := Scalar.muli v305 c1_i32_412
  let v309 : BitVec 32 := Scalar.addi c0_i32_413 v308
  v309.toNat
def k0_dev27 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_399 : BitVec 32 := 3#32
  let v304 : BitVec 32 := Scalar.addi v2 c3_i32_399
  let c4_i32_400 : BitVec 32 := 4#32
  let v305 : BitVec 32 := Scalar.remsi v304 c4_i32_400
  let c1_i32_428 : BitVec 32 := 1#32
  let v319 : BitVec 32 := Scalar.muli v305 c1_i32_428
  let v320 : BitVec 32 := Scalar.addi c0_i32_429 v319
  v320.toNat
def k0_off3 (d0 : Dev nD) : Fin 2 → Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_433 : BitVec 32 := 256#32
  let v328 : BitVec 32 := Scalar.muli v2 c256_i32_433
  ![0, v328.toNat]
def k0_dev28 (d0 : Dev nD) : Nat :=
  let c0_i32_883 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_873 : BitVec 32 := 1#32
  let v682 : BitVec 32 := Scalar.addi v2 c1_i32_873
  let c4_i32_874 : BitVec 32 := 4#32
  let v683 : BitVec 32 := Scalar.remsi v682 c4_i32_874
  let c1_i32_882 : BitVec 32 := 1#32
  let v684 : BitVec 32 := Scalar.muli v683 c1_i32_882
  let v685 : BitVec 32 := Scalar.addi c0_i32_883 v684
  v685.toNat
def k0_dev29 (d0 : Dev nD) : Nat :=
  let c0_i32_898 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_888 : BitVec 32 := 2#32
  let v694 : BitVec 32 := Scalar.addi v2 c2_i32_888
  let c4_i32_889 : BitVec 32 := 4#32
  let v695 : BitVec 32 := Scalar.remsi v694 c4_i32_889
  let c1_i32_897 : BitVec 32 := 1#32
  let v696 : BitVec 32 := Scalar.muli v695 c1_i32_897
  let v697 : BitVec 32 := Scalar.addi c0_i32_898 v696
  v697.toNat
def k0_dev30 (d0 : Dev nD) : Nat :=
  let c0_i32_913 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_903 : BitVec 32 := 3#32
  let v706 : BitVec 32 := Scalar.addi v2 c3_i32_903
  let c4_i32_904 : BitVec 32 := 4#32
  let v707 : BitVec 32 := Scalar.remsi v706 c4_i32_904
  let c1_i32_912 : BitVec 32 := 1#32
  let v708 : BitVec 32 := Scalar.muli v707 c1_i32_912
  let v709 : BitVec 32 := Scalar.addi c0_i32_913 v708
  v709.toNat
def k0_dev31 (d0 : Dev nD) : Nat :=
  let c0_i32_1330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1320 : BitVec 32 := 1#32
  let v1010 : BitVec 32 := Scalar.addi v2 c1_i32_1320
  let c4_i32_1321 : BitVec 32 := 4#32
  let v1011 : BitVec 32 := Scalar.remsi v1010 c4_i32_1321
  let c1_i32_1329 : BitVec 32 := 1#32
  let v1012 : BitVec 32 := Scalar.muli v1011 c1_i32_1329
  let v1013 : BitVec 32 := Scalar.addi c0_i32_1330 v1012
  v1013.toNat
def k0_dev32 (d0 : Dev nD) : Nat :=
  let c0_i32_1345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1335 : BitVec 32 := 2#32
  let v1022 : BitVec 32 := Scalar.addi v2 c2_i32_1335
  let c4_i32_1336 : BitVec 32 := 4#32
  let v1023 : BitVec 32 := Scalar.remsi v1022 c4_i32_1336
  let c1_i32_1344 : BitVec 32 := 1#32
  let v1024 : BitVec 32 := Scalar.muli v1023 c1_i32_1344
  let v1025 : BitVec 32 := Scalar.addi c0_i32_1345 v1024
  v1025.toNat
def k0_dev33 (d0 : Dev nD) : Nat :=
  let c0_i32_1360 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1350 : BitVec 32 := 3#32
  let v1034 : BitVec 32 := Scalar.addi v2 c3_i32_1350
  let c4_i32_1351 : BitVec 32 := 4#32
  let v1035 : BitVec 32 := Scalar.remsi v1034 c4_i32_1351
  let c1_i32_1359 : BitVec 32 := 1#32
  let v1036 : BitVec 32 := Scalar.muli v1035 c1_i32_1359
  let v1037 : BitVec 32 := Scalar.addi c0_i32_1360 v1036
  v1037.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S2x128x1024 : Shape := ⟨3, ![2, 128, 1024]⟩
abbrev S2x128x16x64 : Shape := ⟨4, ![2, 128, 16, 64]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S_ : Shape := ⟨0, ![]⟩
abbrev S2x16x128x512 : Shape := ⟨4, ![2, 16, 128, 512]⟩
abbrev S1x1x128x512 : Shape := ⟨4, ![1, 1, 128, 512]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 67
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x512x16x64, .f32⟩
  | .hbm, ⟨3, _⟩ => ⟨S2x512x16x64, .f32⟩
  | .hbm, ⟨4, _⟩ => ⟨S1024x512, .f32⟩
  | .hbm, ⟨5, _⟩ => ⟨S2x128x1024, .f32⟩
  | .hbm, ⟨6, _⟩ => ⟨S2x128x16x64, .f32⟩
  | .hbm, ⟨7, _⟩ => ⟨S128, .i32⟩
  | .hbm, ⟨8, _⟩ => ⟨S128x1, .i32⟩
  | .hbm, ⟨9, _⟩ => ⟨S512, .i32⟩
  | .hbm, ⟨10, _⟩ => ⟨S1x512, .i32⟩
  | .hbm, ⟨11, _⟩ => ⟨S128x512, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S_, .i32⟩
  | .hbm, ⟨16, _⟩ => ⟨S128x512, .i32⟩
  | .hbm, ⟨17, _⟩ => ⟨S128x512, .i1⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x512, .i1⟩
  | .hbm, ⟨25, _⟩ => ⟨S128x512, .i1⟩
  | .hbm, ⟨26, _⟩ => ⟨S128x512, .i1⟩
  | .hbm, ⟨27, _⟩ => ⟨S128x512, .i1⟩
  | .hbm, ⟨28, _⟩ => ⟨S2x16x128x512, .f32⟩
  | .hbm, ⟨29, _⟩ => ⟨S_, .f32⟩
  | .hbm, ⟨30, _⟩ => ⟨S2x16x128x512, .f32⟩
  | .hbm, ⟨31, _⟩ => ⟨S2x16x128x512, .f32⟩
  | .hbm, ⟨32, _⟩ => ⟨S1x1x128x512, .i1⟩
  | .hbm, ⟨33, _⟩ => ⟨S_, .f32⟩
  | .hbm, ⟨34, _⟩ => ⟨S_, .f32⟩
  | .hbm, ⟨35, _⟩ => ⟨S2x16x128x512, .i1⟩
  | .hbm, ⟨36, _⟩ => ⟨S2x16x128x512, .f32⟩
  | .hbm, ⟨37, _⟩ => ⟨S2x16x128x512, .f32⟩
  | .hbm, ⟨38, _⟩ => ⟨S_, .f32⟩
  | .hbm, ⟨39, _⟩ => ⟨S2x16x128, .f32⟩
  | .hbm, ⟨40, _⟩ => ⟨S2x16x128x1, .f32⟩
  | .hbm, ⟨41, _⟩ => ⟨S2x16x128x512, .f32⟩
  | .hbm, ⟨42, _⟩ => ⟨S2x16x128x512, .f32⟩
  | .hbm, ⟨43, _⟩ => ⟨S2x16x128x512, .f32⟩
  | .hbm, ⟨44, _⟩ => ⟨S_, .i1⟩
  | .hbm, ⟨45, _⟩ => ⟨S128, .i1⟩
  | .hbm, ⟨46, _⟩ => ⟨S1x1x128x1, .i1⟩
  | .hbm, ⟨47, _⟩ => ⟨S_, .f32⟩
  | .hbm, ⟨48, _⟩ => ⟨S2x16x128, .f32⟩
  | .hbm, ⟨49, _⟩ => ⟨S2x16x128x1, .f32⟩
  | .hbm, ⟨50, _⟩ => ⟨S_, .f32⟩
  | .hbm, ⟨51, _⟩ => ⟨S_, .f32⟩
  | .hbm, ⟨52, _⟩ => ⟨S2x16x128x1, .i1⟩
  | .hbm, ⟨53, _⟩ => ⟨S2x16x128x1, .f32⟩
  | .hbm, ⟨54, _⟩ => ⟨S2x16x128x1, .f32⟩
  | .hbm, ⟨55, _⟩ => ⟨S2x16x128x512, .f32⟩
  | .hbm, ⟨56, _⟩ => ⟨S2x16x128x512, .f32⟩
  | .hbm, ⟨57, _⟩ => ⟨S1x1x128x1, .i1⟩
  | .hbm, ⟨58, _⟩ => ⟨S_, .f32⟩
  | .hbm, ⟨59, _⟩ => ⟨S_, .f32⟩
  | .hbm, ⟨60, _⟩ => ⟨S2x16x128x512, .i1⟩
  | .hbm, ⟨61, _⟩ => ⟨S2x16x128x512, .f32⟩
  | .hbm, ⟨62, _⟩ => ⟨S2x16x128x512, .f32⟩
  | .hbm, ⟨63, _⟩ => ⟨S2x16x64x128, .f32⟩
  | .hbm, ⟨64, _⟩ => ⟨S2x128x16x64, .f32⟩
  | .hbm, ⟨65, _⟩ => ⟨S2x128x1024, .f32⟩
  | .hbm, ⟨66, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Cells.lean ====
/-
# The links of the kernel: who sends what to whom, on which semaphore

Every device sends each of its three peers the head columns the peer owns, of its keys and of its values, in
four tiles each (two batches, two pairs of heads): twenty-four transfers. Later it sends each peer its part of the
output, a batch at a time: six more. This module numbers the transfers in the order the program starts and waits
for them, names their semaphores, the memory they read and write, and what that memory holds.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pointwise.Index
public import Idealize.ShloMosaic.Lib.Tactic

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

/-- The peer at distance `d + 1` around the mesh. -/
def peer (c : Dev nD) (d : Fin 3) : Dev nD := ⟨(c.val + d.val + 1) % 4, Nat.mod_lt _ (by decide)⟩
/-- The device whose peer at distance `d + 1` is `c`. -/
def orig (c : Dev nD) (d : Fin 3) : Dev nD := ⟨(c.val + 3 - d.val) % 4, Nat.mod_lt _ (by decide)⟩
/-- The distance at which the signal back travels. -/
def back (d : Fin 3) : Fin 3 := ⟨2 - d.val, by omega⟩
/-- The device `t` places further round the mesh. -/
def turn (c : Dev nD) (t : ℕ) : Dev nD := ⟨(c.val + t) % 4, Nat.mod_lt _ (by decide)⟩

theorem peer_orig (c : Dev nD) (d : Fin 3) : peer (orig c d) d = c := by revert c d; decide
theorem orig_peer (c : Dev nD) (d : Fin 3) : orig (peer c d) d = c := by revert c d; decide
theorem peer_back (c : Dev nD) (d : Fin 3) : peer (peer c d) (back d) = c := by revert c d; decide
theorem orig_eq_peer (c : Dev nD) (d : Fin 3) : orig c d = peer c (back d) := by revert c d; decide
theorem back_back (d : Fin 3) : back (back d) = d := by revert d; decide
theorem peer_ne (c : Dev nD) (d : Fin 3) : peer c d ≠ c := by revert c d; decide
theorem peer_inj (c : Dev nD) (d d' : Fin 3) (h : peer c d = peer c d') : d = d' := by revert c d d'; decide

/-- The devices, moved by the distance `d + 1`. -/
def rot (d : Fin 3) : Dev nD ≃ Dev nD := ⟨fun c => peer c d, fun c => orig c d, fun c => orig_peer c d, fun c => peer_orig c d⟩

/-! ## The transfers of keys and values, and those of the output parts -/

/-- A transfer of a tile of the keys (last coordinate 0) or of the values (1): batch, pair of heads, distance, which. -/
abbrev KV := Fin 2 × Fin 2 × Fin 3 × Fin 2
/-- A transfer of one batch of the output part: batch, distance. -/
abbrev AR := Fin 2 × Fin 3

/-- The place of a transfer of keys or values in the program's order. -/
def kvOrd (j : KV) : ℕ := j.1.val * 12 + j.2.1.val * 6 + j.2.2.1.val * 2 + j.2.2.2.val
/-- The place of a transfer of an output part. -/
def arOrd (a : AR) : ℕ := a.1.val * 3 + a.2.val

theorem kvOrd_inj (j j' : KV) (h : kvOrd j = kvOrd j') : j = j' := by
  obtain ⟨b, p, d, e⟩ := j; obtain ⟨b', p', d', e'⟩ := j'
  simp only [kvOrd] at h
  have := b.isLt; have := p.isLt; have := d.isLt; have := e.isLt
  have := b'.isLt; have := p'.isLt; have := d'.isLt; have := e'.isLt
  simp only [Prod.mk.injEq, Fin.ext_iff]; omega
theorem kvOrd_lt (j : KV) : kvOrd j < 24 := by
  obtain ⟨b, p, d, e⟩ := j; simp only [kvOrd]; omega
theorem arOrd_inj (j j' : AR) (h : arOrd j = arOrd j') : j = j' := by
  obtain ⟨b, d⟩ := j; obtain ⟨b', d'⟩ := j'
  simp only [arOrd] at h
  simp only [Prod.mk.injEq, Fin.ext_iff]; omega
theorem arOrd_lt (j : AR) : arOrd j < 6 := by obtain ⟨b, d⟩ := j; simp only [arOrd]; omega

/-! ## Semaphores -/

/-- The sender's semaphore of a transfer. -/
def kvSnd (j : KV) : DmaSem sig := ⟨6 + (j.2.2.2.val * 12 + j.2.2.1.val * 4 + j.1.val * 2 + j.2.1.val), by
  obtain ⟨b, p, d, e⟩ := j; show 6 + (e.val * 12 + d.val * 4 + b.val * 2 + p.val) < 68; omega⟩
/-- The receiver's. -/
def kvRcv (j : KV) : DmaSem sig := ⟨30 + (j.2.2.2.val * 12 + (2 - j.2.2.1.val) * 4 + j.1.val * 2 + j.2.1.val), by
  obtain ⟨b, p, d, e⟩ := j; show 30 + (e.val * 12 + (2 - d.val) * 4 + b.val * 2 + p.val) < 68; omega⟩
/-- The semaphore of a device's copy of its own columns. -/
def locS (e : Fin 2) : DmaSem sig := ⟨54 + e.val, by show 54 + e.val < 68; omega⟩
def arSnd (a : AR) : DmaSem sig := ⟨56 + (a.2.val * 2 + a.1.val), by
  obtain ⟨b, d⟩ := a; show 56 + (d.val * 2 + b.val) < 68; omega⟩
def arRcv (a : AR) : DmaSem sig := ⟨62 + ((2 - a.2.val) * 2 + a.1.val), by
  obtain ⟨b, d⟩ := a; show 62 + ((2 - d.val) * 2 + b.val) < 68; omega⟩

/-- What a DMA semaphore of the kernel is for. -/
inductive Role where
  | snd (j : KV) | rcv (j : KV) | loc (e : Fin 2) | asnd (a : AR) | arcv (a : AR) | stage
deriving DecidableEq

/-- The role of the DMA semaphore numbered `q`. -/
def role (q : DmaSem sig) : Role :=
  if q.val < 6 then .stage
  else if q.val < 30 then
    .snd (⟨(q.val - 6) / 2 % 2, by omega⟩, ⟨(q.val - 6) % 2, by omega⟩, ⟨(q.val - 6) / 4 % 3, by omega⟩, ⟨(q.val - 6) / 12 % 2, by omega⟩)
  else if q.val < 54 then
    .rcv (⟨(q.val - 30) / 2 % 2, by omega⟩, ⟨(q.val - 30) % 2, by omega⟩, ⟨2 - (q.val - 30) / 4 % 3, by omega⟩, ⟨(q.val - 30) / 12 % 2, by omega⟩)
  else if q.val < 56 then .loc ⟨(q.val - 54) % 2, by omega⟩
  else if q.val < 62 then .asnd (⟨(q.val - 56) % 2, by omega⟩, ⟨(q.val - 56) / 2 % 3, by omega⟩)
  else .arcv (⟨(q.val - 62) % 2, by omega⟩, ⟨2 - (q.val - 62) / 2 % 3, by omega⟩)

theorem role_snd (j : KV) : role (kvSnd j) = .snd j := by revert j; decide
theorem role_rcv (j : KV) : role (kvRcv j) = .rcv j := by revert j; decide
theorem role_loc (e : Fin 2) : role (locS e) = .loc e := by revert e; decide
theorem role_asnd (a : AR) : role (arSnd a) = .asnd a := by revert a; decide
theorem role_arcv (a : AR) : role (arRcv a) = .arcv a := by revert a; decide

/-! ## Boxes of indices -/

/-- The indices whose every coordinate lies in the `size` places from `off`. -/
def bx {s : Shape} (off size : Fin s.rank → ℕ) : Finset s.Idx :=
  Finset.univ.filter fun i => ∀ a, off a ≤ (i a).val ∧ (i a).val < off a + size a

theorem mem_bx {s : Shape} {off size : Fin s.rank → ℕ} {i : s.Idx} :
    i ∈ bx off size ↔ ∀ a, off a ≤ (i a).val ∧ (i a).val < off a + size a := by
  unfold bx; rw [Finset.mem_filter]; exact ⟨fun h => h.2, fun h => ⟨Finset.mem_univ _, h⟩⟩

theorem unit_set {s : Shape} (off size : Fin s.rank → ℕ) (h) : (Rect.unit (s := s) off size h).set = bx off size := by
  ext i
  rw [LoadRect.mem_set, mem_bx]
  refine forall_congr' fun a => ?_
  constructor
  · rintro ⟨j, hj, e⟩
    have e' : (i a : ℕ) = off a + 1 * j := e
    have hj' : j < size a := hj
    omega
  · rintro ⟨h1, h2⟩
    exact ⟨i a - off a, (show (i a : ℕ) - off a < size a by omega), (show (i a : ℕ) = off a + 1 * (i a - off a) by omega)⟩

end Cert.KernelIdealRun

end
-- ==== Proof.Sched.lean ====
/-
# The schedule: what each semaphore's units hand over

A device's barrier counter takes one unit from each peer, and with the unit the memory that peer's transfers will
land in. The sender's semaphore of a transfer hands the source tile back, the receiver's hands over the landed tile at
the contents the sender's keys, values or output part had. The contents are functions of all devices' arrays.
-/
module

public import proofs.«01_k».proof.Proof.Cells

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of one round: three on the barrier counter, one per peer; one on every DMA semaphore. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The scratch buffers -/

abbrev k16M : Memref sig .tc .vmem S256x1024 .bf16 := Memref.whole cc0_scratch0
abbrev v16M : Memref sig .tc .vmem S256x1024 .bf16 := Memref.whole cc0_scratch1
abbrev kallM : Memref sig .tc .vmem S4x256x256 .bf16 := Memref.whole cc0_scratch2
abbrev vallM : Memref sig .tc .vmem S4x256x256 .bf16 := Memref.whole cc0_scratch3
abbrev partM : Memref sig .tc .vmem S2x128x512 .bf16 := Memref.whole cc0_scratch4
abbrev accM : Memref sig .tc .vmem S3x2x128x512 .bf16 := Memref.whole cc0_scratch5

/-- What a transfer of a tile, of a device's own columns, and of an output part puts on a semaphore. -/
def NT : ℕ := (kallM.slice (Rect.unit (s := S4x256x256) ![0, 0, 0] S1x128x128.size inb_S4x256x256_S1x128x128_0_0_0) (fun _ => rfl)).view.dmaCredit
def NL : ℕ := (kallM.slice (Rect.unit (s := S4x256x256) ![0, 0, 0] S1x256x256.size inb_S4x256x256_S1x256x256_0_0_0) (fun _ => rfl)).view.dmaCredit
def NA : ℕ := (accM.slice (Rect.unit (s := S3x2x128x512) ![0, 0, 0, 0] S1x1x128x512.size inb_S3x2x128x512_S1x1x128x512_0_0_0_0) (fun _ => rfl)).view.dmaCredit
theorem NT_pos : 0 < NT := View.dmaCredit_pos _ (by decide)
theorem NL_pos : 0 < NL := View.dmaCredit_pos _ (by decide)
theorem NA_pos : 0 < NA := View.dmaCredit_pos _ (by decide)

/-! ## What the buffers hold -/

/-- The devices' converted keys and values, and their output parts. -/
structure Held (F : FTy → Type) where
  k16 : Dev nD → S256x1024.Idx → Elt F .bf16
  v16 : Dev nD → S256x1024.Idx → Elt F .bf16
  part : Dev nD → S2x128x512.Idx → Elt F .bf16

/-- Slot `s` of what a device gathers: its own head columns of what device `c + s` converted. -/
def gath (x : Dev nD → S256x1024.Idx → Elt F .bf16) (c : Dev nD) : S4x256x256.Idx → Elt F .bf16 := fun i =>
  x (turn c (i 0).val) (ix2 (n0 := 256) (n1 := 1024) (i 1)
    ⟨256 * c.val + (i 2).val, by have h1 : (i 2).val < 256 := (i 2).isLt; have h2 : c.val < 4 := c.isLt; omega⟩)
/-- Slot `s` of the output parts a device receives: that of device `c + s + 1`. -/
def accOf (x : Dev nD → S2x128x512.Idx → Elt F .bf16) (c : Dev nD) : S3x2x128x512.Idx → Elt F .bf16 := fun i =>
  x (turn c ((i 0).val + 1)) (ix3 (n0 := 2) (n1 := 128) (n2 := 512) (i 1) (i 2) (i 3))

/-! ## Tiles -/

/-- The source of a transfer of keys or values, on the sender `c`. -/
def srcSet (c : Dev nD) (b p : Fin 2) (d : Fin 3) : Finset S256x1024.Idx :=
  bx ![128 * b.val, 256 * (peer c d).val + 128 * p.val] ![128, 128]
/-- The columns a device keeps. -/
def ownSet (c : Dev nD) : Finset S256x1024.Idx := bx ![0, 256 * c.val] ![256, 256]
/-- Where a transfer lands. -/
def dstSet (b p : Fin 2) (d : Fin 3) : Finset S4x256x256.Idx :=
  bx ![3 - d.val, 128 * b.val, 128 * p.val] ![1, 128, 128]
def slot0 : Finset S4x256x256.Idx := bx ![0, 0, 0] ![1, 256, 256]
def partSet (b : Fin 2) : Finset S2x128x512.Idx := bx ![b.val, 0, 0] ![1, 128, 512]
def accSet (b : Fin 2) (d : Fin 3) : Finset S3x2x128x512.Idx := bx ![2 - d.val, b.val, 0, 0] ![1, 1, 128, 512]

/-- The share of a device's output part that each of its three transfers carries. -/
def shr : Fin 3 → PosShare TreeShare
  | 0 => fullShare.left
  | 1 => fullShare.right.left
  | 2 => fullShare.right.right

variable (T : Held F)

/-- The source tile of a transfer, as its sender holds it. -/
def kvSrc (c : Dev nD) (j : KV) : sProp 𝕄 :=
  if j.2.2.2 = 0 then iprop((c : Thread nD τ).loc cc0_scratch0 ↦[srcSet c j.1 j.2.1 j.2.2.1]{fullShare} T.k16 c)
  else iprop((c : Thread nD τ).loc cc0_scratch1 ↦[srcSet c j.1 j.2.1 j.2.2.1]{fullShare} T.v16 c)
/-- The landing tile of a transfer on its receiver `c`, whatever it holds. -/
def kvLand (c : Dev nD) (j : KV) : sProp 𝕄 :=
  if j.2.2.2 = 0 then iprop(∃ f, (c : Thread nD τ).loc cc0_scratch2 ↦[dstSet j.1 j.2.1 j.2.2.1]{fullShare} f)
  else iprop(∃ f, (c : Thread nD τ).loc cc0_scratch3 ↦[dstSet j.1 j.2.1 j.2.2.1]{fullShare} f)
/-- The same once the transfer has landed. -/
def kvGot (c : Dev nD) (j : KV) : sProp 𝕄 :=
  if j.2.2.2 = 0 then iprop((c : Thread nD τ).loc cc0_scratch2 ↦[dstSet j.1 j.2.1 j.2.2.1]{fullShare} gath T.k16 c)
  else iprop((c : Thread nD τ).loc cc0_scratch3 ↦[dstSet j.1 j.2.1 j.2.2.1]{fullShare} gath T.v16 c)
/-- What a device's copy of its own columns gives back: slot 0 filled, and the columns. -/
def locPay (c : Dev nD) (e : Fin 2) : sProp 𝕄 :=
  if e = 0 then iprop(((c : Thread nD τ).loc cc0_scratch2 ↦[slot0]{fullShare} gath T.k16 c)
      ∗ (c : Thread nD τ).loc cc0_scratch0 ↦[ownSet c]{fullShare} T.k16 c)
  else iprop(((c : Thread nD τ).loc cc0_scratch3 ↦[slot0]{fullShare} gath T.v16 c)
      ∗ (c : Thread nD τ).loc cc0_scratch1 ↦[ownSet c]{fullShare} T.v16 c)
def arSrc (c : Dev nD) (a : AR) : sProp 𝕄 :=
  iprop((c : Thread nD τ).loc cc0_scratch4 ↦[partSet a.1]{shr a.2} T.part c)
def arLand (c : Dev nD) (a : AR) : sProp 𝕄 :=
  iprop(∃ f, (c : Thread nD τ).loc cc0_scratch5 ↦[accSet a.1 a.2]{fullShare} f)
def arGot (c : Dev nD) (a : AR) : sProp 𝕄 :=
  iprop((c : Thread nD τ).loc cc0_scratch5 ↦[accSet a.1 a.2]{fullShare} accOf T.part c)

instance kvSrc_storable (c : Dev nD) (j : KV) : BI.Storable (upEmb : UEmb _ 𝕄) (kvSrc T c j) := by unfold kvSrc; split <;> infer_instance
instance kvLand_storable (c : Dev nD) (j : KV) : BI.Storable (upEmb : UEmb _ 𝕄) (kvLand (F := F) c j) := by unfold kvLand; split <;> infer_instance
instance kvGot_storable (c : Dev nD) (j : KV) : BI.Storable (upEmb : UEmb _ 𝕄) (kvGot T c j) := by unfold kvGot; split <;> infer_instance
instance locPay_storable (c : Dev nD) (e : Fin 2) : BI.Storable (upEmb : UEmb _ 𝕄) (locPay T c e) := by unfold locPay; split <;> infer_instance
instance arSrc_storable (c : Dev nD) (a : AR) : BI.Storable (upEmb : UEmb _ 𝕄) (arSrc T c a) := by unfold arSrc; infer_instance
instance arLand_storable (c : Dev nD) (a : AR) : BI.Storable (upEmb : UEmb _ 𝕄) (arLand (F := F) c a) := by unfold arLand; infer_instance
instance arGot_storable (c : Dev nD) (a : AR) : BI.Storable (upEmb : UEmb _ 𝕄) (arGot T c a) := by unfold arGot; infer_instance

/-! ## The cells -/

abbrev barS : Sem sig := (SemArray.scalar (sig.barrier 0 rfl) : Sems sig S_).sem
abbrev bcell (c : Dev nD) : GSem nD τ sig := ((c : Thread nD τ), .reg barS)
abbrev dcell (c : Dev nD) (q : DmaSem sig) : GSem nD τ sig := ((c : Thread nD τ), .dma q)

/-- A device lets a transfer land on it: its landing tile, and that the receiving cell's round is open. -/
def kvGift (c : Dev nD) (j : KV) : sProp 𝕄 := iprop(kvLand c j ∗ reached ER (dcell c (kvRcv j)) 0)
def arGift (c : Dev nD) (a : AR) : sProp 𝕄 := iprop(arLand c a ∗ reached ER (dcell c (arRcv a)) 0)

/-- Paid to device `c`'s barrier counter by its peer at distance `d + 1`: every tile `c`'s transfers over that distance land in. -/
def barPay (c : Dev nD) (d : Fin 3) : sProp 𝕄 :=
  iprop((bigSep Finset.univ fun x : Fin 2 × Fin 2 × Fin 2 => kvGift (peer c d) (x.1, x.2.1, d, x.2.2))
    ∗ bigSep Finset.univ fun b : Fin 2 => arGift (peer c d) (b, d))

/-- The units of a DMA semaphore, by its role. -/
def amt : Role → ℕ
  | .snd _ => NT | .rcv _ => NT | .loc _ => NL | .asnd _ => NA | .arcv _ => NA | .stage => 1
theorem amt_pos (r : Role) : 0 < amt r := by
  cases r <;> first | exact NT_pos | exact NL_pos | exact NA_pos | exact Nat.one_pos

/-- What they hand over. -/
def dmaPay (c : Dev nD) : Role → sProp 𝕄
  | .snd j => kvSrc T c j
  | .rcv j => kvGot T c j
  | .loc e => locPay T c e
  | .asnd a => arSrc T c a
  | .arcv a => arGot T c a
  | .stage => iprop(emp)

def rd : Rounds.Schedule (GSem nD τ sig) (Fin 3) 𝕄 where
  duties g r := if r = 0 ∧ g.1.2 = .tc then (match g.2 with | .reg _ => Finset.univ | .dma q => if 6 ≤ q.val then {0} else ∅) else ∅
  unitless _ := False
  amount g _ _ := match g.2 with | .reg _ => 1 | .dma q => amt (role q)
  payload g _ d := match g.2 with | .reg _ => barPay g.1.1 d | .dma q => dmaPay T g.1.1 (role q)
  amount_pos g r d _ := by
    cases h : g.2 with
    | reg s => exact Nat.one_pos
    | dma q => exact amt_pos _

instance barPay_storable (c : Dev nD) (d : Fin 3) : BI.Storable (upEmb : UEmb _ 𝕄) (barPay (F := F) c d) := by
  unfold barPay kvGift arGift; infer_instance

instance rd_payload_storable (g : GSem nD τ sig) (r : ℕ) (d : Fin 3) :
    BI.Storable (upEmb : UEmb _ 𝕄) ((rd T).payload g r d) := by
  rcases g with ⟨⟨c, p⟩, s⟩
  cases s with
  | reg s => show BI.Storable upEmb (barPay (F := F) c d); infer_instance
  | dma q =>
    show BI.Storable upEmb (dmaPay T c (role q))
    cases h : role q <;> (dsimp only [dmaPay]; infer_instance)

section
variable (c : Dev nD)

theorem duties_bar : (rd T).duties (bcell c) 0 = Finset.univ := by dsimp only [rd]; exact if_pos ⟨rfl, rfl⟩
theorem duties_dma (q : DmaSem sig) (h : 6 ≤ q.val) : (rd T).duties (dcell c q) 0 = {0} := by
  dsimp only [rd]; rw [if_pos ⟨rfl, rfl⟩, if_pos h]
theorem duties_later (g : GSem nD τ sig) : ∀ r, 1 ≤ r → (rd T).duties g r = ∅ := fun r hr => by
  dsimp only [rd]; exact if_neg fun h => by omega
theorem expect_bar : (rd T).expect (bcell c) 0 = 3 := by
  unfold Schedule.expect Schedule.amountOf; rw [duties_bar]; rfl
theorem expect_dma (q : DmaSem sig) (h : 6 ≤ q.val) : (rd T).expect (dcell c q) 0 = amt (role q) := by
  unfold Schedule.expect Schedule.amountOf; rw [duties_dma T c q h, Finset.sum_singleton]; rfl
theorem rest_bar : bigSep ((rd T).duties (bcell c) 0 \ ∅) (fun d => (rd T).payload (bcell c) 0 d) = bigSep Finset.univ fun d => barPay c d := by
  rw [Finset.sdiff_empty, duties_bar]; rfl
theorem rest_dma (q : DmaSem sig) (h : 6 ≤ q.val) :
    bigSep ((rd T).duties (dcell c q) 0 \ ∅) (fun d => (rd T).payload (dcell c q) 0 d) = dmaPay T c (role q) := by
  rw [Finset.sdiff_empty, duties_dma T c q h, bigSep_singleton]; rfl
end

theorem six_snd (j : KV) : 6 ≤ (kvSnd j).val := by revert j; decide
theorem six_rcv (j : KV) : 6 ≤ (kvRcv j).val := by revert j; decide
theorem six_loc (e : Fin 2) : 6 ≤ (locS e).val := by revert e; decide
theorem six_asnd (j : AR) : 6 ≤ (arSnd j).val := by revert j; decide
theorem six_arcv (j : AR) : 6 ≤ (arRcv j).val := by revert j; decide

/-! ## Levels and what is owed -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier counters at 1, the receiving semaphores of keys and values at 2, those of the output parts at 3, all
    others at 0. -/
def lvl : SemLoc sig → ℕ
  | .reg _ => 1
  | .dma q => match role q with | .rcv _ => 2 | .arcv _ => 3 | _ => 0
def lv (g : GSem nD τ sig) (_ : Unit) : ℕ := lvl g.2

/-- What device `c` owes of the transfers from the `i`-th on. -/
def owedKV (c : Dev nD) (i : ℕ) : CellTallies nD τ sig Unit :=
  ∑ j ∈ Finset.univ.filter (fun j : KV => i ≤ kvOrd j), tallyAt (dcell (peer c j.2.2.1) (kvRcv j)) () NT
def owedAR (c : Dev nD) (i : ℕ) : CellTallies nD τ sig Unit :=
  ∑ a ∈ Finset.univ.filter (fun a : AR => i ≤ arOrd a), tallyAt (dcell (peer c a.2) (arRcv a)) () NA
/-- What it owes before the signals of the distances from `i` on. -/
def owedB (c : Dev nD) (i : ℕ) : CellTallies nD τ sig Unit :=
  ∑ d ∈ Finset.univ.filter (fun d : Fin 3 => i ≤ d.val), tallyAt (bcell (peer c d)) () 1

/-- The owed sum over the places from `i` on is that over those from `i + 1` on and the one at `i`. -/
theorem sum_from {J : Type} [Fintype J] [DecidableEq J] (ord : J → ℕ) (hinj : ∀ j j', ord j = ord j' → j = j')
    {A : Type} [AddCommMonoid A] (f : J → A) (j : J) :
    ∑ x ∈ Finset.univ.filter (fun x => ord j ≤ ord x), f x = ∑ x ∈ Finset.univ.filter (fun x => ord j + 1 ≤ ord x), f x + f j := by
  rw [add_comm, ← Finset.sum_insert (by simp)]
  congr 1
  ext x
  simp only [Finset.mem_filter, Finset.mem_univ, true_and, Finset.mem_insert]
  constructor
  · intro h
    rcases Nat.eq_or_lt_of_le h with e | e
    · exact Or.inl (hinj _ _ e.symm)
    · exact Or.inr e
  · rintro (rfl | h)
    · exact le_rfl
    · omega

theorem owedKV_step (c : Dev nD) (j : KV) :
    owedKV c (kvOrd j) = owedKV c (kvOrd j + 1) + tallyAt (dcell (peer c j.2.2.1) (kvRcv j)) () NT :=
  sum_from kvOrd kvOrd_inj _ j
theorem owedAR_step (c : Dev nD) (a : AR) :
    owedAR c (arOrd a) = owedAR c (arOrd a + 1) + tallyAt (dcell (peer c a.2) (arRcv a)) () NA :=
  sum_from arOrd arOrd_inj _ a
theorem owedB_step (c : Dev nD) (d : Fin 3) :
    owedB c d.val = owedB c (d.val + 1) + tallyAt (bcell (peer c d)) () 1 :=
  sum_from (fun d : Fin 3 => d.val) (fun _ _ h => Fin.ext h) _ d

theorem owedKV_done (c : Dev nD) : owedKV c 24 = 0 := by
  unfold owedKV; rw [Finset.filter_false_of_mem, Finset.sum_empty]
  intro j _ h; have := kvOrd_lt j; omega
theorem owedAR_done (c : Dev nD) : owedAR c 6 = 0 := by
  unfold owedAR; rw [Finset.filter_false_of_mem, Finset.sum_empty]
  intro j _ h; have := arOrd_lt j; omega
theorem owedB_done (c : Dev nD) : owedB c 3 = 0 := by
  unfold owedB; rw [Finset.filter_false_of_mem, Finset.sum_empty]
  intro j _ h; have := j.isLt; omega

theorem owed_pos_of_sum {J : Type} (S : Finset J) (cell : J → GSem nD τ sig) (n : ℕ) (g : GSem nD τ sig) (u : Unit)
    (h : 0 < (∑ j ∈ S, tallyAt (cell j) () n : CellTallies nD τ sig Unit) g u) : ∃ j ∈ S, g = cell j := by
  classical
  by_contra hc
  push Not at hc
  have : (∑ j ∈ S, tallyAt (cell j) () n : CellTallies nD τ sig Unit) g u = 0 := by
    rw [Finset.sum_apply, Finsupp.finset_sum_apply]
    refine Finset.sum_eq_zero fun j hj => ?_
    rw [tallyAt_apply, if_neg fun e => hc j hj e.1]
  omega

/-- All that is owed at a moment sits on a device's core, at level at least 1; after the barrier at least 2; once the keys and values
    are sent, at least 3. -/
def owed (c : Dev nD) (n i k : ℕ) : CellTallies nD τ sig Unit := owedKV c i + owedAR c k + owedB c n

theorem owed_pos {c : Dev nD} {n i k : ℕ} {g : GSem nD τ sig} {u : Unit} (h : 0 < owed c n i k g u) :
    g.1.2 = .tc ∧ ((n < 3 ∧ lv g u = 1) ∨ (i < 24 ∧ lv g u = 2) ∨ (k < 6 ∧ lv g u = 3)) := by
  unfold owed at h
  rw [Pi.add_apply, Pi.add_apply, Finsupp.add_apply, Finsupp.add_apply] at h
  have : 0 < owedKV c i g u ∨ 0 < owedAR c k g u ∨ 0 < owedB c n g u := by omega
  rcases this with h | h | h
  · obtain ⟨j, hj, rfl⟩ := owed_pos_of_sum _ _ _ _ _ h
    have := (Finset.mem_filter.mp hj).2
    have := kvOrd_lt j
    refine ⟨rfl, Or.inr (Or.inl ⟨by omega, ?_⟩)⟩
    dsimp only [lv, lvl]; rw [role_rcv]
  · obtain ⟨j, hj, rfl⟩ := owed_pos_of_sum _ _ _ _ _ h
    have := (Finset.mem_filter.mp hj).2
    have := arOrd_lt j
    refine ⟨rfl, Or.inr (Or.inr ⟨by omega, ?_⟩)⟩
    dsimp only [lv, lvl]; rw [role_arcv]
  · obtain ⟨j, hj, rfl⟩ := owed_pos_of_sum _ _ _ _ _ h
    have := (Finset.mem_filter.mp hj).2
    have := j.isLt
    exact ⟨rfl, Or.inl ⟨by omega, rfl⟩⟩

/-- A wait on a cell whose level is below everything still owed. -/
theorem mayWait (c : Dev nD) (sm : SemLoc sig) (n i k : ℕ)
    (hb : n < 3 → lvl sm < 1) (hkv : i < 24 → lvl sm < 2) (har : k < 6 → lvl sm < 3) :
    (levAts L lv : sProp 𝕄) ⊢ MayWait (c : Thread nD τ) sm () (owed c n i k) :=
  MayOwe.of_cut (L := L) (lev := lv) (lvl sm) (fun p hp => by rw [Finset.mem_singleton.mp hp, L_tc]; exact Finset.mem_singleton_self _)
    (fun g u hg => by
      have h := (owed_pos hg).1
      unfold L; rw [if_pos h]; exact Finset.mem_singleton_self _)
    (fun p hp => by rw [Finset.mem_singleton.mp hp]; exact le_rfl)
    (fun g u hg => by
      rcases (owed_pos hg).2 with ⟨h1, h2⟩ | ⟨h1, h2⟩ | ⟨h1, h2⟩
      · rw [h2]; exact hb h1
      · rw [h2]; exact hkv h1
      · rw [h2]; exact har h1)

end Cert.KernelIdealRun

end
-- ==== Proof.Land.lean ====
/-
# What a landed transfer holds

Where a transfer's destination, read through its squeezed slice, meets its source, and that the tile it writes is the one
the gathered keys, values and output parts have there.
-/
module

public import proofs.«01_k».proof.Proof.Sched

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem squeeze_tile (h : S128x128.numel = S1x128x128.numel) (y : S128x128.Idx) :
    Shape.reshapeEquiv h y = ix3 (n0 := 1) (n1 := 128) (n2 := 128) ⟨0, Nat.one_pos⟩ (y 0) (y 1) := by
  refine (Shape.reshapeEquiv_cons_one h y).trans (funext fun a => ?_)
  fin_cases a <;> rfl
theorem squeeze_own (h : S256x256.numel = S1x256x256.numel) (y : S256x256.Idx) :
    Shape.reshapeEquiv h y = ix3 (n0 := 1) (n1 := 256) (n2 := 256) ⟨0, Nat.one_pos⟩ (y 0) (y 1) := by
  refine (Shape.reshapeEquiv_cons_one h y).trans (funext fun a => ?_)
  fin_cases a <;> rfl
theorem squeeze_part (h : S128x512.numel = S1x128x512.numel) (y : S128x512.Idx) :
    Shape.reshapeEquiv h y = ix3 (n0 := 1) (n1 := 128) (n2 := 512) ⟨0, Nat.one_pos⟩ (y 0) (y 1) := by
  refine (Shape.reshapeEquiv_cons_one h y).trans (funext fun a => ?_)
  fin_cases a <;> rfl
theorem squeeze_acc (h : S128x512.numel = S1x1x128x512.numel) (y : S128x512.Idx) :
    Shape.reshapeEquiv h y = ix4 (n0 := 1) (n1 := 1) (n2 := 128) (n3 := 512) ⟨0, Nat.one_pos⟩ ⟨0, Nat.one_pos⟩ (y 0) (y 1) := by
  have h1 : S128x512.numel = S1x128x512.numel := by decide +kernel
  have h2 : S1x128x512.numel = S1x1x128x512.numel := by decide +kernel
  rw [← Shape.reshapeEquiv_reshapeEquiv h2 h1, squeeze_part h1]
  refine (Shape.reshapeEquiv_cons_one h2 _).trans (funext fun a => ?_)
  fin_cases a <;> rfl

theorem ksrc_set (c : Dev nD) (b p : Fin 2) (d : Fin 3) (off h pf) (ho : off = ![128 * b.val, 256 * (peer c d).val + 128 * p.val]) :
    (k16M.slice (Rect.unit (s := S256x1024) off S128x128.size h) pf).view.set = srcSet c b p d := by
  subst ho
  show ((View.whole cc0_scratch0).slice _).set = _
  rw [View.set_slice_whole, unit_set]; rfl
theorem kdst_set (b p : Fin 2) (d : Fin 3) (off h pf sq) (ho : off = ![3 - d.val, 128 * b.val, 128 * p.val]) :
    ((kallM.slice (Rect.unit (s := S4x256x256) off S1x128x128.size h) pf).squeeze S128x128 sq).view.set = dstSet b p d := by
  subst ho
  show (((View.whole cc0_scratch2).slice _).reshape S128x128 _).set = _
  rw [View.set_reshape, View.set_slice_whole, unit_set]; rfl
theorem kown_set (c : Dev nD) (off h pf) (ho : off = ![0, 256 * c.val]) :
    (k16M.slice (Rect.unit (s := S256x1024) off S256x256.size h) pf).view.set = ownSet c := by
  subst ho
  show ((View.whole cc0_scratch0).slice _).set = _
  rw [View.set_slice_whole, unit_set]; rfl
theorem kslot0_set (off h pf sq) (ho : off = ![0, 0, 0]) :
    ((kallM.slice (Rect.unit (s := S4x256x256) off S1x256x256.size h) pf).squeeze S256x256 sq).view.set = slot0 := by
  subst ho
  show (((View.whole cc0_scratch2).slice _).reshape S256x256 _).set = _
  rw [View.set_reshape, View.set_slice_whole, unit_set]; rfl

/-- A transferred tile is the receiver's gathered one. -/
theorem land_k (x : Dev nD → S256x1024.Idx → Elt F .bf16) (c : Dev nD) (b p : Fin 2) (d : Fin 3) (offS hS pfS offD hD pfD sq)
    (hoS : offS = ![128 * b.val, 256 * (peer c d).val + 128 * p.val]) (hoD : offD = ![3 - d.val, 128 * b.val, 128 * p.val])
    (fd : S4x256x256.Idx → Elt F .bf16) : ∀ i ∈ dstSet b p d,
    (((kallM.slice (Rect.unit (s := S4x256x256) offD S1x128x128.size hD) pfD).squeeze S128x128 sq).view.write (Elt F) fd
      ((k16M.slice (Rect.unit (s := S256x1024) offS S128x128.size hS) pfS).view.read (Elt F) (x c)) Finset.univ) i = gath x (peer c d) i := by
  intro i hi
  rw [← kdst_set b p d offD hD pfD sq hoD] at hi
  obtain ⟨y, -, rfl⟩ := Finset.mem_map.mp hi
  rw [View.write_emb_of_mem (h := Finset.mem_univ y)]
  subst hoS hoD
  show x c ((Rect.unit (s := S256x1024) _ S128x128.size hS).emb y)
    = gath x (peer c d) ((Rect.unit (s := S4x256x256) _ S1x128x128.size hD).emb (Shape.reshapeEquiv _ y))
  rw [squeeze_tile]
  have hb := b.isLt; have hp := p.isLt; have hd := d.isLt; have hc : c.val < 4 := c.isLt
  unfold gath
  congr 1
  · refine (Fin.ext ?_ : _ = c).symm
    show ((c.val + d.val + 1) % 4 + (3 - d.val + 1 * 0)) % 4 = c.val
    omega
  · funext a
    fin_cases a <;> refine Fin.ext ?_
    · rfl
    · show 256 * (peer c d).val + 128 * p.val + 1 * (y 1).val = 256 * (peer c d).val + (128 * p.val + 1 * (y 1).val)
      omega
/-- A device's copy of its own columns is slot 0 of what it gathers. -/
theorem land_own_k (x : Dev nD → S256x1024.Idx → Elt F .bf16) (c : Dev nD) (offS hS pfS offD hD pfD sq)
    (hoS : offS = ![0, 256 * c.val]) (hoD : offD = ![0, 0, 0])
    (fd : S4x256x256.Idx → Elt F .bf16) : ∀ i ∈ slot0,
    (((kallM.slice (Rect.unit (s := S4x256x256) offD S1x256x256.size hD) pfD).squeeze S256x256 sq).view.write (Elt F) fd
      ((k16M.slice (Rect.unit (s := S256x1024) offS S256x256.size hS) pfS).view.read (Elt F) (x c)) Finset.univ) i = gath x c i := by
  intro i hi
  rw [← kslot0_set offD hD pfD sq hoD] at hi
  obtain ⟨y, -, rfl⟩ := Finset.mem_map.mp hi
  rw [View.write_emb_of_mem (h := Finset.mem_univ y)]
  subst hoS hoD
  show x c ((Rect.unit (s := S256x1024) _ S256x256.size hS).emb y)
    = gath x c ((Rect.unit (s := S4x256x256) _ S1x256x256.size hD).emb (Shape.reshapeEquiv _ y))
  rw [squeeze_own]
  have hc : c.val < 4 := c.isLt
  unfold gath
  congr 1
  · refine (Fin.ext ?_ : _ = c).symm
    show (c.val + (0 + 1 * 0)) % 4 = c.val
    omega
  · funext a
    fin_cases a <;> refine Fin.ext ?_
    · rfl
    · show 256 * c.val + 1 * (y 1).val = 256 * c.val + (0 + 1 * (y 1).val)
      omega

theorem vsrc_set (c : Dev nD) (b p : Fin 2) (d : Fin 3) (off h pf) (ho : off = ![128 * b.val, 256 * (peer c d).val + 128 * p.val]) :
    (v16M.slice (Rect.unit (s := S256x1024) off S128x128.size h) pf).view.set = srcSet c b p d := by
  subst ho
  show ((View.whole cc0_scratch1).slice _).set = _
  rw [View.set_slice_whole, unit_set]; rfl
theorem vdst_set (b p : Fin 2) (d : Fin 3) (off h pf sq) (ho : off = ![3 - d.val, 128 * b.val, 128 * p.val]) :
    ((vallM.slice (Rect.unit (s := S4x256x256) off S1x128x128.size h) pf).squeeze S128x128 sq).view.set = dstSet b p d := by
  subst ho
  show (((View.whole cc0_scratch3).slice _).reshape S128x128 _).set = _
  rw [View.set_reshape, View.set_slice_whole, unit_set]; rfl
theorem vown_set (c : Dev nD) (off h pf) (ho : off = ![0, 256 * c.val]) :
    (v16M.slice (Rect.unit (s := S256x1024) off S256x256.size h) pf).view.set = ownSet c := by
  subst ho
  show ((View.whole cc0_scratch1).slice _).set = _
  rw [View.set_slice_whole, unit_set]; rfl
theorem vslot0_set (off h pf sq) (ho : off = ![0, 0, 0]) :
    ((vallM.slice (Rect.unit (s := S4x256x256) off S1x256x256.size h) pf).squeeze S256x256 sq).view.set = slot0 := by
  subst ho
  show (((View.whole cc0_scratch3).slice _).reshape S256x256 _).set = _
  rw [View.set_reshape, View.set_slice_whole, unit_set]; rfl

/-- A transferred tile is the receiver's gathered one. -/
theorem land_v (x : Dev nD → S256x1024.Idx → Elt F .bf16) (c : Dev nD) (b p : Fin 2) (d : Fin 3) (offS hS pfS offD hD pfD sq)
    (hoS : offS = ![128 * b.val, 256 * (peer c d).val + 128 * p.val]) (hoD : offD = ![3 - d.val, 128 * b.val, 128 * p.val])
    (fd : S4x256x256.Idx → Elt F .bf16) : ∀ i ∈ dstSet b p d,
    (((vallM.slice (Rect.unit (s := S4x256x256) offD S1x128x128.size hD) pfD).squeeze S128x128 sq).view.write (Elt F) fd
      ((v16M.slice (Rect.unit (s := S256x1024) offS S128x128.size hS) pfS).view.read (Elt F) (x c)) Finset.univ) i = gath x (peer c d) i := by
  intro i hi
  rw [← vdst_set b p d offD hD pfD sq hoD] at hi
  obtain ⟨y, -, rfl⟩ := Finset.mem_map.mp hi
  rw [View.write_emb_of_mem (h := Finset.mem_univ y)]
  subst hoS hoD
  show x c ((Rect.unit (s := S256x1024) _ S128x128.size hS).emb y)
    = gath x (peer c d) ((Rect.unit (s := S4x256x256) _ S1x128x128.size hD).emb (Shape.reshapeEquiv _ y))
  rw [squeeze_tile]
  have hb := b.isLt; have hp := p.isLt; have hd := d.isLt; have hc : c.val < 4 := c.isLt
  unfold gath
  congr 1
  · refine (Fin.ext ?_ : _ = c).symm
    show ((c.val + d.val + 1) % 4 + (3 - d.val + 1 * 0)) % 4 = c.val
    omega
  · funext a
    fin_cases a <;> refine Fin.ext ?_
    · rfl
    · show 256 * (peer c d).val + 128 * p.val + 1 * (y 1).val = 256 * (peer c d).val + (128 * p.val + 1 * (y 1).val)
      omega
/-- A device's copy of its own columns is slot 0 of what it gathers. -/
theorem land_own_v (x : Dev nD → S256x1024.Idx → Elt F .bf16) (c : Dev nD) (offS hS pfS offD hD pfD sq)
    (hoS : offS = ![0, 256 * c.val]) (hoD : offD = ![0, 0, 0])
    (fd : S4x256x256.Idx → Elt F .bf16) : ∀ i ∈ slot0,
    (((vallM.slice (Rect.unit (s := S4x256x256) offD S1x256x256.size hD) pfD).squeeze S256x256 sq).view.write (Elt F) fd
      ((v16M.slice (Rect.unit (s := S256x1024) offS S256x256.size hS) pfS).view.read (Elt F) (x c)) Finset.univ) i = gath x c i := by
  intro i hi
  rw [← vslot0_set offD hD pfD sq hoD] at hi
  obtain ⟨y, -, rfl⟩ := Finset.mem_map.mp hi
  rw [View.write_emb_of_mem (h := Finset.mem_univ y)]
  subst hoS hoD
  show x c ((Rect.unit (s := S256x1024) _ S256x256.size hS).emb y)
    = gath x c ((Rect.unit (s := S4x256x256) _ S1x256x256.size hD).emb (Shape.reshapeEquiv _ y))
  rw [squeeze_own]
  have hc : c.val < 4 := c.isLt
  unfold gath
  congr 1
  · refine (Fin.ext ?_ : _ = c).symm
    show (c.val + (0 + 1 * 0)) % 4 = c.val
    omega
  · funext a
    fin_cases a <;> refine Fin.ext ?_
    · rfl
    · show 256 * c.val + 1 * (y 1).val = 256 * c.val + (0 + 1 * (y 1).val)
      omega

theorem part_set (b : Fin 2) (off h pf sq) (ho : off = ![b.val, 0, 0]) :
    ((partM.slice (Rect.unit (s := S2x128x512) off S1x128x512.size h) pf).squeeze S128x512 sq).view.set = partSet b := by
  subst ho
  show (((View.whole cc0_scratch4).slice _).reshape S128x512 _).set = _
  rw [View.set_reshape, View.set_slice_whole, unit_set]; rfl
theorem acc_set (b : Fin 2) (d : Fin 3) (off h pf sq) (ho : off = ![2 - d.val, b.val, 0, 0]) :
    ((accM.slice (Rect.unit (s := S3x2x128x512) off S1x1x128x512.size h) pf).squeeze S128x512 sq).view.set = accSet b d := by
  subst ho
  show (((View.whole cc0_scratch5).slice _).reshape S128x512 _).set = _
  rw [View.set_reshape, View.set_slice_whole, unit_set]; rfl
/-- A transferred output part is the receiver's slot for it. -/
theorem land_acc (x : Dev nD → S2x128x512.Idx → Elt F .bf16) (c : Dev nD) (b : Fin 2) (d : Fin 3) (offS hS pfS sqS offD hD pfD sq)
    (hoS : offS = ![b.val, 0, 0]) (hoD : offD = ![2 - d.val, b.val, 0, 0])
    (fd : S3x2x128x512.Idx → Elt F .bf16) : ∀ i ∈ accSet b d,
    (((accM.slice (Rect.unit (s := S3x2x128x512) offD S1x1x128x512.size hD) pfD).squeeze S128x512 sq).view.write (Elt F) fd
      (((partM.slice (Rect.unit (s := S2x128x512) offS S1x128x512.size hS) pfS).squeeze S128x512 sqS).view.read (Elt F) (x c)) Finset.univ) i = accOf x (peer c d) i := by
  intro i hi
  rw [← acc_set b d offD hD pfD sq hoD] at hi
  obtain ⟨y, -, rfl⟩ := Finset.mem_map.mp hi
  rw [View.write_emb_of_mem (h := Finset.mem_univ y)]
  subst hoS hoD
  show x c ((Rect.unit (s := S2x128x512) _ S1x128x512.size hS).emb (Shape.reshapeEquiv _ y))
    = accOf x (peer c d) ((Rect.unit (s := S3x2x128x512) _ S1x1x128x512.size hD).emb (Shape.reshapeEquiv _ y))
  rw [squeeze_acc, squeeze_part]
  have hb := b.isLt; have hd := d.isLt; have hc : c.val < 4 := c.isLt
  unfold accOf
  congr 1
  · refine (Fin.ext ?_ : _ = c).symm
    show ((c.val + d.val + 1) % 4 + (2 - d.val + 1 * 0 + 1)) % 4 = c.val
    omega
  · funext a
    fin_cases a <;> rfl

end Cert.KernelIdealRun

end
-- ==== Proof.Comm.lean ====
/-
# The state of the communication, and its steps

A device's transfers are begun in one order and waited for in the same order, so what it holds of them is determined by
how many of each kind are begun and how many are done. Each step of the program moves one of these numbers by one.
-/
module

public import proofs.«01_k».proof.Proof.Land

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over an ordered index -/

section Family
variable {J : Type} [Fintype J] [DecidableEq J] {M : Type} [URA M]

/-- One member of a family taken out and replaced. -/
theorem fam_change (f g : J → sProp M) (j : J) (h : ∀ x, x ≠ j → f x = g x) :
    bigSep Finset.univ f ⊢ iprop(f j ∗ (g j -∗ bigSep Finset.univ g)) := by
  have h1 : bigSep Finset.univ f = iprop(f j ∗ bigSep (Finset.univ.erase j) f) := bigSep_erase (Finset.mem_univ j)
  have h2 : bigSep Finset.univ g = iprop(g j ∗ bigSep (Finset.univ.erase j) g) := bigSep_erase (Finset.mem_univ j)
  rw [h1, h2, bigSep_congr (s := Finset.univ.erase j) (Ψ := g) fun x hx => h x (Finset.ne_of_mem_erase hx)]
  iintro ⟨H1, H2⟩
  isplitl [H1]; · iexact H1
  iintro Hg
  isplitl [Hg] <;> iassumption

/-- Members before place `w` at stage `Χ`, from there to place `i` at stage `Ψ`, from there on at stage `Φ`. -/
def stage3 (ord : J → ℕ) (Φ Ψ Χ : J → sProp M) (w i : ℕ) : sProp M :=
  bigSep Finset.univ fun j => if ord j < w then Χ j else if ord j < i then Ψ j else Φ j
/-- Members before place `w` at stage `Χ`, from there on at stage `Φ`. -/
def stage2 (ord : J → ℕ) (Φ Χ : J → sProp M) (w : ℕ) : sProp M :=
  bigSep Finset.univ fun j => if ord j < w then Χ j else Φ j

variable (ord : J → ℕ) (hinj : ∀ j j', ord j = ord j' → j = j') (Φ Ψ Χ : J → sProp M)

include hinj in
theorem stage3_start (j : J) {w : ℕ} (hw : w ≤ ord j) :
    stage3 ord Φ Ψ Χ w (ord j) ⊢ iprop(Φ j ∗ (Ψ j -∗ stage3 ord Φ Ψ Χ w (ord j + 1))) := by
  unfold stage3
  refine (fam_change _ (fun x => if ord x < w then Χ x else if ord x < ord j + 1 then Ψ x else Φ x) j fun x hx => ?_).trans (Entails.of_eq ?_)
  · have hne : ord x ≠ ord j := fun h => hx (hinj _ _ h)
    by_cases h1 : ord x < w
    · rw [if_pos h1, if_pos h1]
    · rw [if_neg h1, if_neg h1]
      by_cases h2 : ord x < ord j
      · rw [if_pos h2, if_pos (by omega)]
      · rw [if_neg h2, if_neg (by omega)]
  · rw [if_neg (by omega), if_neg (by omega), if_neg (by omega), if_pos (by omega)]

include hinj in
theorem stage3_finish (j : J) {i : ℕ} (hi : ord j < i) :
    stage3 ord Φ Ψ Χ (ord j) i ⊢ iprop(Ψ j ∗ (Χ j -∗ stage3 ord Φ Ψ Χ (ord j + 1) i)) := by
  unfold stage3
  refine (fam_change _ (fun x => if ord x < ord j + 1 then Χ x else if ord x < i then Ψ x else Φ x) j fun x hx => ?_).trans (Entails.of_eq ?_)
  · have hne : ord x ≠ ord j := fun h => hx (hinj _ _ h)
    by_cases h1 : ord x < ord j
    · rw [if_pos h1, if_pos (by omega)]
    · rw [if_neg h1, if_neg (show ¬ ord x < ord j + 1 by omega)]
  · rw [if_neg (by omega), if_pos hi, if_pos (by omega)]

include hinj in
theorem stage2_finish (j : J) : stage2 ord Φ Χ (ord j) ⊢ iprop(Φ j ∗ (Χ j -∗ stage2 ord Φ Χ (ord j + 1))) := by
  unfold stage2
  refine (fam_change _ (fun x => if ord x < ord j + 1 then Χ x else Φ x) j fun x hx => ?_).trans (Entails.of_eq ?_)
  · have hne : ord x ≠ ord j := fun h => hx (hinj _ _ h)
    by_cases h1 : ord x < ord j
    · rw [if_pos h1, if_pos (by omega)]
    · rw [if_neg h1, if_neg (by omega)]
  · rw [if_neg (by omega), if_pos (by omega)]

/-- A member already at the last stage, lent. -/
theorem stage2_borrow (j : J) {w : ℕ} (hw : ord j < w) : stage2 ord Φ Χ w ⊢ iprop(Χ j ∗ (Χ j -∗ stage2 ord Φ Χ w)) := by
  unfold stage2
  refine (fam_change _ _ j fun x _ => rfl).trans (Entails.of_eq ?_)
  rw [if_pos hw]

theorem stage3_all {w i : ℕ} (hw : ∀ j, ord j < w) : stage3 ord Φ Ψ Χ w i = bigSep Finset.univ Χ := by
  unfold stage3; exact bigSep_congr fun j _ => if_pos (hw j)
theorem stage2_all {w : ℕ} (hw : ∀ j, ord j < w) : stage2 ord Φ Χ w = bigSep Finset.univ Χ := by
  unfold stage2; exact bigSep_congr fun j _ => if_pos (hw j)
theorem stage3_none : stage3 ord Φ Ψ Χ 0 0 = bigSep Finset.univ Φ := by
  unfold stage3; exact bigSep_congr fun j _ => by rw [if_neg (Nat.not_lt_zero _), if_neg (Nat.not_lt_zero _)]
theorem stage2_none : stage2 ord Φ Χ 0 = bigSep Finset.univ Φ := by
  unfold stage2; exact bigSep_congr fun j _ => if_neg (Nat.not_lt_zero _)
end Family

/-! ## The cells' invariants -/

/-- The kernel's own DMA semaphores. -/
def ownQ : Finset (DmaSem sig) := Finset.univ.filter fun q => 6 ≤ q.val
def barEmb : Dev nD ↪ GSem nD τ sig := ⟨bcell, fun _ _ h => congrArg (fun g : GSem nD τ sig => g.1.1) h⟩
def dmaEmb : Dev nD × DmaSem sig ↪ GSem nD τ sig := ⟨fun x => dcell x.1 x.2, fun x y h =>
  Prod.ext (congrArg (fun g : GSem nD τ sig => g.1.1) h) (SemLoc.dma.inj (congrArg Prod.snd h))⟩
def cellsB : Finset (GSem nD τ sig) := Finset.univ.map barEmb
def cellsD : Finset (GSem nD τ sig) := (Finset.univ ×ˢ ownQ).map dmaEmb

variable (T : Held F) (K : GSem nD τ sig → ℕ) (c : Dev nD)

/-- Every cell under its invariant. -/
def invs : sProp 𝕄 := bigSep (cellsB ∪ cellsD) fun g => cellInv ER (rd T) (K g) g
instance invs_persistent : BI.Persistent (invs T K) := by unfold invs; infer_instance

theorem invs_bar : invs T K ⊢ cellInv ER (rd T) (K (bcell c)) (bcell c) :=
  bigSep_elim (Finset.mem_union_left _ (Finset.mem_map.mpr ⟨c, Finset.mem_univ _, rfl⟩))
theorem invs_dma (q : DmaSem sig) (h : 6 ≤ q.val) : invs T K ⊢ cellInv ER (rd T) (K (dcell c q)) (dcell c q) :=
  bigSep_elim (Finset.mem_union_right _ (Finset.mem_map.mpr ⟨(c, q),
    Finset.mem_product.mpr ⟨Finset.mem_univ _, Finset.mem_filter.mpr ⟨Finset.mem_univ _, h⟩⟩, rfl⟩))

/-! ## The stages of a transfer -/

/-- Not begun: the tokens of both its units, the right to write where it lands, the place on the sender's cell. -/
def kvNew (j : KV) : sProp 𝕄 :=
  iprop(dutyTok ER (dcell c (kvSnd j)) 0 0 ∗ dutyTok ER (dcell (peer c j.2.2.1) (kvRcv j)) 0 0 ∗ kvGift (peer c j.2.2.1) j
    ∗ reached ER (dcell c (kvSnd j)) 0 ∗ atPos ER (dcell c (kvSnd j)) 0 ∅ 0)
/-- Begun. -/
def kvOut (j : KV) : sProp 𝕄 := iprop(cred (tallyAt (dcell c (kvSnd j)) () NT) ∗ atPos ER (dcell c (kvSnd j)) 0 ∅ 0)
/-- Its source is back. -/
def kvBack (j : KV) : sProp 𝕄 := iprop(semVal (dcell c (kvSnd j)) 0 ∗ kvSrc T c j)
/-- Awaited at the receiver. -/
def kvDue (j : KV) : sProp 𝕄 := iprop(atPos ER (dcell c (kvRcv j)) 0 ∅ 0 ∗ cred (tallyAt (dcell c (kvRcv j)) () NT))
/-- Landed. -/
def kvIn (j : KV) : sProp 𝕄 := iprop(semVal (dcell c (kvRcv j)) 0 ∗ kvGot T c j)
/-- Not begun: the tokens of both its units, the right to write where it lands, the place on the sender's cell. -/
def arNew (j : AR) : sProp 𝕄 :=
  iprop(dutyTok ER (dcell c (arSnd j)) 0 0 ∗ dutyTok ER (dcell (peer c j.2) (arRcv j)) 0 0 ∗ arGift (peer c j.2) j
    ∗ reached ER (dcell c (arSnd j)) 0 ∗ atPos ER (dcell c (arSnd j)) 0 ∅ 0)
/-- Begun. -/
def arOut (j : AR) : sProp 𝕄 := iprop(cred (tallyAt (dcell c (arSnd j)) () NA) ∗ atPos ER (dcell c (arSnd j)) 0 ∅ 0)
/-- Its source is back. -/
def arBack (j : AR) : sProp 𝕄 := iprop(semVal (dcell c (arSnd j)) 0 ∗ arSrc T c j)
/-- Awaited at the receiver. -/
def arDue (j : AR) : sProp 𝕄 := iprop(atPos ER (dcell c (arRcv j)) 0 ∅ 0 ∗ cred (tallyAt (dcell c (arRcv j)) () NA))
/-- Landed. -/
def arIn (j : AR) : sProp 𝕄 := iprop(semVal (dcell c (arRcv j)) 0 ∗ arGot T c j)

/-- Of keys and values, `i` transfers begun, `w` sources back, `r` landed; of output parts, `k` begun, `u` sources back,
    `v` landed. -/
def Comm (w i r u k v : ℕ) : sProp 𝕄 :=
  iprop(levAts L lv ∗ invs T K
    ∗ stage3 kvOrd (kvNew c) (kvOut c) (kvBack T c) w i ∗ stage2 kvOrd (kvDue c) (kvIn T c) r
    ∗ stage3 arOrd (arNew c) (arOut c) (arBack T c) u k ∗ stage2 arOrd (arDue c) (arIn T c) v
    ∗ ∃ W, owes (c : Thread nD τ) (owed c 3 i k) W)

/-- The sources of the transfers of batch `b` from place `i` on. -/
def Srcs (b : Fin 2) (i : ℕ) : sProp 𝕄 :=
  stage2 kvOrd (fun j => if j.1 = b then kvSrc T c j else iprop(emp)) (fun _ => iprop(emp)) i

theorem lvl_snd (j : KV) : lvl (.dma (kvSnd j)) = 0 := by dsimp only [lvl]; rw [role_snd]
theorem lvl_rcv (j : KV) : lvl (.dma (kvRcv j)) = 2 := by dsimp only [lvl]; rw [role_rcv]
theorem lvl_loc (e : Fin 2) : lvl (.dma (locS e)) = 0 := by dsimp only [lvl]; rw [role_loc]
theorem lvl_asnd (j : AR) : lvl (.dma (arSnd j)) = 0 := by dsimp only [lvl]; rw [role_asnd]
theorem lvl_arcv (j : AR) : lvl (.dma (arRcv j)) = 3 := by dsimp only [lvl]; rw [role_arcv]

abbrev 𝒱₀ : Variants := Variants.none

variable {α : Type} {Q : α → sProp (MT nD τ sig Unit (Elt F) ℕ UU ℕ)}

/-- A cell whose one round is over has its counter back at zero. -/
theorem close (κ : ℕ) (g : GSem nD τ sig) :
    iprop(cellInv ER (rd T) κ g ∗ atPos ER g (0 + 1) ∅ 0) ⊢ (|={Set.univ}=> semVal g 0 : sProp 𝕄) :=
  Rounds.cell_close ER (rd T) (Set.mem_univ κ) id (duties_later T g)

/-- A wait for the one unit of a DMA cell: what it hands over, and the counter back at zero. -/
theorem wait_dma (q : DmaSem sig) (hq : 6 ≤ q.val) {sp sp' : Space} {s s' : Shape} {e e' : EltTy} {κ' : Kind}
    {src : Memref sig .tc sp' s' e'} {dst : Memref sig κ' sp s e} {hsrc hdst} {N : ℕ} (hN : amt (role q) = N) (hcr : dst.view.dmaCredit = N)
    {O : CellTallies nD τ sig Unit} {W : Waits sig Unit} (k : PUnit → Prog (TpuEff nD τ sig (Elt F) Λ₀ .tc) α) :
    iprop(invs T K ∗ cred (tallyAt (dcell c q) () N) ∗ owes (c : Thread nD τ) O W ∗ MayWait (c : Thread nD τ) (.dma q) () O
        ∗ atPos ER (dcell c q) 0 ∅ 0)
      ⊢ iprop(((∃ W', owes (c : Thread nD τ) O W') ∗ semVal (dcell c q) 0 ∗ dmaPay T c (role q) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hN
  iintro ⟨#HI, Hc, HO, Hm, Hat⟩ Hk
  ihave HI' := (invs_dma T K c q hq) $$ HI
  icases HI' with #HI'
  rw [← hcr]
  iapply (Rounds.wp_wait_rest_token 𝒱₀ ER (rd T) (c : Thread nD τ) none (κ := K (dcell c q))
      (wpE_waitDma2_eq 𝒱₀ (c : Thread nD τ) none Set.univ) (Set.mem_univ _) () (O := O) (W := W) (R := 0) (m := 0) (T := ∅)
      ((Nat.zero_add _).trans (hcr.trans (expect_dma T c q hq).symm))) $$ [Hc HO Hm Hat]
  · isplitr; · iexact HI'
    isplitl [Hc]; · iexact Hc
    isplitl [HO]; · iexact HO
    isplitl [Hm]; · iexact Hm
    iexact Hat
  iintro ⟨HO, Hat, -, Hpay⟩
  ihave Hp := (Entails.of_eq (rest_dma T c q hq)) $$ Hpay
  imod (close T (K (dcell c q)) (dcell c q)) $$ [Hat] with Hs
  · isplitr; · iexact HI'
    iexact Hat
  iapply Hk
  isplitl [HO]; · iexists _; iexact HO
  isplitl [Hs]; · iexact Hs
  iexact Hp

/-- A transfer is begun. -/
theorem kv_start (j : KV) {i w r u m v : ℕ} (hi : kvOrd j = i) (hw : w ≤ i)
    {src dst : Memref sig .tc .vmem S128x128 .bf16} {n : Dev nD} (hn : n = peer c j.2.2.1) {ss rs : DmaSem sig} (hss : ss = kvSnd j) (hrs : rs = kvRcv j)
    {hsc : dst.view.ref.isScScratch = false} {hsrc hdst} {hsem : DmaTarget.Typed .vmem (.dma rs) (.remote (Dev.tc n) dst (.dma ss) hsc)}
    (hN : dst.view.dmaCredit = NT) (fs : Buf (Elt F) (src.view.loc (c : Thread nD τ)))
    (h1 : kvSrc T c j = iprop(src.view.loc (c : Thread nD τ) ↦[src.view.set]{fullShare} fs))
    (h2 : kvLand (F := F) (peer c j.2.2.1) j = iprop(∃ fd : Buf (Elt F) (dst.view.loc (peer c j.2.2.1 : Thread nD τ)), dst.view.loc (peer c j.2.2.1 : Thread nD τ) ↦[dst.view.set]{fullShare} fd))
    (h3 : ∀ fd, (dst.view.loc (peer c j.2.2.1 : Thread nD τ) ↦[dst.view.set]{fullShare} (dst.view.write (Elt F) fd (src.view.read (Elt F) fs) Finset.univ))
      ⊢ kvGot T (peer c j.2.2.1) j)
    (k : PUnit → Prog (TpuEff nD τ sig (Elt F) Λ₀ .tc) α) :
    iprop(Comm T K c w i r u m v ∗ kvSrc T c j) ⊢ iprop((Comm T K c w (i + 1) r u m v -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.remote (Dev.tc n) dst (.dma ss) hsc) (.dma rs) hsrc hdst hsem) k) Q) := by
  subst hi hn hss hrs
  unfold Comm
  iintro ⟨⟨#Hlev, #HI, HS, HR, HA, HB, %W, HO⟩, Hsrc⟩ Hk
  ihave HS' := (stage3_start kvOrd kvOrd_inj _ _ _ j hw) $$ HS
  icases HS' with ⟨HN, Hcl⟩
  ihave HN' := (Entails.of_eq (show kvNew c j = iprop(dutyTok ER (dcell c (kvSnd j)) 0 0 ∗ dutyTok ER (dcell (peer c j.2.2.1) (kvRcv j)) 0 0
    ∗ (kvLand (peer c j.2.2.1) j ∗ reached ER (dcell (peer c j.2.2.1) (kvRcv j)) 0) ∗ reached ER (dcell c (kvSnd j)) 0 ∗ atPos ER (dcell c (kvSnd j)) 0 ∅ 0) from rfl)) $$ HN
  icases HN' with ⟨Ht1, Ht2, ⟨Hl, #Hr2⟩, #Hr1, Hat⟩
  ihave Hsrc' := (Entails.of_eq h1) $$ Hsrc
  ihave Hl' := (Entails.of_eq h2) $$ Hl
  icases Hl' with ⟨%fd, Hl⟩
  ihave HI1 := (invs_dma T K c (kvSnd j) (six_snd j)) $$ HI
  icases HI1 with #HI1
  ihave HI2 := (invs_dma T K (peer c j.2.2.1) (kvRcv j) (six_rcv j)) $$ HI
  icases HI2 with #HI2
  iapply (Rounds.wp_send_pointsTo 𝒱₀ ER (rd T) (c : Thread nD τ) none (c' := (peer c j.2.2.1 : Thread nD τ)) (src := src) (dst := dst)
      (sS := .dma (kvSnd j)) (sem := .dma (kvRcv j)) (q := fullShare) (fs := fs) (κ₁ := K (dcell c (kvSnd j))) (κ₂ := K (dcell (peer c j.2.2.1) (kvRcv j)))
      (r₁ := 0) (r₂ := 0) (d₁ := 0) (d₂ := 0) (fd := fd)
      (by rw [duties_dma T c _ (six_snd j)]; exact Finset.mem_singleton_self _)
      (by rw [duties_dma T (peer c j.2.2.1) _ (six_rcv j)]; exact Finset.mem_singleton_self _)
      () () NT hN (by show amt (role (kvSnd j)) = NT; rw [role_snd]; rfl) (by show amt (role (kvRcv j)) = NT; rw [role_rcv]; rfl)
      (O₀ := owed c 3 (kvOrd j) m) (owed c 3 (kvOrd j + 1) m)
      (by unfold owed; rw [owedKV_step, add_right_comm (owedKV c (kvOrd j + 1)) _ (owedAR c m), add_right_comm _ _ (owedB c 3)]) (W := W)
      (by show _ ⊢ dmaPay T c (role (kvSnd j)); rw [role_snd]; exact Entails.of_eq h1.symm)
      (by show _ ⊢ dmaPay T (peer c j.2.2.1) (role (kvRcv j)); rw [role_rcv]; exact h3 fd)) $$ [Hsrc' Hl HO Ht1 Ht2]
  · isplitr; · iexact HI1
    isplitr; · iexact HI2
    isplitl [Hsrc']; · iexact Hsrc'
    isplitl [Hl]; · iexact Hl
    isplitl [HO]; · iexact HO
    isplitl [Ht1]; · iexact Ht1
    isplitr; · iexact Hr1
    isplitl [Ht2]; · iexact Ht2
    iexact Hr2
  iintro ⟨Hc, HO⟩
  iapply Hk
  isplitr; · iexact Hlev
  isplitr; · iexact HI
  isplitl [Hc Hat Hcl]
  · iapply Hcl
    unfold kvOut
    isplitl [Hc] <;> iassumption
  isplitl [HR]; · iexact HR
  isplitl [HA]; · iexact HA
  isplitl [HB]; · iexact HB
  iexists W; iexact HO

/-- The wait for a transfer's source. -/
theorem kv_back (j : KV) {w i r u m v : ℕ} (hj : kvOrd j = w) (hw : w < i)
    {sp sp' : Space} {s s' : Shape} {e e' : EltTy} {κ' : Kind} {src : Memref sig .tc sp' s' e'} {dst : Memref sig κ' sp s e} {hsrc hdst}
    {q : DmaSem sig} (hq : q = kvSnd j) (hN : dst.view.dmaCredit = NT) (k : PUnit → Prog (TpuEff nD τ sig (Elt F) Λ₀ .tc) α) :
    Comm T K c w i r u m v ⊢ iprop((Comm T K c (w + 1) i r u m v -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst hsrc hdst) k) Q) := by
  subst hj hq
  unfold Comm
  iintro ⟨#Hlev, #HI, HS, HR, HA, HB, %W, HO⟩ Hk
  ihave HS' := (stage3_finish kvOrd kvOrd_inj _ _ _ j hw) $$ HS
  icases HS' with ⟨HN, Hcl⟩
  unfold kvOut
  icases HN with ⟨Hc, Hat⟩
  iapply (wait_dma T K c (kvSnd j) (six_snd j) (by rw [role_snd]; rfl) hN) $$ [Hc HO Hat]
  · isplitr; · iexact HI
    isplitl [Hc]; · iexact Hc
    isplitl [HO]; · iexact HO
    isplitr
    · iapply (mayWait c (.dma (kvSnd j)) 3 i m (by omega) (by rw [lvl_snd]; omega) (by rw [lvl_snd]; omega)); iexact Hlev
    iexact Hat
  rw [role_snd]
  dsimp only [dmaPay]
  iintro ⟨HO, Hs, Hp⟩
  iapply Hk
  isplitr; · iexact Hlev
  isplitr; · iexact HI
  isplitl [Hs Hp Hcl]
  · iapply Hcl
    unfold kvBack
    isplitl [Hs]; · iexact Hs
    iexact Hp
  isplitl [HR]; · iexact HR
  isplitl [HA]; · iexact HA
  isplitl [HB]; · iexact HB
  iexact HO

/-- The wait for a transfer's landing. -/
theorem kv_land (j : KV) {w r u m v : ℕ} (hj : kvOrd j = r)
    {sp sp' : Space} {s s' : Shape} {e e' : EltTy} {κ' : Kind} {src : Memref sig .tc sp' s' e'} {dst : Memref sig κ' sp s e} {hsrc hdst}
    {q : DmaSem sig} (hq : q = kvRcv j) (hN : dst.view.dmaCredit = NT) (k : PUnit → Prog (TpuEff nD τ sig (Elt F) Λ₀ .tc) α) :
    Comm T K c w 24 r u m v ⊢ iprop((Comm T K c w 24 (r + 1) u m v -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst hsrc hdst) k) Q) := by
  subst hj hq
  unfold Comm
  iintro ⟨#Hlev, #HI, HS, HR, HA, HB, %W, HO⟩ Hk
  ihave HS' := (stage2_finish kvOrd kvOrd_inj _ _ j) $$ HR
  icases HS' with ⟨HN, Hcl⟩
  unfold kvDue
  icases HN with ⟨Hat, Hc⟩
  iapply (wait_dma T K c (kvRcv j) (six_rcv j) (by rw [role_rcv]; rfl) hN) $$ [Hc HO Hat]
  · isplitr; · iexact HI
    isplitl [Hc]; · iexact Hc
    isplitl [HO]; · iexact HO
    isplitr
    · iapply (mayWait c (.dma (kvRcv j)) 3 24 m (by omega) (by omega) (by rw [lvl_rcv]; omega)); iexact Hlev
    iexact Hat
  rw [role_rcv]
  dsimp only [dmaPay]
  iintro ⟨HO, Hs, Hp⟩
  iapply Hk
  isplitr; · iexact Hlev
  isplitr; · iexact HI
  isplitl [HS]; · iexact HS
  isplitl [Hs Hp Hcl]
  · iapply Hcl
    unfold kvIn
    isplitl [Hs]; · iexact Hs
    iexact Hp
  isplitl [HA]; · iexact HA
  isplitl [HB]; · iexact HB
  iexact HO

/-- A transfer is begun. -/
theorem ar_start (j : AR) {i w r u m v : ℕ} (hi : arOrd j = i) (hw : u ≤ i)
    {src dst : Memref sig .tc .vmem S128x512 .bf16} {n : Dev nD} (hn : n = peer c j.2) {ss rs : DmaSem sig} (hss : ss = arSnd j) (hrs : rs = arRcv j)
    {hsc : dst.view.ref.isScScratch = false} {hsrc hdst} {hsem : DmaTarget.Typed .vmem (.dma rs) (.remote (Dev.tc n) dst (.dma ss) hsc)}
    (hN : dst.view.dmaCredit = NA) (fs : Buf (Elt F) (src.view.loc (c : Thread nD τ)))
    (h1 : arSrc T c j = iprop(src.view.loc (c : Thread nD τ) ↦[src.view.set]{shr j.2} fs))
    (h2 : arLand (F := F) (peer c j.2) j = iprop(∃ fd : Buf (Elt F) (dst.view.loc (peer c j.2 : Thread nD τ)), dst.view.loc (peer c j.2 : Thread nD τ) ↦[dst.view.set]{fullShare} fd))
    (h3 : ∀ fd, (dst.view.loc (peer c j.2 : Thread nD τ) ↦[dst.view.set]{fullShare} (dst.view.write (Elt F) fd (src.view.read (Elt F) fs) Finset.univ))
      ⊢ arGot T (peer c j.2) j)
    (k : PUnit → Prog (TpuEff nD τ sig (Elt F) Λ₀ .tc) α) :
    iprop(Comm T K c w m r u i v ∗ arSrc T c j) ⊢ iprop((Comm T K c w m r u (i + 1) v -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.remote (Dev.tc n) dst (.dma ss) hsc) (.dma rs) hsrc hdst hsem) k) Q) := by
  subst hi hn hss hrs
  unfold Comm
  iintro ⟨⟨#Hlev, #HI, HS, HR, HA, HB, %W, HO⟩, Hsrc⟩ Hk
  ihave HS' := (stage3_start arOrd arOrd_inj _ _ _ j hw) $$ HA
  icases HS' with ⟨HN, Hcl⟩
  ihave HN' := (Entails.of_eq (show arNew c j = iprop(dutyTok ER (dcell c (arSnd j)) 0 0 ∗ dutyTok ER (dcell (peer c j.2) (arRcv j)) 0 0
    ∗ (arLand (peer c j.2) j ∗ reached ER (dcell (peer c j.2) (arRcv j)) 0) ∗ reached ER (dcell c (arSnd j)) 0 ∗ atPos ER (dcell c (arSnd j)) 0 ∅ 0) from rfl)) $$ HN
  icases HN' with ⟨Ht1, Ht2, ⟨Hl, #Hr2⟩, #Hr1, Hat⟩
  ihave Hsrc' := (Entails.of_eq h1) $$ Hsrc
  ihave Hl' := (Entails.of_eq h2) $$ Hl
  icases Hl' with ⟨%fd, Hl⟩
  ihave HI1 := (invs_dma T K c (arSnd j) (six_asnd j)) $$ HI
  icases HI1 with #HI1
  ihave HI2 := (invs_dma T K (peer c j.2) (arRcv j) (six_arcv j)) $$ HI
  icases HI2 with #HI2
  iapply (Rounds.wp_send_pointsTo 𝒱₀ ER (rd T) (c : Thread nD τ) none (c' := (peer c j.2 : Thread nD τ)) (src := src) (dst := dst)
      (sS := .dma (arSnd j)) (sem := .dma (arRcv j)) (q := shr j.2) (fs := fs) (κ₁ := K (dcell c (arSnd j))) (κ₂ := K (dcell (peer c j.2) (arRcv j)))
      (r₁ := 0) (r₂ := 0) (d₁ := 0) (d₂ := 0) (fd := fd)
      (by rw [duties_dma T c _ (six_asnd j)]; exact Finset.mem_singleton_self _)
      (by rw [duties_dma T (peer c j.2) _ (six_arcv j)]; exact Finset.mem_singleton_self _)
      () () NA hN (by show amt (role (arSnd j)) = NA; rw [role_asnd]; rfl) (by show amt (role (arRcv j)) = NA; rw [role_arcv]; rfl)
      (O₀ := owed c 3 m (arOrd j)) (owed c 3 m (arOrd j + 1))
      (by unfold owed; rw [owedAR_step, ← add_assoc, add_right_comm _ _ (owedB c 3)]) (W := W)
      (by show _ ⊢ dmaPay T c (role (arSnd j)); rw [role_asnd]; exact Entails.of_eq h1.symm)
      (by show _ ⊢ dmaPay T (peer c j.2) (role (arRcv j)); rw [role_arcv]; exact h3 fd)) $$ [Hsrc' Hl HO Ht1 Ht2]
  · isplitr; · iexact HI1
    isplitr; · iexact HI2
    isplitl [Hsrc']; · iexact Hsrc'
    isplitl [Hl]; · iexact Hl
    isplitl [HO]; · iexact HO
    isplitl [Ht1]; · iexact Ht1
    isplitr; · iexact Hr1
    isplitl [Ht2]; · iexact Ht2
    iexact Hr2
  iintro ⟨Hc, HO⟩
  iapply Hk
  isplitr; · iexact Hlev
  isplitr; · iexact HI
  isplitl [HS]; · iexact HS
  isplitl [HR]; · iexact HR
  isplitl [Hc Hat Hcl]
  · iapply Hcl
    unfold arOut
    isplitl [Hc] <;> iassumption
  isplitl [HB]; · iexact HB
  iexists W; iexact HO

/-- The wait for a transfer's source. -/
theorem ar_back (j : AR) {w i r u m v : ℕ} (hj : arOrd j = w) (hw : w < m)
    {sp sp' : Space} {s s' : Shape} {e e' : EltTy} {κ' : Kind} {src : Memref sig .tc sp' s' e'} {dst : Memref sig κ' sp s e} {hsrc hdst}
    {q : DmaSem sig} (hq : q = arSnd j) (hN : dst.view.dmaCredit = NA) (k : PUnit → Prog (TpuEff nD τ sig (Elt F) Λ₀ .tc) α) :
    Comm T K c u i r w m v ⊢ iprop((Comm T K c u i r (w + 1) m v -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst hsrc hdst) k) Q) := by
  subst hj hq
  unfold Comm
  iintro ⟨#Hlev, #HI, HS, HR, HA, HB, %W, HO⟩ Hk
  ihave HS' := (stage3_finish arOrd arOrd_inj _ _ _ j hw) $$ HA
  icases HS' with ⟨HN, Hcl⟩
  unfold arOut
  icases HN with ⟨Hc, Hat⟩
  iapply (wait_dma T K c (arSnd j) (six_asnd j) (by rw [role_asnd]; rfl) hN) $$ [Hc HO Hat]
  · isplitr; · iexact HI
    isplitl [Hc]; · iexact Hc
    isplitl [HO]; · iexact HO
    isplitr
    · iapply (mayWait c (.dma (arSnd j)) 3 i m (by omega) (by rw [lvl_asnd]; omega) (by rw [lvl_asnd]; omega)); iexact Hlev
    iexact Hat
  rw [role_asnd]
  dsimp only [dmaPay]
  iintro ⟨HO, Hs, Hp⟩
  iapply Hk
  isplitr; · iexact Hlev
  isplitr; · iexact HI
  isplitl [HS]; · iexact HS
  isplitl [HR]; · iexact HR
  isplitl [Hs Hp Hcl]
  · iapply Hcl
    unfold arBack
    isplitl [Hs]; · iexact Hs
    iexact Hp
  isplitl [HB]; · iexact HB
  iexact HO

/-- The wait for a transfer's landing. -/
theorem ar_land (j : AR) {w r u v : ℕ} (hj : arOrd j = r)
    {sp sp' : Space} {s s' : Shape} {e e' : EltTy} {κ' : Kind} {src : Memref sig .tc sp' s' e'} {dst : Memref sig κ' sp s e} {hsrc hdst}
    {q : DmaSem sig} (hq : q = arRcv j) (hN : dst.view.dmaCredit = NA) (k : PUnit → Prog (TpuEff nD τ sig (Elt F) Λ₀ .tc) α) :
    Comm T K c w 24 v u 6 r ⊢ iprop((Comm T K c w 24 v u 6 (r + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst hsrc hdst) k) Q) := by
  subst hj hq
  unfold Comm
  iintro ⟨#Hlev, #HI, HS, HR, HA, HB, %W, HO⟩ Hk
  ihave HS' := (stage2_finish arOrd arOrd_inj _ _ j) $$ HB
  icases HS' with ⟨HN, Hcl⟩
  unfold arDue
  icases HN with ⟨Hat, Hc⟩
  iapply (wait_dma T K c (arRcv j) (six_arcv j) (by rw [role_arcv]; rfl) hN) $$ [Hc HO Hat]
  · isplitr; · iexact HI
    isplitl [Hc]; · iexact Hc
    isplitl [HO]; · iexact HO
    isplitr
    · iapply (mayWait c (.dma (arRcv j)) 3 24 6 (by omega) (by omega) (by rw [lvl_arcv]; omega)); iexact Hlev
    iexact Hat
  rw [role_arcv]
  dsimp only [dmaPay]
  iintro ⟨HO, Hs, Hp⟩
  iapply Hk
  isplitr; · iexact Hlev
  isplitr; · iexact HI
  isplitl [HS]; · iexact HS
  isplitl [HR]; · iexact HR
  isplitl [HA]; · iexact HA
  isplitl [Hs Hp Hcl]
  · iapply Hcl
    unfold arIn
    isplitl [Hs]; · iexact Hs
    iexact Hp
  iexact HO

end Cert.KernelIdealRun

end
-- ==== Proof.Links.lean ====
/-
# The program's own transfers and its barrier

The steps of `Comm` at the memory the kernel names: tiles of the keys and the values, a device's own columns, the
output parts; then the three signals before the first transfer and the wait for the peers' signals.
-/
module

public import proofs.«01_k».proof.Proof.Comm

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (T : Held F) (K : GSem nD τ sig → ℕ) (c : Dev nD) {α : Type} {Q : α → sProp (MT nD τ sig Unit (Elt F) ℕ UU ℕ)}

/-- The source of the next transfer, taken out. -/
theorem srcs_next (j : KV) : Srcs T c j.1 (kvOrd j) ⊢ iprop(kvSrc T c j ∗ Srcs T c j.1 (kvOrd j + 1)) := by
  unfold Srcs
  iintro H
  ihave H' := (stage2_finish kvOrd kvOrd_inj _ _ j) $$ H
  icases H' with ⟨H1, H2⟩
  ihave H1' := (Entails.of_eq (if_pos rfl)) $$ H1
  isplitl [H1']; · iexact H1'
  iapply H2
  iempintro

/-- A tile of the keys is sent. -/
theorem startK (b p : Fin 2) (d : Fin 3) {i w r u m v : ℕ} (hi : kvOrd (b, p, d, 0) = i) (hw : w ≤ i)
    {n : Dev nD} (hn : n = peer c d) {ss rs : DmaSem sig} (hss : ss = kvSnd (b, p, d, 0)) (hrs : rs = kvRcv (b, p, d, 0))
    {offS hS pfS offD hD pfD sq} (hoS : offS = ![128 * b.val, 256 * (peer c d).val + 128 * p.val]) (hoD : offD = ![3 - d.val, 128 * b.val, 128 * p.val])
    {hsc hsrc hdst hsem} (k : PUnit → Prog (TpuEff nD τ sig (Elt F) Λ₀ .tc) α) :
    iprop(Comm T K c w i r u m v ∗ Srcs T c b i) ⊢ iprop((Comm T K c w (i + 1) r u m v ∗ Srcs T c b (i + 1) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (k16M.slice (Rect.unit (s := S256x1024) offS S128x128.size hS) pfS) (.remote (Dev.tc n) ((kallM.slice (Rect.unit (s := S4x256x256) offD S1x128x128.size hD) pfD).squeeze S128x128 sq) (.dma ss) hsc) (.dma rs) hsrc hdst hsem) k) Q) := by
  subst hi
  have e1 := ksrc_set c b p d offS hS pfS hoS
  have e2 := kdst_set b p d offD hD pfD sq hoD
  iintro ⟨HC, HS⟩ Hk
  ihave HS' := (srcs_next T c (b, p, d, 0)) $$ HS
  icases HS' with ⟨H1, HS⟩
  iapply (kv_start T K c (b, p, d, 0) rfl hw hn hss hrs rfl (T.k16 c)
    (by unfold kvSrc; rw [e1]; exact if_pos rfl) (by unfold kvLand; rw [e2]; exact if_pos rfl)
    (fun fd => by
      unfold kvGot; rw [e2]
      refine (Entails.of_eq (pointsTo_congr (land_k T.k16 c b p d offS hS pfS offD hD pfD sq hoS hoD fd))).trans (Entails.of_eq ?_)
      exact (if_pos rfl).symm) k) $$ [HC H1]
  · isplitl [HC]; · iexact HC
    iexact H1
  iintro HC
  iapply Hk
  isplitl [HC]; · iexact HC
  iexact HS

/-- A tile of the values is sent. -/
theorem startV (b p : Fin 2) (d : Fin 3) {i w r u m v : ℕ} (hi : kvOrd (b, p, d, 1) = i) (hw : w ≤ i)
    {n : Dev nD} (hn : n = peer c d) {ss rs : DmaSem sig} (hss : ss = kvSnd (b, p, d, 1)) (hrs : rs = kvRcv (b, p, d, 1))
    {offS hS pfS offD hD pfD sq} (hoS : offS = ![128 * b.val, 256 * (peer c d).val + 128 * p.val]) (hoD : offD = ![3 - d.val, 128 * b.val, 128 * p.val])
    {hsc hsrc hdst hsem} (k : PUnit → Prog (TpuEff nD τ sig (Elt F) Λ₀ .tc) α) :
    iprop(Comm T K c w i r u m v ∗ Srcs T c b i) ⊢ iprop((Comm T K c w (i + 1) r u m v ∗ Srcs T c b (i + 1) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (v16M.slice (Rect.unit (s := S256x1024) offS S128x128.size hS) pfS) (.remote (Dev.tc n) ((vallM.slice (Rect.unit (s := S4x256x256) offD S1x128x128.size hD) pfD).squeeze S128x128 sq) (.dma ss) hsc) (.dma rs) hsrc hdst hsem) k) Q) := by
  subst hi
  have e1 := vsrc_set c b p d offS hS pfS hoS
  have e2 := vdst_set b p d offD hD pfD sq hoD
  iintro ⟨HC, HS⟩ Hk
  ihave HS' := (srcs_next T c (b, p, d, 1)) $$ HS
  icases HS' with ⟨H1, HS⟩
  iapply (kv_start T K c (b, p, d, 1) rfl hw hn hss hrs rfl (T.v16 c)
    (by unfold kvSrc; rw [e1]; exact if_neg (show ¬ (1 : Fin 2) = 0 by decide)) (by unfold kvLand; rw [e2]; exact if_neg (show ¬ (1 : Fin 2) = 0 by decide))
    (fun fd => by
      unfold kvGot; rw [e2]
      refine (Entails.of_eq (pointsTo_congr (land_v T.v16 c b p d offS hS pfS offD hD pfD sq hoS hoD fd))).trans (Entails.of_eq ?_)
      exact (if_neg (show ¬ (1 : Fin 2) = 0 by decide)).symm) k) $$ [HC H1]
  · isplitl [HC]; · iexact HC
    iexact H1
  iintro HC
  iapply Hk
  isplitl [HC]; · iexact HC
  iexact HS

/-- An output part is sent. -/
theorem startA (b : Fin 2) (d : Fin 3) {i w r u m v : ℕ} (hi : arOrd (b, d) = m) (hw : u ≤ m)
    {n : Dev nD} (hn : n = peer c d) {ss rs : DmaSem sig} (hss : ss = arSnd (b, d)) (hrs : rs = arRcv (b, d))
    {offS hS pfS sqS offD hD pfD sq} (hoS : offS = ![b.val, 0, 0]) (hoD : offD = ![2 - d.val, b.val, 0, 0])
    {hsc hsrc hdst hsem} (k : PUnit → Prog (TpuEff nD τ sig (Elt F) Λ₀ .tc) α) :
    iprop(Comm T K c w i r u m v ∗ arSrc T c (b, d)) ⊢ iprop((Comm T K c w i r u (m + 1) v -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma ((partM.slice (Rect.unit (s := S2x128x512) offS S1x128x512.size hS) pfS).squeeze S128x512 sqS) (.remote (Dev.tc n) ((accM.slice (Rect.unit (s := S3x2x128x512) offD S1x1x128x512.size hD) pfD).squeeze S128x512 sq) (.dma ss) hsc) (.dma rs) hsrc hdst hsem) k) Q) := by
  subst hi
  have e1 := part_set b offS hS pfS sqS hoS
  have e2 := acc_set b d offD hD pfD sq hoD
  exact ar_start T K c (b, d) rfl hw hn hss hrs rfl (T.part c)
    (by unfold arSrc; rw [e1]) (by unfold arLand; rw [e2])
    (fun fd => by
      unfold arGot; rw [e2]
      exact Entails.of_eq (pointsTo_congr (land_acc T.part c b d offS hS pfS sqS offD hD pfD sq hoS hoD fd))) k

/-! ## The copies within a device -/

def locNew (e : Fin 2) : sProp 𝕄 := iprop(dutyTok ER (dcell c (locS e)) 0 0 ∗ reached ER (dcell c (locS e)) 0 ∗ atPos ER (dcell c (locS e)) 0 ∅ 0)
def locOut (e : Fin 2) : sProp 𝕄 := iprop(cred (tallyAt (dcell c (locS e)) () NL) ∗ atPos ER (dcell c (locS e)) 0 ∅ 0)
def locDone (e : Fin 2) : sProp 𝕄 := iprop(semVal (dcell c (locS e)) 0 ∗ locPay T c e)

/-- A device's own columns of its keys are copied into slot 0. -/
theorem copyK {i w r u m v : ℕ} {rs : DmaSem sig} (hrs : rs = locS 0)
    {offS hS pfS offD hD pfD sq} (hoS : offS = ![0, 256 * c.val]) (hoD : offD = ![0, 0, 0])
    {hsrc hdst hsem} (k : PUnit → Prog (TpuEff nD τ sig (Elt F) Λ₀ .tc) α) :
    iprop(Comm T K c w i r u m v ∗ locNew c 0 ∗ ((c : Thread nD τ).loc cc0_scratch0 ↦[ownSet c]{fullShare} T.k16 c)
        ∗ (∃ f, (c : Thread nD τ).loc cc0_scratch2 ↦[slot0]{fullShare} f))
      ⊢ iprop((Comm T K c w i r u m v ∗ locOut c 0 -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (k16M.slice (Rect.unit (s := S256x1024) offS S256x256.size hS) pfS) (.here ((kallM.slice (Rect.unit (s := S4x256x256) offD S1x256x256.size hD) pfD).squeeze S256x256 sq)) (.dma rs) hsrc hdst hsem) k) Q) := by
  subst hrs
  have e1 := kown_set c offS hS pfS hoS
  have e2 := kslot0_set offD hD pfD sq hoD
  unfold Comm locNew
  iintro ⟨⟨#Hlev, #HI, HR⟩, ⟨Ht, #Hr, Hat⟩, Hsrc, %fd, Hdst⟩ Hk
  ihave HI1 := (invs_dma T K c (locS 0) (six_loc 0)) $$ HI
  icases HI1 with #HI1
  iapply (Rounds.wp_copy_pointsTo 𝒱₀ ER (rd T) (c : Thread nD τ) none
      (src := k16M.slice (Rect.unit (s := S256x1024) offS S256x256.size hS) pfS)
      (dst := (kallM.slice (Rect.unit (s := S4x256x256) offD S1x256x256.size hD) pfD).squeeze S256x256 sq)
      (sem := .dma (locS 0)) (q := fullShare) (fs := T.k16 c) (fd := fd) (κ := K (dcell c (locS 0))) (r := 0) (d := 0)
      (by rw [duties_dma T c _ (six_loc 0)]; exact Finset.mem_singleton_self _)
      () NL rfl (by show amt (role (locS 0)) = NL; rw [role_loc]; rfl)
      (by
        show _ ⊢ dmaPay T c (role (locS 0)); rw [role_loc, e1, e2]
        refine (sep_mono_left (Entails.of_eq (pointsTo_congr (land_own_k T.k16 c offS hS pfS offD hD pfD sq hoS hoD fd)))).trans (Entails.of_eq ?_)
        exact Eq.symm (by show locPay T c 0 = _; unfold locPay; exact if_pos rfl))) $$ [Hsrc Hdst Ht]
  · isplitr; · iexact HI1
    rw [e1, e2]
    isplitl [Hsrc]; · iexact Hsrc
    isplitl [Hdst]; · iexact Hdst
    isplitl [Ht]; · iexact Ht
    iexact Hr
  iintro Hc
  iapply Hk
  unfold locOut
  isplitl [HR]
  · isplitr; · iexact Hlev
    isplitr; · iexact HI
    iexact HR
  isplitl [Hc]; · iexact Hc
  iexact Hat

/-- A device's own columns of its values are copied into slot 0. -/
theorem copyV {i w r u m v : ℕ} {rs : DmaSem sig} (hrs : rs = locS 1)
    {offS hS pfS offD hD pfD sq} (hoS : offS = ![0, 256 * c.val]) (hoD : offD = ![0, 0, 0])
    {hsrc hdst hsem} (k : PUnit → Prog (TpuEff nD τ sig (Elt F) Λ₀ .tc) α) :
    iprop(Comm T K c w i r u m v ∗ locNew c 1 ∗ ((c : Thread nD τ).loc cc0_scratch1 ↦[ownSet c]{fullShare} T.v16 c)
        ∗ (∃ f, (c : Thread nD τ).loc cc0_scratch3 ↦[slot0]{fullShare} f))
      ⊢ iprop((Comm T K c w i r u m v ∗ locOut c 1 -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (v16M.slice (Rect.unit (s := S256x1024) offS S256x256.size hS) pfS) (.here ((vallM.slice (Rect.unit (s := S4x256x256) offD S1x256x256.size hD) pfD).squeeze S256x256 sq)) (.dma rs) hsrc hdst hsem) k) Q) := by
  subst hrs
  have e1 := vown_set c offS hS pfS hoS
  have e2 := vslot0_set offD hD pfD sq hoD
  unfold Comm locNew
  iintro ⟨⟨#Hlev, #HI, HR⟩, ⟨Ht, #Hr, Hat⟩, Hsrc, %fd, Hdst⟩ Hk
  ihave HI1 := (invs_dma T K c (locS 1) (six_loc 1)) $$ HI
  icases HI1 with #HI1
  iapply (Rounds.wp_copy_pointsTo 𝒱₀ ER (rd T) (c : Thread nD τ) none
      (src := v16M.slice (Rect.unit (s := S256x1024) offS S256x256.size hS) pfS)
      (dst := (vallM.slice (Rect.unit (s := S4x256x256) offD S1x256x256.size hD) pfD).squeeze S256x256 sq)
      (sem := .dma (locS 1)) (q := fullShare) (fs := T.v16 c) (fd := fd) (κ := K (dcell c (locS 1))) (r := 0) (d := 0)
      (by rw [duties_dma T c _ (six_loc 1)]; exact Finset.mem_singleton_self _)
      () NL rfl (by show amt (role (locS 1)) = NL; rw [role_loc]; rfl)
      (by
        show _ ⊢ dmaPay T c (role (locS 1)); rw [role_loc, e1, e2]
        refine (sep_mono_left (Entails.of_eq (pointsTo_congr (land_own_v T.v16 c offS hS pfS offD hD pfD sq hoS hoD fd)))).trans (Entails.of_eq ?_)
        exact Eq.symm (by show locPay T c 1 = _; unfold locPay; exact if_neg (show ¬ (1 : Fin 2) = 0 by decide)))) $$ [Hsrc Hdst Ht]
  · isplitr; · iexact HI1
    rw [e1, e2]
    isplitl [Hsrc]; · iexact Hsrc
    isplitl [Hdst]; · iexact Hdst
    isplitl [Ht]; · iexact Ht
    iexact Hr
  iintro Hc
  iapply Hk
  unfold locOut
  isplitl [HR]
  · isplitr; · iexact Hlev
    isplitr; · iexact HI
    iexact HR
  isplitl [Hc]; · iexact Hc
  iexact Hat

/-- The wait for such a copy. -/
theorem copyWait (e : Fin 2) {i w r u m v : ℕ}
    {sp sp' : Space} {s s' : Shape} {e' e'' : EltTy} {κ' : Kind} {src : Memref sig .tc sp' s' e''} {dst : Memref sig κ' sp s e'} {hsrc hdst}
    {q : DmaSem sig} (hq : q = locS e) (hN : dst.view.dmaCredit = NL) (k : PUnit → Prog (TpuEff nD τ sig (Elt F) Λ₀ .tc) α) :
    iprop(Comm T K c w i r u m v ∗ locOut c e) ⊢ iprop((Comm T K c w i r u m v ∗ locDone T c e -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst hsrc hdst) k) Q) := by
  subst hq
  unfold Comm locOut
  iintro ⟨⟨#Hlev, #HI, HS, HR, HA, HB, %W, HO⟩, Hc, Hat⟩ Hk
  iapply (wait_dma T K c (locS e) (six_loc e) (by rw [role_loc]; rfl) hN) $$ [Hc HO Hat]
  · isplitr; · iexact HI
    isplitl [Hc]; · iexact Hc
    isplitl [HO]; · iexact HO
    isplitr
    · iapply (mayWait c (.dma (locS e)) 3 i m (by omega) (by rw [lvl_loc]; omega) (by rw [lvl_loc]; omega)); iexact Hlev
    iexact Hat
  rw [role_loc]
  dsimp only [dmaPay]
  iintro ⟨HO, Hs, Hp⟩
  iapply Hk
  unfold locDone
  isplitr [Hs Hp]
  · isplitr; · iexact Hlev
    isplitr; · iexact HI
    isplitl [HS]; · iexact HS
    isplitl [HR]; · iexact HR
    isplitl [HA]; · iexact HA
    isplitl [HB]; · iexact HB
    iexact HO
  isplitl [Hs]; · iexact Hs
  iexact Hp

/-! ## The barrier -/

/-- A signal: the peer may write every tile its transfers to this device land in. -/
theorem signal (d : Fin 3) {n : Dev nD} (hn : n = peer c d) {s : Sem sig} (hs : s = barS) {i m : ℕ}
    (k : PUnit → Prog (TpuEff nD τ sig (Elt F) Λ₀ .tc) α) :
    iprop(invs T K ∗ (∃ W, owes (c : Thread nD τ) (owed c d.val i m) W) ∗ dutyTok ER (bcell (peer c d)) 0 (back d) ∗ barPay (peer c d) (back d)
        ∗ reached ER (bcell (peer c d)) 0)
      ⊢ iprop(((∃ W, owes (c : Thread nD τ) (owed c (d.val + 1) i m) W) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) s 1) k) Q) := by
  subst hn hs
  iintro ⟨#HI, ⟨%W, HO⟩, Ht, Hp, #Hr⟩ Hk
  ihave HI1 := (invs_bar T K (peer c d)) $$ HI
  ihave Hp' := (Entails.of_eq (show barPay (peer c d) (back d) = (rd T).payload (bcell (peer c d)) 0 (back d) from rfl)) $$ Hp
  icases HI1 with #HI1
  iapply (Rounds.wp_signal 𝒱₀ ER (rd T) (c : Thread nD τ) none (dst := (peer c d : Thread nD τ)) (sem := barS) (r := 0) (d := back d) (κ := K (bcell (peer c d))) (k' := 1)
      (by rw [duties_bar]; exact Finset.mem_univ _) rfl () (O₀ := owed c d.val i m) (owed c (d.val + 1) i m)
      (by unfold owed; rw [owedB_step, ← add_assoc]) (W := W)) $$ [HO Ht Hp']
  · isplitr; · iexact HI1
    isplitl [HO]; · iexact HO
    isplitl [Ht]; · iexact Ht
    isplitl [Hp']; · iexact Hp'
    iexact Hr
  iintro HO
  iapply Hk
  iexists W; iexact HO

/-- The wait for the peers' signals: their gifts, and the counter back at zero. -/
theorem barrier {s : Sem sig} (hs : s = barS) {i m : ℕ} (k : PUnit → Prog (TpuEff nD τ sig (Elt F) Λ₀ .tc) α) :
    iprop(levAts L lv ∗ invs T K ∗ (∃ W, owes (c : Thread nD τ) (owed c 3 i m) W) ∗ cred (tallyAt (bcell c) () 3) ∗ atPos ER (bcell c) 0 ∅ 0)
      ⊢ iprop(((∃ W, owes (c : Thread nD τ) (owed c 3 i m) W) ∗ semVal (bcell c) 0 ∗ (bigSep Finset.univ fun d => barPay c d) -∗ wp frame (wpE (defs₀ (F := F)) 𝒱₀ (c : Thread nD τ) none) Set.univ (k ⟨⟩) Q)
      -∗ wp frame (wpE (defs₀ (F := F)) 𝒱₀ (c : Thread nD τ) none) Set.univ (.op (.semWait s 3) k) Q) := by
  subst hs
  iintro ⟨#Hlev, #HI, ⟨%W, HO⟩, Hc, Hat⟩ Hk
  ihave HI1 := (invs_bar T K c) $$ HI
  icases HI1 with #HI1
  iapply (Rounds.wp_wait_rest_token 𝒱₀ ER (rd T) (c : Thread nD τ) none (κ := K (bcell c))
      (wpE_semWait_eq 𝒱₀ (c : Thread nD τ) none Set.univ) (Set.mem_univ _) () (O := owed c 3 i m) (W := W) (R := 0) (m := 0) (T := ∅)
      ((Nat.zero_add _).trans (expect_bar T c).symm)) $$ [Hc HO Hat]
  · isplitr; · iexact HI1
    isplitl [Hc]; · iexact Hc
    isplitl [HO]; · iexact HO
    isplitr
    · iapply (mayWait c (.reg barS) 3 i m (by omega) (by intro _; show 1 < 2; omega) (by intro _; show 1 < 3; omega)); iexact Hlev
    iexact Hat
  iintro ⟨HO, Hat, -, Hpay⟩
  ihave Hp := (Entails.of_eq (rest_bar T c)) $$ Hpay
  imod (close T (K (bcell c)) (bcell c)) $$ [Hat] with Hs
  · isplitr; · iexact HI1
    iexact Hat
  iapply Hk
  isplitl [HO]; · iexists _; iexact HO
  isplitl [Hs]; · iexact Hs
  iexact Hp

/-- A distance, a batch, a pair of heads and which of keys and values, regrouped. -/
def kvEquiv : Fin 3 × (Fin 2 × Fin 2 × Fin 2) ≃ KV :=
  ⟨fun x => (x.2.1, x.2.2.1, x.1, x.2.2.2), fun j => (j.2.2.1, j.1, j.2.1, j.2.2.2), fun _ => rfl, fun _ => rfl⟩
def arEquiv : Fin 3 × Fin 2 ≃ AR := ⟨fun x => (x.2, x.1), fun a => (a.2, a.1), fun _ => rfl, fun _ => rfl⟩
def backEquiv : Fin 3 ≃ Fin 3 := ⟨back, back, back_back, back_back⟩

/-- What the peers' signals hand over, transfer by transfer. -/
theorem barPay_all : (bigSep Finset.univ fun d => barPay (F := F) c d)
    = iprop((bigSep Finset.univ fun j : KV => kvGift (peer c j.2.2.1) j) ∗ bigSep Finset.univ fun a : AR => arGift (peer c a.2) a) := by
  unfold barPay
  rw [bigSep_sep']
  congr 1
  · rw [bigSep_univ_equiv kvEquiv, bigSep_univ_prod]; rfl
  · rw [bigSep_univ_equiv arEquiv, bigSep_univ_prod]; rfl
/-- What this device's signals hand over. -/
theorem barPay_mine : (bigSep Finset.univ fun d => barPay (F := F) (peer c d) (back d))
    = iprop((bigSep Finset.univ fun j : KV => kvGift c j) ∗ bigSep Finset.univ fun a : AR => arGift c a) := by
  rw [bigSep_univ_equiv backEquiv (fun d => barPay (F := F) (peer c d) (back d))]
  unfold barPay
  rw [bigSep_sep']
  have h : ∀ d, peer (peer c (back d)) d = c := fun d => by have := peer_back c (back d); rwa [back_back] at this
  have hb : ∀ d, backEquiv d = back d := fun _ => rfl
  simp only [hb, back_back, h]
  congr 1
  · rw [bigSep_univ_equiv kvEquiv, bigSep_univ_prod]; rfl
  · rw [bigSep_univ_equiv arEquiv, bigSep_univ_prod]; rfl

end Cert.KernelIdealRun

end
-- ==== Proof.Tiles.lean ====
/-
# The buffers cut into tiles, and put together again

The converted keys and values are cut by rows into batches, each batch into the six tiles sent and the columns kept;
the gathered ones into slot 0 and the twelve tiles received; the received output parts into their six slots.
-/
module

public import proofs.«01_k».proof.Proof.Links

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (T : Held F) (K : GSem nD τ sig → ℕ) (c : Dev nD)

/-! ## Boxes -/

theorem mem_bx2 {n0 n1 : ℕ} {a b p q : ℕ} {i : (⟨2, ![n0, n1]⟩ : Shape).Idx} :
    i ∈ bx (s := ⟨2, ![n0, n1]⟩) ![a, b] ![p, q] ↔ (a ≤ (i 0).val ∧ (i 0).val < a + p) ∧ (b ≤ (i 1).val ∧ (i 1).val < b + q) := by
  rw [mem_bx]; exact ⟨fun h => ⟨h 0, h 1⟩, fun h => fun a => by fin_cases a <;> [exact h.1; exact h.2]⟩
theorem mem_bx3 {n0 n1 n2 : ℕ} {a b d p q r : ℕ} {i : (⟨3, ![n0, n1, n2]⟩ : Shape).Idx} :
    i ∈ bx (s := ⟨3, ![n0, n1, n2]⟩) ![a, b, d] ![p, q, r]
      ↔ (a ≤ (i 0).val ∧ (i 0).val < a + p) ∧ (b ≤ (i 1).val ∧ (i 1).val < b + q) ∧ (d ≤ (i 2).val ∧ (i 2).val < d + r) := by
  rw [mem_bx]; exact ⟨fun h => ⟨h 0, h 1, h 2⟩, fun h => fun a => by fin_cases a <;> [exact h.1; exact h.2.1; exact h.2.2]⟩
theorem mem_bx4 {n0 n1 n2 n3 : ℕ} {a b d e p q r t : ℕ} {i : (⟨4, ![n0, n1, n2, n3]⟩ : Shape).Idx} :
    i ∈ bx (s := ⟨4, ![n0, n1, n2, n3]⟩) ![a, b, d, e] ![p, q, r, t]
      ↔ (a ≤ (i 0).val ∧ (i 0).val < a + p) ∧ (b ≤ (i 1).val ∧ (i 1).val < b + q) ∧ (d ≤ (i 2).val ∧ (i 2).val < d + r)
        ∧ (e ≤ (i 3).val ∧ (i 3).val < e + t) := by
  rw [mem_bx]
  exact ⟨fun h => ⟨h 0, h 1, h 2, h 3⟩, fun h => fun a => by fin_cases a <;> [exact h.1; exact h.2.1; exact h.2.2.1; exact h.2.2.2]⟩

/-- The rows of a batch. -/
def rows (b : Fin 2) : Finset S256x1024.Idx := bx ![128 * b.val, 0] ![128, 1024]
/-- The columns a device keeps, of a batch's rows. -/
def ownRows (c : Dev nD) (b : Fin 2) : Finset S256x1024.Idx := bx ![128 * b.val, 256 * c.val] ![128, 256]

theorem rows_disj : Disjoint (rows 0) (rows 1) := by
  rw [Finset.disjoint_left]; intro i h0 h1
  have h0 := (mem_bx2 (n0 := 256) (n1 := 1024)).mp h0
  have h1 := (mem_bx2 (n0 := 256) (n1 := 1024)).mp h1
  have e1 : ((1 : Fin 2) : ℕ) = 1 := rfl
  have e0 : ((0 : Fin 2) : ℕ) = 0 := rfl
  omega
theorem rows_all : rows 0 ∪ rows 1 = Finset.univ := by
  ext i
  have hi0 : (i 0).val < 256 := (i 0).isLt
  have hi1 : (i 1).val < 1024 := (i 1).isLt
  have e1 : ((1 : Fin 2) : ℕ) = 1 := rfl
  have e0 : ((0 : Fin 2) : ℕ) = 0 := rfl
  rw [Finset.mem_union, rows, rows, mem_bx2 (n0 := 256) (n1 := 1024), mem_bx2 (n0 := 256) (n1 := 1024)]
  simp only [Finset.mem_univ, iff_true]
  omega
theorem own_disj : Disjoint (ownRows c 0) (ownRows c 1) := by
  rw [Finset.disjoint_left]; intro i h0 h1
  have h0 := (mem_bx2 (n0 := 256) (n1 := 1024)).mp h0
  have h1 := (mem_bx2 (n0 := 256) (n1 := 1024)).mp h1
  have e1 : ((1 : Fin 2) : ℕ) = 1 := rfl
  have e0 : ((0 : Fin 2) : ℕ) = 0 := rfl
  omega
theorem own_all : ownRows c 0 ∪ ownRows c 1 = ownSet c := by
  ext i
  have hi0 : (i 0).val < 256 := (i 0).isLt
  have e1 : ((1 : Fin 2) : ℕ) = 1 := rfl
  have e0 : ((0 : Fin 2) : ℕ) = 0 := rfl
  rw [Finset.mem_union, ownRows, ownRows, ownSet, mem_bx2 (n0 := 256) (n1 := 1024), mem_bx2 (n0 := 256) (n1 := 1024), mem_bx2 (n0 := 256) (n1 := 1024)]
  omega

/-- The tiles of a batch that are sent. -/
def sent (c : Dev nD) (b : Fin 2) : Finset S256x1024.Idx :=
  (Finset.univ : Finset (Fin 2 × Fin 3)).biUnion fun x => srcSet c b x.1 x.2
theorem src_disj (b : Fin 2) : ∀ x ∈ (Finset.univ : Finset (Fin 2 × Fin 3)), ∀ y ∈ (Finset.univ : Finset (Fin 2 × Fin 3)), x ≠ y →
    Disjoint (srcSet c b x.1 x.2) (srcSet c b y.1 y.2) := by
  rintro ⟨p, d⟩ - ⟨p', d'⟩ - hne
  rw [Finset.disjoint_left]; intro i h0 h1
  have h0 := (mem_bx2 (n0 := 256) (n1 := 1024)).mp h0
  have h1 := (mem_bx2 (n0 := 256) (n1 := 1024)).mp h1
  have hp := p.isLt; have hp' := p'.isLt
  dsimp only at h0 h1
  have hpeer : (peer c d).val = (peer c d').val := by omega
  have hd := peer_inj c d d' (Fin.ext hpeer)
  subst hd
  exact hne (Prod.ext (Fin.ext (by show p.val = p'.val; omega)) rfl)
theorem sent_own_disj (b : Fin 2) : Disjoint (sent c b) (ownRows c b) := by
  rw [Finset.disjoint_left]; intro i h0 h1
  obtain ⟨⟨p, d⟩, -, h0⟩ := Finset.mem_biUnion.mp h0
  have h0 := (mem_bx2 (n0 := 256) (n1 := 1024)).mp h0
  have h1 := (mem_bx2 (n0 := 256) (n1 := 1024)).mp h1
  have hp := p.isLt
  dsimp only at h0
  exact peer_ne c d (Fin.ext (by omega))
theorem sent_own_all (b : Fin 2) : sent c b ∪ ownRows c b = rows b := by
  ext i
  have hi1 : (i 1).val < 1024 := (i 1).isLt
  have hc : c.val < 4 := c.isLt
  rw [Finset.mem_union, ownRows, rows, mem_bx2 (n0 := 256) (n1 := 1024), mem_bx2 (n0 := 256) (n1 := 1024)]
  constructor
  · rintro (h | h)
    · obtain ⟨⟨p, d⟩, -, h⟩ := Finset.mem_biUnion.mp h
      have h := (mem_bx2 (n0 := 256) (n1 := 1024)).mp h
      dsimp only at h; omega
    · omega
  · intro h
    by_cases hown : 256 * c.val ≤ (i 1).val ∧ (i 1).val < 256 * c.val + 256
    · exact Or.inr ⟨h.1, hown⟩
    · refine Or.inl (Finset.mem_biUnion.mpr ⟨(⟨(i 1).val % 256 / 128, by omega⟩, ⟨((i 1).val / 256 + 3 - c.val) % 4, by omega⟩), Finset.mem_univ _, ?_⟩)
      refine (mem_bx2 (n0 := 256) (n1 := 1024)).mpr ⟨h.1, ?_⟩
      have hq : (peer c ⟨((i 1).val / 256 + 3 - c.val) % 4, by omega⟩).val = (i 1).val / 256 := by
        show (c.val + ((i 1).val / 256 + 3 - c.val) % 4 + 1) % 4 = _
        omega
      dsimp only
      rw [hq]
      omega

/-- The tiles received. -/
def recvd : Finset S4x256x256.Idx :=
  (Finset.univ : Finset (Fin 2 × Fin 2 × Fin 3)).biUnion fun x => dstSet x.1 x.2.1 x.2.2
theorem dst_disj : ∀ x ∈ (Finset.univ : Finset (Fin 2 × Fin 2 × Fin 3)), ∀ y ∈ (Finset.univ : Finset (Fin 2 × Fin 2 × Fin 3)), x ≠ y →
    Disjoint (dstSet x.1 x.2.1 x.2.2) (dstSet y.1 y.2.1 y.2.2) := by
  rintro ⟨b, p, d⟩ - ⟨b', p', d'⟩ - hne
  rw [Finset.disjoint_left]; intro i h0 h1
  have h0 := (mem_bx3 (n0 := 4) (n1 := 256) (n2 := 256)).mp h0
  have h1 := (mem_bx3 (n0 := 4) (n1 := 256) (n2 := 256)).mp h1
  have := p.isLt; have := p'.isLt; have := b.isLt; have := b'.isLt; have := d.isLt; have := d'.isLt
  dsimp only at h0 h1
  exact hne (Prod.ext (Fin.ext (by show b.val = b'.val; omega)) (Prod.ext (Fin.ext (by show p.val = p'.val; omega)) (Fin.ext (by show d.val = d'.val; omega))))
theorem recvd_slot_disj : Disjoint recvd slot0 := by
  rw [Finset.disjoint_left]; intro i h0 h1
  obtain ⟨⟨b, p, d⟩, -, h0⟩ := Finset.mem_biUnion.mp h0
  have h0 := (mem_bx3 (n0 := 4) (n1 := 256) (n2 := 256)).mp h0
  have h1 := (mem_bx3 (n0 := 4) (n1 := 256) (n2 := 256)).mp h1
  have := d.isLt
  dsimp only at h0
  omega
theorem recvd_slot_all : recvd ∪ slot0 = Finset.univ := by
  ext i
  have hi0 : (i 0).val < 4 := (i 0).isLt
  have hi1 : (i 1).val < 256 := (i 1).isLt
  have hi2 : (i 2).val < 256 := (i 2).isLt
  rw [Finset.mem_union, slot0, mem_bx3 (n0 := 4) (n1 := 256) (n2 := 256)]
  simp only [Finset.mem_univ, iff_true]
  by_cases h0 : (i 0).val = 0
  · exact Or.inr (by omega)
  · refine Or.inl (Finset.mem_biUnion.mpr ⟨(⟨(i 1).val / 128, by omega⟩, ⟨(i 2).val / 128, by omega⟩, ⟨3 - (i 0).val, by omega⟩), Finset.mem_univ _, ?_⟩)
    refine (mem_bx3 (n0 := 4) (n1 := 256) (n2 := 256)).mpr ?_
    dsimp only
    omega

theorem part_disj : Disjoint (partSet 0) (partSet 1) := by
  rw [Finset.disjoint_left]; intro i h0 h1
  have h0 := (mem_bx3 (n0 := 2) (n1 := 128) (n2 := 512)).mp h0
  have h1 := (mem_bx3 (n0 := 2) (n1 := 128) (n2 := 512)).mp h1
  have e1 : ((1 : Fin 2) : ℕ) = 1 := rfl
  have e0 : ((0 : Fin 2) : ℕ) = 0 := rfl
  omega
theorem part_all : partSet 0 ∪ partSet 1 = Finset.univ := by
  ext i
  have hi0 : (i 0).val < 2 := (i 0).isLt
  have hi1 : (i 1).val < 128 := (i 1).isLt
  have hi2 : (i 2).val < 512 := (i 2).isLt
  have e1 : ((1 : Fin 2) : ℕ) = 1 := rfl
  have e0 : ((0 : Fin 2) : ℕ) = 0 := rfl
  rw [Finset.mem_union, partSet, partSet, mem_bx3 (n0 := 2) (n1 := 128) (n2 := 512), mem_bx3 (n0 := 2) (n1 := 128) (n2 := 512)]
  simp only [Finset.mem_univ, iff_true]
  omega
theorem acc_disj : ∀ x ∈ (Finset.univ : Finset AR), ∀ y ∈ (Finset.univ : Finset AR), x ≠ y →
    Disjoint (accSet x.1 x.2) (accSet y.1 y.2) := by
  rintro ⟨b, d⟩ - ⟨b', d'⟩ - hne
  rw [Finset.disjoint_left]; intro i h0 h1
  have h0 := (mem_bx4 (n0 := 3) (n1 := 2) (n2 := 128) (n3 := 512)).mp h0
  have h1 := (mem_bx4 (n0 := 3) (n1 := 2) (n2 := 128) (n3 := 512)).mp h1
  have := b.isLt; have := b'.isLt; have := d.isLt; have := d'.isLt
  dsimp only at h0 h1
  exact hne (Prod.ext (Fin.ext (by show b.val = b'.val; omega)) (Fin.ext (by show d.val = d'.val; omega)))
theorem acc_all : (Finset.univ : Finset AR).biUnion (fun x => accSet x.1 x.2) = Finset.univ := by
  ext i
  have hi0 : (i 0).val < 3 := (i 0).isLt
  have hi1 : (i 1).val < 2 := (i 1).isLt
  have hi2 : (i 2).val < 128 := (i 2).isLt
  have hi3 : (i 3).val < 512 := (i 3).isLt
  simp only [Finset.mem_univ, iff_true]
  refine Finset.mem_biUnion.mpr ⟨(⟨(i 1).val, hi1⟩, ⟨2 - (i 0).val, by omega⟩), Finset.mem_univ _, ?_⟩
  refine (mem_bx4 (n0 := 3) (n1 := 2) (n2 := 128) (n3 := 512)).mpr ?_
  dsimp only
  omega

/-! ## The memory behind them -/

theorem sep_eq {P R : sProp 𝕄} (h : P ⊣⊢ R) : P = R := BI.equiv_iff.mp ⟨h.1, h.2⟩

/-- A converted batch is its tiles sent and the columns kept. -/
theorem k_rows (b : Fin 2) (f) : ((c : Thread nD τ).loc cc0_scratch0 ↦[rows b]{fullShare} f : sProp 𝕄)
    = iprop((bigSep Finset.univ fun x : Fin 2 × Fin 3 => ((c : Thread nD τ).loc cc0_scratch0 ↦[srcSet c b x.1 x.2]{fullShare} f))
      ∗ (c : Thread nD τ).loc cc0_scratch0 ↦[ownRows c b]{fullShare} f) := by
  rw [← sent_own_all c b, sent]
  rw [← pointsTo_biUnion (f := f) Finset.univ (fun x : Fin 2 × Fin 3 => srcSet c b x.1 x.2) (src_disj c b)]
  exact sep_eq (pointsTo_union (sent_own_disj c b))
theorem k_own (f) : ((c : Thread nD τ).loc cc0_scratch0 ↦[ownSet c]{fullShare} f : sProp 𝕄)
    = iprop(((c : Thread nD τ).loc cc0_scratch0 ↦[ownRows c 0]{fullShare} f) ∗ (c : Thread nD τ).loc cc0_scratch0 ↦[ownRows c 1]{fullShare} f) := by
  rw [← own_all c]; exact sep_eq (pointsTo_union (own_disj c))
theorem k_whole (f) : ((c : Thread nD τ).loc cc0_scratch0 ↦{fullShare} f : sProp 𝕄)
    = iprop(((c : Thread nD τ).loc cc0_scratch0 ↦[rows 0]{fullShare} f) ∗ (c : Thread nD τ).loc cc0_scratch0 ↦[rows 1]{fullShare} f) := by
  refine (?_ : _ = ((c : Thread nD τ).loc cc0_scratch0 ↦[rows 0 ∪ rows 1]{fullShare} f : sProp 𝕄)).trans (sep_eq (pointsTo_union rows_disj))
  rw [rows_all]
theorem kall_whole (f) : ((c : Thread nD τ).loc cc0_scratch2 ↦{fullShare} f : sProp 𝕄)
    = iprop((bigSep Finset.univ fun x : Fin 2 × Fin 2 × Fin 3 => ((c : Thread nD τ).loc cc0_scratch2 ↦[dstSet x.1 x.2.1 x.2.2]{fullShare} f))
      ∗ (c : Thread nD τ).loc cc0_scratch2 ↦[slot0]{fullShare} f) := by
  rw [← pointsTo_biUnion (f := f) Finset.univ (fun x : Fin 2 × Fin 2 × Fin 3 => dstSet x.1 x.2.1 x.2.2) dst_disj]
  refine (?_ : _ = ((c : Thread nD τ).loc cc0_scratch2 ↦[recvd ∪ slot0]{fullShare} f : sProp 𝕄)).trans (sep_eq (pointsTo_union recvd_slot_disj))
  rw [recvd_slot_all]

/-- A converted batch is its tiles sent and the columns kept. -/
theorem v_rows (b : Fin 2) (f) : ((c : Thread nD τ).loc cc0_scratch1 ↦[rows b]{fullShare} f : sProp 𝕄)
    = iprop((bigSep Finset.univ fun x : Fin 2 × Fin 3 => ((c : Thread nD τ).loc cc0_scratch1 ↦[srcSet c b x.1 x.2]{fullShare} f))
      ∗ (c : Thread nD τ).loc cc0_scratch1 ↦[ownRows c b]{fullShare} f) := by
  rw [← sent_own_all c b, sent]
  rw [← pointsTo_biUnion (f := f) Finset.univ (fun x : Fin 2 × Fin 3 => srcSet c b x.1 x.2) (src_disj c b)]
  exact sep_eq (pointsTo_union (sent_own_disj c b))
theorem v_own (f) : ((c : Thread nD τ).loc cc0_scratch1 ↦[ownSet c]{fullShare} f : sProp 𝕄)
    = iprop(((c : Thread nD τ).loc cc0_scratch1 ↦[ownRows c 0]{fullShare} f) ∗ (c : Thread nD τ).loc cc0_scratch1 ↦[ownRows c 1]{fullShare} f) := by
  rw [← own_all c]; exact sep_eq (pointsTo_union (own_disj c))
theorem v_whole (f) : ((c : Thread nD τ).loc cc0_scratch1 ↦{fullShare} f : sProp 𝕄)
    = iprop(((c : Thread nD τ).loc cc0_scratch1 ↦[rows 0]{fullShare} f) ∗ (c : Thread nD τ).loc cc0_scratch1 ↦[rows 1]{fullShare} f) := by
  refine (?_ : _ = ((c : Thread nD τ).loc cc0_scratch1 ↦[rows 0 ∪ rows 1]{fullShare} f : sProp 𝕄)).trans (sep_eq (pointsTo_union rows_disj))
  rw [rows_all]
theorem vall_whole (f) : ((c : Thread nD τ).loc cc0_scratch3 ↦{fullShare} f : sProp 𝕄)
    = iprop((bigSep Finset.univ fun x : Fin 2 × Fin 2 × Fin 3 => ((c : Thread nD τ).loc cc0_scratch3 ↦[dstSet x.1 x.2.1 x.2.2]{fullShare} f))
      ∗ (c : Thread nD τ).loc cc0_scratch3 ↦[slot0]{fullShare} f) := by
  rw [← pointsTo_biUnion (f := f) Finset.univ (fun x : Fin 2 × Fin 2 × Fin 3 => dstSet x.1 x.2.1 x.2.2) dst_disj]
  refine (?_ : _ = ((c : Thread nD τ).loc cc0_scratch3 ↦[recvd ∪ slot0]{fullShare} f : sProp 𝕄)).trans (sep_eq (pointsTo_union recvd_slot_disj))
  rw [recvd_slot_all]

theorem part_whole (f) : ((c : Thread nD τ).loc cc0_scratch4 ↦{fullShare} f : sProp 𝕄)
    = iprop(((c : Thread nD τ).loc cc0_scratch4 ↦[partSet 0]{fullShare} f) ∗ (c : Thread nD τ).loc cc0_scratch4 ↦[partSet 1]{fullShare} f) := by
  refine (?_ : _ = ((c : Thread nD τ).loc cc0_scratch4 ↦[partSet 0 ∪ partSet 1]{fullShare} f : sProp 𝕄)).trans (sep_eq (pointsTo_union part_disj))
  rw [part_all]
theorem acc_whole (f) : ((c : Thread nD τ).loc cc0_scratch5 ↦{fullShare} f : sProp 𝕄)
    = bigSep Finset.univ fun x : AR => ((c : Thread nD τ).loc cc0_scratch5 ↦[accSet x.1 x.2]{fullShare} f) := by
  rw [← pointsTo_biUnion (f := f) Finset.univ (fun x : AR => accSet x.1 x.2) acc_disj, acc_all]
/-- An output part is what its three transfers carry. -/
theorem part_shares (b : Fin 2) : ((c : Thread nD τ).loc cc0_scratch4 ↦[partSet b]{fullShare} T.part c : sProp 𝕄)
    = iprop(arSrc T c (b, 0) ∗ arSrc T c (b, 1) ∗ arSrc T c (b, 2)) := by
  have h1 := sep_eq (pointsTo_share (ℓ := (c : Thread nD τ).loc cc0_scratch4) (I := partSet b) (f := T.part c) (PosShare.mem_left_op_right fullShare))
  have h2 := sep_eq (pointsTo_share (ℓ := (c : Thread nD τ).loc cc0_scratch4) (I := partSet b) (f := T.part c) (PosShare.mem_left_op_right fullShare.right))
  rw [h1, h2]; rfl

end Cert.KernelIdealRun

end
-- ==== Proof.Vals.lean ====
/-
# What the kernel computes

The values of the program's loads and stores, from the five inputs each device is given: the converted keys and
values, the tiles gathered, the four heads' attention per batch, the output parts and their sum.
-/
module

public import proofs.«01_k».proof.Proof.Tiles
public import Idealize.ShloMosaic.Lib.Pipeline.Value

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Every device's inputs: activations, query weights, keys, values, output weights. -/
structure Ins (F : FTy → Type) where
  x : Dev nD → S2x128x512.Idx → Elt F .f32
  wq : Dev nD → S512x256.Idx → Elt F .f32
  k : Dev nD → S256x1024.Idx → Elt F .f32
  v : Dev nD → S256x1024.Idx → Elt F .f32
  wo : Dev nD → S256x512.Idx → Elt F .f32

/-! ## Loads -/

/-- A batch's rows of the keys or of the values. -/
def ldR {α : Type} (f : S256x1024.Idx → α) (r : ℕ) (h : ∀ a, (![r, 0] : Fin 2 → ℕ) a + S128x1024.size a ≤ S256x1024.size a) : S128x1024.Idx → α := fun i =>
  f ((Rect.unit (s := S256x1024) ![r, 0] S128x1024.size h).emb i)
/-- A tile of what was gathered. -/
def ldT {α : Type} (f : S4x256x256.Idx → α) (s b p : ℕ) (h : ∀ a, (![s, b, p] : Fin 3 → ℕ) a + S1x128x128.size a ≤ S4x256x256.size a) : S1x128x128.Idx → α := fun i =>
  f ((Rect.unit (s := S4x256x256) ![s, b, p] S1x128x128.size h).emb i)
def ldX {α : Type} (f : S2x128x512.Idx → α) : S2x128x512.Idx → α := fun i =>
  f ((Rect.unit (s := S2x128x512) ![0, 0, 0] S2x128x512.size inb_S2x128x512_S2x128x512_0_0_0).emb i)
def ldQ {α : Type} (f : S512x256.Idx → α) : S512x256.Idx → α := fun i =>
  f ((Rect.unit (s := S512x256) ![0, 0] S512x256.size inb_S512x256_S512x256_0_0).emb i)
def ldO {α : Type} (f : S256x512.Idx → α) : S256x512.Idx → α := fun i =>
  f ((Rect.unit (s := S256x512) ![0, 0] S256x512.size inb_S256x512_S256x512_0_0).emb i)
/-- A batch of the output parts. -/
def ldP {α : Type} (f : S2x128x512.Idx → α) (b : ℕ) (h : ∀ a, (![b, 0, 0] : Fin 3 → ℕ) a + S1x128x512.size a ≤ S2x128x512.size a) : S1x128x512.Idx → α := fun i =>
  f ((Rect.unit (s := S2x128x512) ![b, 0, 0] S1x128x512.size h).emb i)
/-- A batch of a received output part. -/
def ldA {α : Type} (f : S3x2x128x512.Idx → α) (s b : ℕ) (h : ∀ a, (![s, b, 0, 0] : Fin 4 → ℕ) a + S1x1x128x512.size a ≤ S3x2x128x512.size a) : S1x1x128x512.Idx → α := fun i =>
  f ((Rect.unit (s := S3x2x128x512) ![s, b, 0, 0] S1x1x128x512.size h).emb i)

/-! ## Values -/

/-- The queries. -/
def qV (x : S2x128x512.Idx → Elt F .f32) (wq : S512x256.Idx → Elt F .f32) : FVec F S256x256 .bf16 := k0_pay8 (k0_pay6 (ldX x)) (k0_pay7 (ldQ wq))
/-- The mask, with the keys in the order gathered. -/
def maskV (c : Dev nD) : IVec S128x512 1 := k0_pay9 (Scalar.remsi (Scalar.divsi (Dev.word c) 1#32) 4#32)

section Rows
variable (q : FVec F S256x256 .bf16) (m : IVec S128x512 1) (g w : S4x256x256.Idx → Elt F .bf16) (wo : S256x512.Idx → Elt F .f32)
/-- The first head of batch 0; the second. -/
def h0 : FVec F S128x64 .f32 :=
  (k0_pay19 m (k0_pay10 (ldT g 0 0 0 inb_S4x256x256_S1x128x128_0_0_0)) (k0_pay11 (ldT g 1 0 0 inb_S4x256x256_S1x128x128_1_0_0)) (k0_pay12 (ldT g 2 0 0 inb_S4x256x256_S1x128x128_2_0_0)) (k0_pay13 (ldT g 3 0 0 inb_S4x256x256_S1x128x128_3_0_0)) (k0_pay14 (ldT w 0 0 0 inb_S4x256x256_S1x128x128_0_0_0)) (k0_pay15 (ldT w 1 0 0 inb_S4x256x256_S1x128x128_1_0_0)) (k0_pay16 (ldT w 2 0 0 inb_S4x256x256_S1x128x128_2_0_0)) (k0_pay17 (ldT w 3 0 0 inb_S4x256x256_S1x128x128_3_0_0)) (k0_pay18 q))
def h1 : FVec F S128x64 .f32 :=
  (k0_pay23 (k0_pay20 (k0_pay14 (ldT w 0 0 0 inb_S4x256x256_S1x128x128_0_0_0)) (k0_pay15 (ldT w 1 0 0 inb_S4x256x256_S1x128x128_1_0_0)) (k0_pay16 (ldT w 2 0 0 inb_S4x256x256_S1x128x128_2_0_0)) (k0_pay17 (ldT w 3 0 0 inb_S4x256x256_S1x128x128_3_0_0))) (k0_pay21 q m (k0_pay10 (ldT g 0 0 0 inb_S4x256x256_S1x128x128_0_0_0)) (k0_pay11 (ldT g 1 0 0 inb_S4x256x256_S1x128x128_1_0_0)) (k0_pay12 (ldT g 2 0 0 inb_S4x256x256_S1x128x128_2_0_0)) (k0_pay13 (ldT g 3 0 0 inb_S4x256x256_S1x128x128_3_0_0))) (k0_pay22 q m (k0_pay10 (ldT g 0 0 0 inb_S4x256x256_S1x128x128_0_0_0)) (k0_pay11 (ldT g 1 0 0 inb_S4x256x256_S1x128x128_1_0_0)) (k0_pay12 (ldT g 2 0 0 inb_S4x256x256_S1x128x128_2_0_0)) (k0_pay13 (ldT g 3 0 0 inb_S4x256x256_S1x128x128_3_0_0))))
/-- The four heads of batch 0. -/
def ctx0 : FVec F S128x256 .f32 :=
  (k0_pay37 q m (h0 q m g w) (h1 q m g w) (k0_pay24 (ldT g 0 0 128 inb_S4x256x256_S1x128x128_0_0_128)) (k0_pay25 (ldT g 1 0 128 inb_S4x256x256_S1x128x128_1_0_128)) (k0_pay26 (ldT g 2 0 128 inb_S4x256x256_S1x128x128_2_0_128)) (k0_pay27 (ldT g 3 0 128 inb_S4x256x256_S1x128x128_3_0_128)) (k0_pay28 (ldT w 0 0 128 inb_S4x256x256_S1x128x128_0_0_128)) (k0_pay29 (ldT w 1 0 128 inb_S4x256x256_S1x128x128_1_0_128)) (k0_pay30 (ldT w 2 0 128 inb_S4x256x256_S1x128x128_2_0_128)) (k0_pay31 (ldT w 3 0 128 inb_S4x256x256_S1x128x128_3_0_128)) (k0_pay32 q) (k0_pay33 (ldT g 0 0 128 inb_S4x256x256_S1x128x128_0_0_128) (ldT g 1 0 128 inb_S4x256x256_S1x128x128_1_0_128) (ldT g 2 0 128 inb_S4x256x256_S1x128x128_2_0_128) (ldT g 3 0 128 inb_S4x256x256_S1x128x128_3_0_128)) (k0_pay34 (ldT w 0 0 128 inb_S4x256x256_S1x128x128_0_0_128)) (k0_pay35 (ldT w 1 0 128 inb_S4x256x256_S1x128x128_1_0_128)) (k0_pay36 (ldT w 2 0 128 inb_S4x256x256_S1x128x128_2_0_128)))
/-- Batch 0 of the output part. -/
def row0 : FVec F S1x128x512 .bf16 :=
  k0_pay38 (ctx0 q m g w) (ldO wo)
/-- The first head of batch 1; the second. -/
def h4 : FVec F S128x64 .f32 :=
  (k0_pay47 q m (k0_pay39 (ldT g 0 128 0 inb_S4x256x256_S1x128x128_0_128_0)) (k0_pay40 (ldT g 1 128 0 inb_S4x256x256_S1x128x128_1_128_0)) (k0_pay41 (ldT g 2 128 0 inb_S4x256x256_S1x128x128_2_128_0)) (ldT g 3 128 0 inb_S4x256x256_S1x128x128_3_128_0) (ldT w 0 128 0 inb_S4x256x256_S1x128x128_0_128_0) (ldT w 1 128 0 inb_S4x256x256_S1x128x128_1_128_0) (ldT w 2 128 0 inb_S4x256x256_S1x128x128_2_128_0) (ldT w 3 128 0 inb_S4x256x256_S1x128x128_3_128_0))
def h5 : FVec F S128x64 .f32 :=
  (k0_pay53 m (k0_pay43 (ldT w 0 128 0 inb_S4x256x256_S1x128x128_0_128_0)) (k0_pay44 (ldT w 1 128 0 inb_S4x256x256_S1x128x128_1_128_0)) (k0_pay45 (ldT w 2 128 0 inb_S4x256x256_S1x128x128_2_128_0)) (k0_pay46 (ldT w 3 128 0 inb_S4x256x256_S1x128x128_3_128_0)) (k0_pay48 q) (k0_pay49 (k0_pay39 (ldT g 0 128 0 inb_S4x256x256_S1x128x128_0_128_0))) (k0_pay50 (k0_pay40 (ldT g 1 128 0 inb_S4x256x256_S1x128x128_1_128_0))) (k0_pay51 (k0_pay41 (ldT g 2 128 0 inb_S4x256x256_S1x128x128_2_128_0))) (k0_pay52 (ldT g 3 128 0 inb_S4x256x256_S1x128x128_3_128_0)))
/-- The third; then the values and the scores of the fourth. -/
def h6 : FVec F S128x64 .f32 :=
  (k0_pay62 q m (k0_pay54 (ldT g 0 128 128 inb_S4x256x256_S1x128x128_0_128_128)) (k0_pay55 (ldT g 1 128 128 inb_S4x256x256_S1x128x128_1_128_128)) (k0_pay56 (ldT g 2 128 128 inb_S4x256x256_S1x128x128_2_128_128)) (k0_pay57 (ldT g 3 128 128 inb_S4x256x256_S1x128x128_3_128_128)) (k0_pay58 (ldT w 0 128 128 inb_S4x256x256_S1x128x128_0_128_128)) (ldT w 1 128 128 inb_S4x256x256_S1x128x128_1_128_128) (ldT w 2 128 128 inb_S4x256x256_S1x128x128_2_128_128) (ldT w 3 128 128 inb_S4x256x256_S1x128x128_3_128_128))
def h7v : FVec F S512x64 .bf16 :=
  (k0_pay63 (k0_pay58 (ldT w 0 128 128 inb_S4x256x256_S1x128x128_0_128_128)) (ldT w 1 128 128 inb_S4x256x256_S1x128x128_1_128_128) (ldT w 2 128 128 inb_S4x256x256_S1x128x128_2_128_128) (ldT w 3 128 128 inb_S4x256x256_S1x128x128_3_128_128))
def h7s : FVec F S128x512 .f32 :=
  (k0_pay64 q (k0_pay54 (ldT g 0 128 128 inb_S4x256x256_S1x128x128_0_128_128)) (k0_pay55 (ldT g 1 128 128 inb_S4x256x256_S1x128x128_1_128_128)) (k0_pay56 (ldT g 2 128 128 inb_S4x256x256_S1x128x128_2_128_128)) (k0_pay57 (ldT g 3 128 128 inb_S4x256x256_S1x128x128_3_128_128)))
/-- Batch 1 of the output part. -/
def row1 : FVec F S1x128x512 .bf16 :=
  k0_pay65 m (h4 q m g w) (h5 q m g w) (h6 q m g w) (h7v w) (h7s q g) (ldO wo)
end Rows

variable (I : Ins F) (c : Dev nD)

/-- The converted keys; the values. -/
def k16F (I : Ins F) (c : Dev nD) : S256x1024.Idx → Elt F .bf16 := truncf (s := S256x1024) .bf16 (I.k c) bitsLt_bf16_f32
def v16F (I : Ins F) (c : Dev nD) : S256x1024.Idx → Elt F .bf16 := truncf (s := S256x1024) .bf16 (I.v c) bitsLt_bf16_f32
def qI : FVec F S256x256 .bf16 := qV (I.x c) (I.wq c)
def gI : S4x256x256.Idx → Elt F .bf16 := gath (k16F I) c
def wI : S4x256x256.Idx → Elt F .bf16 := gath (v16F I) c
/-- A device's output part. -/
def partF (I : Ins F) (c : Dev nD) : S2x128x512.Idx → Elt F .bf16 := fun i =>
  if (i 0).val = 0 then row0 (qI I c) (maskV c) (gI I c) (wI I c) (I.wo c) (ix3 (n0 := 1) (n1 := 128) (n2 := 512) 0 (i 1) (i 2))
  else row1 (qI I c) (maskV c) (gI I c) (wI I c) (I.wo c) (ix3 (n0 := 1) (n1 := 128) (n2 := 512) 0 (i 1) (i 2))
/-- What the buffers hold. -/
def held : Held F := ⟨k16F I, v16F I, partF I⟩
/-- The batches of the result. -/
def out0 : FVec F S1x128x512 .f32 := k0_pay66 (ldP (partF I c) 0 inb_S2x128x512_S1x128x512_0_0_0) (ldA (accOf (partF I) c) 0 0 inb_S3x2x128x512_S1x1x128x512_0_0_0_0)
  (ldA (accOf (partF I) c) 1 0 inb_S3x2x128x512_S1x1x128x512_1_0_0_0) (ldA (accOf (partF I) c) 2 0 inb_S3x2x128x512_S1x1x128x512_2_0_0_0)
def out1 : FVec F S1x128x512 .f32 := k0_pay1 (k0_pay68 (k0_pay67 (ldP (partF I c) 1 inb_S2x128x512_S1x128x512_1_0_0) (ldA (accOf (partF I) c) 0 1 inb_S3x2x128x512_S1x1x128x512_0_1_0_0))
  (ldA (accOf (partF I) c) 1 1 inb_S3x2x128x512_S1x1x128x512_1_1_0_0) (ldA (accOf (partF I) c) 2 1 inb_S3x2x128x512_S1x1x128x512_2_1_0_0))
def outF : S2x128x512.Idx → Elt F .f32 := fun i =>
  if (i 0).val = 0 then out0 I c (ix3 (n0 := 1) (n1 := 128) (n2 := 512) 0 (i 1) (i 2)) else out1 I c (ix3 (n0 := 1) (n1 := 128) (n2 := 512) 0 (i 1) (i 2))

theorem pay2_eq (y) : k0_pay2 (ldR (I.k c) 0 inb_S256x1024_S128x1024_0_0) y
    = k16F I c ((Rect.unit (s := S256x1024) ![0, 0] S128x1024.size inb_S256x1024_S128x1024_0_0).emb y) := by
  unfold k0_pay2; dsimp only; rw [shapeCast_self, shapeCast_self]; rfl
theorem pay3_eq (y) : k0_pay3 (ldR (I.v c) 0 inb_S256x1024_S128x1024_0_0) y
    = v16F I c ((Rect.unit (s := S256x1024) ![0, 0] S128x1024.size inb_S256x1024_S128x1024_0_0).emb y) := by
  unfold k0_pay3; dsimp only; rw [shapeCast_self, shapeCast_self]; rfl
theorem pay4_eq (y) : k0_pay4 (ldR (I.k c) 128 inb_S256x1024_S128x1024_128_0) y
    = k16F I c ((Rect.unit (s := S256x1024) ![128, 0] S128x1024.size inb_S256x1024_S128x1024_128_0).emb y) := by
  unfold k0_pay4; dsimp only; rw [shapeCast_self, shapeCast_self]; rfl
theorem pay5_eq (y) : k0_pay5 (ldR (I.v c) 128 inb_S256x1024_S128x1024_128_0) y
    = v16F I c ((Rect.unit (s := S256x1024) ![128, 0] S128x1024.size inb_S256x1024_S128x1024_128_0).emb y) := by
  unfold k0_pay5; dsimp only; rw [shapeCast_self, shapeCast_self]; rfl

theorem emb_row (r : ℕ) (h : ∀ a, (![r, 0, 0] : Fin 3 → ℕ) a + S1x128x512.size a ≤ S2x128x512.size a) (y : S1x128x512.Idx) : ((Rect.unit (s := S2x128x512) ![r, 0, 0] S1x128x512.size h).emb y 0).val = r
    ∧ ix3 (n0 := 1) (n1 := 128) (n2 := 512) 0 ((Rect.unit (s := S2x128x512) ![r, 0, 0] S1x128x512.size h).emb y 1) ((Rect.unit (s := S2x128x512) ![r, 0, 0] S1x128x512.size h).emb y 2) = y := by
  have h0 : (y 0).val < 1 := (y 0).isLt
  constructor
  · show r + 1 * (y 0).val = r; omega
  · funext a
    fin_cases a
    · exact Fin.ext (by show 0 = (y 0).val; omega)
    · exact Fin.ext (by show 0 + 1 * (y 1).val = (y 1).val; omega)
    · exact Fin.ext (by show 0 + 1 * (y 2).val = (y 2).val; omega)

theorem row0_eq (y) : row0 (qI I c) (maskV c) (gI I c) (wI I c) (I.wo c) y
    = partF I c ((Rect.unit (s := S2x128x512) ![0, 0, 0] S1x128x512.size inb_S2x128x512_S1x128x512_0_0_0).emb y) := by
  have h := emb_row 0 inb_S2x128x512_S1x128x512_0_0_0 y
  unfold partF; rw [if_pos h.1, h.2]
theorem row1_eq (y) : row1 (qI I c) (maskV c) (gI I c) (wI I c) (I.wo c) y
    = partF I c ((Rect.unit (s := S2x128x512) ![1, 0, 0] S1x128x512.size inb_S2x128x512_S1x128x512_1_0_0).emb y) := by
  have h := emb_row 1 inb_S2x128x512_S1x128x512_1_0_0 y
  unfold partF; rw [if_neg (by rw [h.1]; decide), h.2]
theorem out0_eq (y) : out0 I c y = outF I c ((Rect.unit (s := S2x128x512) ![0, 0, 0] S1x128x512.size inb_S2x128x512_S1x128x512_0_0_0).emb y) := by
  have h := emb_row 0 inb_S2x128x512_S1x128x512_0_0_0 y
  unfold outF; rw [if_pos h.1, h.2]
theorem out1_eq (y) : out1 I c y = outF I c ((Rect.unit (s := S2x128x512) ![1, 0, 0] S1x128x512.size inb_S2x128x512_S1x128x512_1_0_0).emb y) := by
  have h := emb_row 1 inb_S2x128x512_S1x128x512_1_0_0 y
  unfold outF; rw [if_neg (by rw [h.1]; decide), h.2]

end Cert.KernelIdealRun

end
-- ==== Proof.Steps.lean ====
/-
# The program's loads and stores

What each vector load of the kernel reads and what each vector store leaves, by buffer.
-/
module

public import proofs.«01_k».proof.Proof.Vals

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (T : Held F) (K : GSem nD τ sig → ℕ) (c : Dev nD) {α : Type} {Q : α → sProp (MT nD τ sig Unit (Elt F) ℕ UU ℕ)}

theorem stage3_borrow {M : Type} [URA M] {J : Type} [Fintype J] [DecidableEq J] (ord : J → ℕ) (Φ Ψ Χ : J → sProp M) (j : J) {w i : ℕ}
    (hw : ord j < w) : stage3 ord Φ Ψ Χ w i ⊢ iprop(Χ j ∗ (Χ j -∗ stage3 ord Φ Ψ Χ w i)) := by
  unfold stage3
  refine (fam_change _ _ j fun x _ => rfl).trans (Entails.of_eq ?_)
  rw [if_pos hw]

theorem mem_unit {s : Shape} (off size : Fin s.rank → ℕ) (h) {i : s.Idx} (hi : i ∈ bx off size) :
    ∃ y, (Rect.unit (s := s) off size h).emb y = i := by
  rw [← unit_set off size h, ← Rect.map_emb_univ] at hi
  obtain ⟨y, -, hy⟩ := Finset.mem_map.mp hi
  exact ⟨y, hy⟩

/-! ## The staged inputs -/

abbrev xM : Memref sig .tc .vmem S2x128x512 .f32 := Memref.whole cc0_stg0_0
abbrev wqM : Memref sig .tc .vmem S512x256 .f32 := Memref.whole cc0_stg1_0
abbrev kinM : Memref sig .tc .vmem S256x1024 .f32 := Memref.whole cc0_stg2_0
abbrev vinM : Memref sig .tc .vmem S256x1024 .f32 := Memref.whole cc0_stg3_0
abbrev woM : Memref sig .tc .vmem S256x512 .f32 := Memref.whole cc0_stg4_0
abbrev outM : Memref sig .tc .vmem S2x128x512 .f32 := Memref.whole cc0_stg5_0

theorem loadX {f} {h} {hl} (k : _ → Prog (TpuEff nD τ sig (Elt F) Λ₀ .tc) α) :
    ((c : Thread nD τ).loc cc0_stg0_0 ↦{fullShare} f)
      ⊢ iprop((((c : Thread nD τ).loc cc0_stg0_0 ↦{fullShare} f) -∗ wp frame (wpE (defs₀ (F := F)) 𝒱₀ (c : Thread nD τ) none) Set.univ (k (ldX f)) Q)
        -∗ wp frame (wpE (defs₀ (F := F)) 𝒱₀ (c : Thread nD τ) none) Set.univ (.op (.load xM (Rect.unit (s := S2x128x512) ![0, 0, 0] S2x128x512.size h).toLoadRect hl) k) Q) := by
  iintro H Hk
  iapply (wp_load 𝒱₀ (c : Thread nD τ) none Set.univ (m := xM) (S := Finset.univ) (f := f) (Finset.subset_univ _)) $$ H
  iintro H
  rw [show xM.view.readAt (Elt F) (Rect.unit (s := S2x128x512) ![0, 0, 0] S2x128x512.size h).toLoadRect f = ldX f from rfl]
  iapply Hk $$ H

theorem loadQ {f} {h} {hl} (k : _ → Prog (TpuEff nD τ sig (Elt F) Λ₀ .tc) α) :
    ((c : Thread nD τ).loc cc0_stg1_0 ↦{fullShare} f)
      ⊢ iprop((((c : Thread nD τ).loc cc0_stg1_0 ↦{fullShare} f) -∗ wp frame (wpE (defs₀ (F := F)) 𝒱₀ (c : Thread nD τ) none) Set.univ (k (ldQ f)) Q)
        -∗ wp frame (wpE (defs₀ (F := F)) 𝒱₀ (c : Thread nD τ) none) Set.univ (.op (.load wqM (Rect.unit (s := S512x256) ![0, 0] S512x256.size h).toLoadRect hl) k) Q) := by
  iintro H Hk
  iapply (wp_load 𝒱₀ (c : Thread nD τ) none Set.univ (m := wqM) (S := Finset.univ) (f := f) (Finset.subset_univ _)) $$ H
  iintro H
  rw [show wqM.view.readAt (Elt F) (Rect.unit (s := S512x256) ![0, 0] S512x256.size h).toLoadRect f = ldQ f from rfl]
  iapply Hk $$ H

theorem loadO {f} {h} {hl} (k : _ → Prog (TpuEff nD τ sig (Elt F) Λ₀ .tc) α) :
    ((c : Thread nD τ).loc cc0_stg4_0 ↦{fullShare} f)
      ⊢ iprop((((c : Thread nD τ).loc cc0_stg4_0 ↦{fullShare} f) -∗ wp frame (wpE (defs₀ (F := F)) 𝒱₀ (c : Thread nD τ) none) Set.univ (k (ldO f)) Q)
        -∗ wp frame (wpE (defs₀ (F := F)) 𝒱₀ (c : Thread nD τ) none) Set.univ (.op (.load woM (Rect.unit (s := S256x512) ![0, 0] S256x512.size h).toLoadRect hl) k) Q) := by
  iintro H Hk
  iapply (wp_load 𝒱₀ (c : Thread nD τ) none Set.univ (m := woM) (S := Finset.univ) (f := f) (Finset.subset_univ _)) $$ H
  iintro H
  rw [show woM.view.readAt (Elt F) (Rect.unit (s := S256x512) ![0, 0] S256x512.size h).toLoadRect f = ldO f from rfl]
  iapply Hk $$ H

theorem loadKin {f} {r : ℕ} {h : ∀ a, (![r, 0] : Fin 2 → ℕ) a + S128x1024.size a ≤ S256x1024.size a} {hl} (k : _ → Prog (TpuEff nD τ sig (Elt F) Λ₀ .tc) α) :
    ((c : Thread nD τ).loc cc0_stg2_0 ↦{fullShare} f)
      ⊢ iprop((((c : Thread nD τ).loc cc0_stg2_0 ↦{fullShare} f) -∗ wp frame (wpE (defs₀ (F := F)) 𝒱₀ (c : Thread nD τ) none) Set.univ (k (ldR f r h)) Q)
        -∗ wp frame (wpE (defs₀ (F := F)) 𝒱₀ (c : Thread nD τ) none) Set.univ (.op (.load kinM (Rect.unit (s := S256x1024) ![r, 0] S128x1024.size h).toLoadRect hl) k) Q) := by
  iintro H Hk
  iapply (wp_load 𝒱₀ (c : Thread nD τ) none Set.univ (m := kinM) (S := Finset.univ) (f := f) (Finset.subset_univ _)) $$ H
  iintro H
  rw [show kinM.view.readAt (Elt F) (Rect.unit (s := S256x1024) ![r, 0] S128x1024.size h).toLoadRect f = ldR f r h from rfl]
  iapply Hk $$ H

theorem loadVin {f} {r : ℕ} {h : ∀ a, (![r, 0] : Fin 2 → ℕ) a + S128x1024.size a ≤ S256x1024.size a} {hl} (k : _ → Prog (TpuEff nD τ sig (Elt F) Λ₀ .tc) α) :
    ((c : Thread nD τ).loc cc0_stg3_0 ↦{fullShare} f)
      ⊢ iprop((((c : Thread nD τ).loc cc0_stg3_0 ↦{fullShare} f) -∗ wp frame (wpE (defs₀ (F := F)) 𝒱₀ (c : Thread nD τ) none) Set.univ (k (ldR f r h)) Q)
        -∗ wp frame (wpE (defs₀ (F := F)) 𝒱₀ (c : Thread nD τ) none) Set.univ (.op (.load vinM (Rect.unit (s := S256x1024) ![r, 0] S128x1024.size h).toLoadRect hl) k) Q) := by
  iintro H Hk
  iapply (wp_load 𝒱₀ (c : Thread nD τ) none Set.univ (m := vinM) (S := Finset.univ) (f := f) (Finset.subset_univ _)) $$ H
  iintro H
  rw [show vinM.view.readAt (Elt F) (Rect.unit (s := S256x1024) ![r, 0] S128x1024.size h).toLoadRect f = ldR f r h from rfl]
  iapply Hk $$ H

/-! ## Loads whose result is not used, and the stores after them -/

theorem deadK (b : Fin 2) {r : ℕ} (hr : r = 128 * b.val) {h hl} (k : _ → Prog (TpuEff nD τ sig (Elt F) Λ₀ .tc) α) :
    iprop(∃ f, (c : Thread nD τ).loc cc0_scratch0 ↦[rows b]{fullShare} f)
      ⊢ iprop(((∃ f, (c : Thread nD τ).loc cc0_scratch0 ↦[rows b]{fullShare} f) -∗ ∀ v, wp frame (wpE (defs₀ (F := F)) 𝒱₀ (c : Thread nD τ) none) Set.univ (k v) Q)
        -∗ wp frame (wpE (defs₀ (F := F)) 𝒱₀ (c : Thread nD τ) none) Set.univ (.op (.load k16M (Rect.unit (s := S256x1024) ![r, 0] S128x1024.size h).toLoadRect hl) k) Q) := by
  subst hr
  iintro ⟨%f, H⟩ Hk
  iapply (wp_load 𝒱₀ (c : Thread nD τ) none Set.univ (m := k16M) (f := f) (S := rows b) (le_of_eq (by
    rw [unit_set]; exact Finset.map_refl))) $$ H
  iintro H
  iapply Hk $$ [H]
  iexists f; iexact H
theorem storeK (b : Fin 2) {r : ℕ} (hr : r = 128 * b.val) {h} (g : S256x1024.Idx → _) {w : S128x1024.Idx → _}
    (hw : ∀ y, w y = g ((Rect.unit (s := S256x1024) ![r, 0] S128x1024.size h).emb y)) {hx hm} (k : PUnit → Prog (TpuEff nD τ sig (Elt F) Λ₀ .tc) α) :
    iprop(∃ f, (c : Thread nD τ).loc cc0_scratch0 ↦[rows b]{fullShare} f)
      ⊢ iprop((((c : Thread nD τ).loc cc0_scratch0 ↦[rows b]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store k16M (Rect.unit (s := S256x1024) ![r, 0] S128x1024.size h) w Finset.univ hx hm) k) Q) := by
  subst hr
  iintro ⟨%f, H⟩ Hk
  iapply (wp_store 𝒱₀ (c : Thread nD τ) none Set.univ (m := k16M) (r := Rect.unit (s := S256x1024) ![128 * b.val, 0] S128x1024.size h) (Mk := Finset.univ) (f := f) (S := rows b) (le_of_eq (by
    rw [View.setOn_univ]; exact (Rect.map_emb_univ _).trans (unit_set _ _ _)))) $$ H
  iintro H
  ihave H' := (Entails.of_eq (show iprop((c : Thread nD τ).loc cc0_scratch0 ↦[rows b]{fullShare} (k16M.access (Rect.unit (s := S256x1024) ![128 * b.val, 0] S128x1024.size h)).write (Elt F) f w Finset.univ) = iprop((c : Thread nD τ).loc cc0_scratch0 ↦[rows b]{fullShare} g) from pointsTo_congr fun i hi => by
    obtain ⟨y, rfl⟩ := mem_unit _ _ h hi
    exact (View.write_emb_of_mem (v := k16M.access (Rect.unit (s := S256x1024) ![128 * b.val, 0] S128x1024.size h)) f w (Finset.mem_univ y)).trans (hw y))) $$ H
  iapply Hk $$ H'

theorem deadV (b : Fin 2) {r : ℕ} (hr : r = 128 * b.val) {h hl} (k : _ → Prog (TpuEff nD τ sig (Elt F) Λ₀ .tc) α) :
    iprop(∃ f, (c : Thread nD τ).loc cc0_scratch1 ↦[rows b]{fullShare} f)
      ⊢ iprop(((∃ f, (c : Thread nD τ).loc cc0_scratch1 ↦[rows b]{fullShare} f) -∗ ∀ v, wp frame (wpE (defs₀ (F := F)) 𝒱₀ (c : Thread nD τ) none) Set.univ (k v) Q)
        -∗ wp frame (wpE (defs₀ (F := F)) 𝒱₀ (c : Thread nD τ) none) Set.univ (.op (.load v16M (Rect.unit (s := S256x1024) ![r, 0] S128x1024.size h).toLoadRect hl) k) Q) := by
  subst hr
  iintro ⟨%f, H⟩ Hk
  iapply (wp_load 𝒱₀ (c : Thread nD τ) none Set.univ (m := v16M) (f := f) (S := rows b) (le_of_eq (by
    rw [unit_set]; exact Finset.map_refl))) $$ H
  iintro H
  iapply Hk $$ [H]
  iexists f; iexact H
theorem storeV (b : Fin 2) {r : ℕ} (hr : r = 128 * b.val) {h} (g : S256x1024.Idx → _) {w : S128x1024.Idx → _}
    (hw : ∀ y, w y = g ((Rect.unit (s := S256x1024) ![r, 0] S128x1024.size h).emb y)) {hx hm} (k : PUnit → Prog (TpuEff nD τ sig (Elt F) Λ₀ .tc) α) :
    iprop(∃ f, (c : Thread nD τ).loc cc0_scratch1 ↦[rows b]{fullShare} f)
      ⊢ iprop((((c : Thread nD τ).loc cc0_scratch1 ↦[rows b]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store v16M (Rect.unit (s := S256x1024) ![r, 0] S128x1024.size h) w Finset.univ hx hm) k) Q) := by
  subst hr
  iintro ⟨%f, H⟩ Hk
  iapply (wp_store 𝒱₀ (c : Thread nD τ) none Set.univ (m := v16M) (r := Rect.unit (s := S256x1024) ![128 * b.val, 0] S128x1024.size h) (Mk := Finset.univ) (f := f) (S := rows b) (le_of_eq (by
    rw [View.setOn_univ]; exact (Rect.map_emb_univ _).trans (unit_set _ _ _)))) $$ H
  iintro H
  ihave H' := (Entails.of_eq (show iprop((c : Thread nD τ).loc cc0_scratch1 ↦[rows b]{fullShare} (v16M.access (Rect.unit (s := S256x1024) ![128 * b.val, 0] S128x1024.size h)).write (Elt F) f w Finset.univ) = iprop((c : Thread nD τ).loc cc0_scratch1 ↦[rows b]{fullShare} g) from pointsTo_congr fun i hi => by
    obtain ⟨y, rfl⟩ := mem_unit _ _ h hi
    exact (View.write_emb_of_mem (v := v16M.access (Rect.unit (s := S256x1024) ![128 * b.val, 0] S128x1024.size h)) f w (Finset.mem_univ y)).trans (hw y))) $$ H
  iapply Hk $$ H'

theorem deadP (b : Fin 2) {r : ℕ} (hr : r = b.val) {h hl} (k : _ → Prog (TpuEff nD τ sig (Elt F) Λ₀ .tc) α) :
    iprop(∃ f, (c : Thread nD τ).loc cc0_scratch4 ↦[partSet b]{fullShare} f)
      ⊢ iprop(((∃ f, (c : Thread nD τ).loc cc0_scratch4 ↦[partSet b]{fullShare} f) -∗ ∀ v, wp frame (wpE (defs₀ (F := F)) 𝒱₀ (c : Thread nD τ) none) Set.univ (k v) Q)
        -∗ wp frame (wpE (defs₀ (F := F)) 𝒱₀ (c : Thread nD τ) none) Set.univ (.op (.load partM (Rect.unit (s := S2x128x512) ![r, 0, 0] S1x128x512.size h).toLoadRect hl) k) Q) := by
  subst hr
  iintro ⟨%f, H⟩ Hk
  iapply (wp_load 𝒱₀ (c : Thread nD τ) none Set.univ (m := partM) (f := f) (S := partSet b) (le_of_eq (by
    rw [unit_set]; exact Finset.map_refl))) $$ H
  iintro H
  iapply Hk $$ [H]
  iexists f; iexact H
theorem storeP (b : Fin 2) {r : ℕ} (hr : r = b.val) {h} (g : S2x128x512.Idx → _) {w : S1x128x512.Idx → _}
    (hw : ∀ y, w y = g ((Rect.unit (s := S2x128x512) ![r, 0, 0] S1x128x512.size h).emb y)) {hx hm} (k : PUnit → Prog (TpuEff nD τ sig (Elt F) Λ₀ .tc) α) :
    iprop(∃ f, (c : Thread nD τ).loc cc0_scratch4 ↦[partSet b]{fullShare} f)
      ⊢ iprop((((c : Thread nD τ).loc cc0_scratch4 ↦[partSet b]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store partM (Rect.unit (s := S2x128x512) ![r, 0, 0] S1x128x512.size h) w Finset.univ hx hm) k) Q) := by
  subst hr
  iintro ⟨%f, H⟩ Hk
  iapply (wp_store 𝒱₀ (c : Thread nD τ) none Set.univ (m := partM) (r := Rect.unit (s := S2x128x512) ![b.val, 0, 0] S1x128x512.size h) (Mk := Finset.univ) (f := f) (S := partSet b) (le_of_eq (by
    rw [View.setOn_univ]; exact (Rect.map_emb_univ _).trans (unit_set _ _ _)))) $$ H
  iintro H
  ihave H' := (Entails.of_eq (show iprop((c : Thread nD τ).loc cc0_scratch4 ↦[partSet b]{fullShare} (partM.access (Rect.unit (s := S2x128x512) ![b.val, 0, 0] S1x128x512.size h)).write (Elt F) f w Finset.univ) = iprop((c : Thread nD τ).loc cc0_scratch4 ↦[partSet b]{fullShare} g) from pointsTo_congr fun i hi => by
    obtain ⟨y, rfl⟩ := mem_unit _ _ h hi
    exact (View.write_emb_of_mem (v := partM.access (Rect.unit (s := S2x128x512) ![b.val, 0, 0] S1x128x512.size h)) f w (Finset.mem_univ y)).trans (hw y))) $$ H
  iapply Hk $$ H'

theorem deadY (b : Fin 2) {r : ℕ} (hr : r = b.val) {h hl} (k : _ → Prog (TpuEff nD τ sig (Elt F) Λ₀ .tc) α) :
    iprop(∃ f, (c : Thread nD τ).loc cc0_stg5_0 ↦[partSet b]{fullShare} f)
      ⊢ iprop(((∃ f, (c : Thread nD τ).loc cc0_stg5_0 ↦[partSet b]{fullShare} f) -∗ ∀ v, wp frame (wpE (defs₀ (F := F)) 𝒱₀ (c : Thread nD τ) none) Set.univ (k v) Q)
        -∗ wp frame (wpE (defs₀ (F := F)) 𝒱₀ (c : Thread nD τ) none) Set.univ (.op (.load outM (Rect.unit (s := S2x128x512) ![r, 0, 0] S1x128x512.size h).toLoadRect hl) k) Q) := by
  subst hr
  iintro ⟨%f, H⟩ Hk
  iapply (wp_load 𝒱₀ (c : Thread nD τ) none Set.univ (m := outM) (f := f) (S := partSet b) (le_of_eq (by
    rw [unit_set]; exact Finset.map_refl))) $$ H
  iintro H
  iapply Hk $$ [H]
  iexists f; iexact H
theorem storeY (b : Fin 2) {r : ℕ} (hr : r = b.val) {h} (g : S2x128x512.Idx → _) {w : S1x128x512.Idx → _}
    (hw : ∀ y, w y = g ((Rect.unit (s := S2x128x512) ![r, 0, 0] S1x128x512.size h).emb y)) {hx hm} (k : PUnit → Prog (TpuEff nD τ sig (Elt F) Λ₀ .tc) α) :
    iprop(∃ f, (c : Thread nD τ).loc cc0_stg5_0 ↦[partSet b]{fullShare} f)
      ⊢ iprop((((c : Thread nD τ).loc cc0_stg5_0 ↦[partSet b]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store outM (Rect.unit (s := S2x128x512) ![r, 0, 0] S1x128x512.size h) w Finset.univ hx hm) k) Q) := by
  subst hr
  iintro ⟨%f, H⟩ Hk
  iapply (wp_store 𝒱₀ (c : Thread nD τ) none Set.univ (m := outM) (r := Rect.unit (s := S2x128x512) ![b.val, 0, 0] S1x128x512.size h) (Mk := Finset.univ) (f := f) (S := partSet b) (le_of_eq (by
    rw [View.setOn_univ]; exact (Rect.map_emb_univ _).trans (unit_set _ _ _)))) $$ H
  iintro H
  ihave H' := (Entails.of_eq (show iprop((c : Thread nD τ).loc cc0_stg5_0 ↦[partSet b]{fullShare} (outM.access (Rect.unit (s := S2x128x512) ![b.val, 0, 0] S1x128x512.size h)).write (Elt F) f w Finset.univ) = iprop((c : Thread nD τ).loc cc0_stg5_0 ↦[partSet b]{fullShare} g) from pointsTo_congr fun i hi => by
    obtain ⟨y, rfl⟩ := mem_unit _ _ h hi
    exact (View.write_emb_of_mem (v := outM.access (Rect.unit (s := S2x128x512) ![b.val, 0, 0] S1x128x512.size h)) f w (Finset.mem_univ y)).trans (hw y))) $$ H
  iapply Hk $$ H'

/-! ## Loads of what has landed -/

theorem loadG (b p : Fin 2) (d : Fin 3) {w i r u m v : ℕ} (hr : kvOrd (b, p, d, 0) < r) {s o1 o2 : ℕ} (hs : s = 3 - d.val) (h1 : o1 = 128 * b.val) (h2 : o2 = 128 * p.val)
    {h : ∀ a, (![s, o1, o2] : Fin 3 → ℕ) a + S1x128x128.size a ≤ S4x256x256.size a} {hl} (k : _ → Prog (TpuEff nD τ sig (Elt F) Λ₀ .tc) α) :
    Comm T K c w i r u m v
      ⊢ iprop((Comm T K c w i r u m v -∗ wp frame (wpE (defs₀ (F := F)) 𝒱₀ (c : Thread nD τ) none) Set.univ (k (ldT (gath T.k16 c) s o1 o2 h)) Q)
        -∗ wp frame (wpE (defs₀ (F := F)) 𝒱₀ (c : Thread nD τ) none) Set.univ (.op (.load kallM (Rect.unit (s := S4x256x256) ![s, o1, o2] S1x128x128.size h).toLoadRect hl) k) Q) := by
  subst hs; subst h1; subst h2
  unfold Comm
  iintro ⟨HA, HB, HC, HD, HE⟩ Hk
  ihave HD' := (stage2_borrow kvOrd (kvDue c) (kvIn T c) (b, p, d, 0) hr) $$ HD
  icases HD' with ⟨Hj, HD⟩
  ihave Hj' := (Entails.of_eq (show kvIn T c (b, p, d, 0) = iprop(semVal (dcell c (kvRcv (b, p, d, 0))) 0 ∗ kvGot T c (b, p, d, 0)) from rfl)) $$ Hj
  icases Hj' with ⟨Hs, Hg⟩
  ihave Hg' := (Entails.of_eq (show kvGot T c (b, p, d, 0) = iprop((c : Thread nD τ).loc cc0_scratch2 ↦[dstSet b p d]{fullShare} gath T.k16 c) from if_pos rfl)) $$ Hg
  iapply (wp_load 𝒱₀ (c : Thread nD τ) none Set.univ (m := kallM) (le_of_eq (by
    rw [unit_set]; exact Finset.map_refl))) $$ Hg'
  iintro Hg
  rw [show kallM.view.readAt (Elt F) (Rect.unit (s := S4x256x256) ![3 - d.val, 128 * b.val, 128 * p.val] S1x128x128.size h).toLoadRect (gath T.k16 c) = ldT (gath T.k16 c) (3 - d.val) (128 * b.val) (128 * p.val) h from rfl]
  ihave Hg' := (Entails.of_eq (show iprop((c : Thread nD τ).loc cc0_scratch2 ↦[dstSet b p d]{fullShare} gath T.k16 c) = kvGot T c (b, p, d, 0) from (if_pos rfl).symm)) $$ Hg
  ihave HD' := HD $$ [Hs Hg']
  · unfold kvIn
    isplitl [Hs]; · iexact Hs
    iexact Hg'
  iapply Hk
  isplitl [HA]; · iexact HA
  isplitl [HB]; · iexact HB
  isplitl [HC]; · iexact HC
  isplitl [HD']; · iexact HD'
  iexact HE
theorem loadG0 {o1 o2 : ℕ} {h : ∀ a, (![0, o1, o2] : Fin 3 → ℕ) a + S1x128x128.size a ≤ S4x256x256.size a} {hl}
    (k : _ → Prog (TpuEff nD τ sig (Elt F) Λ₀ .tc) α) :
    locDone T c 0
      ⊢ iprop((locDone T c 0 -∗ wp frame (wpE (defs₀ (F := F)) 𝒱₀ (c : Thread nD τ) none) Set.univ (k (ldT (gath T.k16 c) 0 o1 o2 h)) Q)
        -∗ wp frame (wpE (defs₀ (F := F)) 𝒱₀ (c : Thread nD τ) none) Set.univ (.op (.load kallM (Rect.unit (s := S4x256x256) ![0, o1, o2] S1x128x128.size h).toLoadRect hl) k) Q) := by
  unfold locDone
  iintro ⟨Hs, Hp⟩ Hk
  ihave Hp' := (Entails.of_eq (show locPay T c 0 = iprop(((c : Thread nD τ).loc cc0_scratch2 ↦[slot0]{fullShare} gath T.k16 c) ∗ (c : Thread nD τ).loc cc0_scratch0 ↦[ownSet c]{fullShare} T.k16 c) from if_pos rfl)) $$ Hp
  icases Hp' with ⟨H1, H2⟩
  iapply (wp_load 𝒱₀ (c : Thread nD τ) none Set.univ (m := kallM) (S := slot0) (f := gath T.k16 c) (by
    rw [unit_set]; refine (le_of_eq Finset.map_refl).trans ?_
    intro i hi
    have hi := (mem_bx3 (n0 := 4) (n1 := 256) (n2 := 256)).mp hi
    have a1 : (i 1).val < 256 := (i 1).isLt
    have a2 : (i 2).val < 256 := (i 2).isLt
    exact (mem_bx3 (n0 := 4) (n1 := 256) (n2 := 256)).mpr ⟨⟨by omega, by omega⟩, ⟨by omega, by omega⟩, ⟨by omega, by omega⟩⟩)) $$ H1
  iintro H1
  rw [show kallM.view.readAt (Elt F) (Rect.unit (s := S4x256x256) ![0, o1, o2] S1x128x128.size h).toLoadRect (gath T.k16 c) = ldT (gath T.k16 c) 0 o1 o2 h from rfl]
  iapply Hk
  isplitl [Hs]; · iexact Hs
  iapply (Entails.of_eq (show iprop(((c : Thread nD τ).loc cc0_scratch2 ↦[slot0]{fullShare} gath T.k16 c) ∗ (c : Thread nD τ).loc cc0_scratch0 ↦[ownSet c]{fullShare} T.k16 c) = locPay T c 0 from (if_pos rfl).symm))
  isplitl [H1]; · iexact H1
  iexact H2

theorem loadW (b p : Fin 2) (d : Fin 3) {w i r u m v : ℕ} (hr : kvOrd (b, p, d, 1) < r) {s o1 o2 : ℕ} (hs : s = 3 - d.val) (h1 : o1 = 128 * b.val) (h2 : o2 = 128 * p.val)
    {h : ∀ a, (![s, o1, o2] : Fin 3 → ℕ) a + S1x128x128.size a ≤ S4x256x256.size a} {hl} (k : _ → Prog (TpuEff nD τ sig (Elt F) Λ₀ .tc) α) :
    Comm T K c w i r u m v
      ⊢ iprop((Comm T K c w i r u m v -∗ wp frame (wpE (defs₀ (F := F)) 𝒱₀ (c : Thread nD τ) none) Set.univ (k (ldT (gath T.v16 c) s o1 o2 h)) Q)
        -∗ wp frame (wpE (defs₀ (F := F)) 𝒱₀ (c : Thread nD τ) none) Set.univ (.op (.load vallM (Rect.unit (s := S4x256x256) ![s, o1, o2] S1x128x128.size h).toLoadRect hl) k) Q) := by
  subst hs; subst h1; subst h2
  unfold Comm
  iintro ⟨HA, HB, HC, HD, HE⟩ Hk
  ihave HD' := (stage2_borrow kvOrd (kvDue c) (kvIn T c) (b, p, d, 1) hr) $$ HD
  icases HD' with ⟨Hj, HD⟩
  ihave Hj' := (Entails.of_eq (show kvIn T c (b, p, d, 1) = iprop(semVal (dcell c (kvRcv (b, p, d, 1))) 0 ∗ kvGot T c (b, p, d, 1)) from rfl)) $$ Hj
  icases Hj' with ⟨Hs, Hg⟩
  ihave Hg' := (Entails.of_eq (show kvGot T c (b, p, d, 1) = iprop((c : Thread nD τ).loc cc0_scratch3 ↦[dstSet b p d]{fullShare} gath T.v16 c) from if_neg (show ¬ (1 : Fin 2) = 0 by decide))) $$ Hg
  iapply (wp_load 𝒱₀ (c : Thread nD τ) none Set.univ (m := vallM) (le_of_eq (by
    rw [unit_set]; exact Finset.map_refl))) $$ Hg'
  iintro Hg
  rw [show vallM.view.readAt (Elt F) (Rect.unit (s := S4x256x256) ![3 - d.val, 128 * b.val, 128 * p.val] S1x128x128.size h).toLoadRect (gath T.v16 c) = ldT (gath T.v16 c) (3 - d.val) (128 * b.val) (128 * p.val) h from rfl]
  ihave Hg' := (Entails.of_eq (show iprop((c : Thread nD τ).loc cc0_scratch3 ↦[dstSet b p d]{fullShare} gath T.v16 c) = kvGot T c (b, p, d, 1) from (if_neg (show ¬ (1 : Fin 2) = 0 by decide)).symm)) $$ Hg
  ihave HD' := HD $$ [Hs Hg']
  · unfold kvIn
    isplitl [Hs]; · iexact Hs
    iexact Hg'
  iapply Hk
  isplitl [HA]; · iexact HA
  isplitl [HB]; · iexact HB
  isplitl [HC]; · iexact HC
  isplitl [HD']; · iexact HD'
  iexact HE
theorem loadW0 {o1 o2 : ℕ} {h : ∀ a, (![0, o1, o2] : Fin 3 → ℕ) a + S1x128x128.size a ≤ S4x256x256.size a} {hl}
    (k : _ → Prog (TpuEff nD τ sig (Elt F) Λ₀ .tc) α) :
    locDone T c 1
      ⊢ iprop((locDone T c 1 -∗ wp frame (wpE (defs₀ (F := F)) 𝒱₀ (c : Thread nD τ) none) Set.univ (k (ldT (gath T.v16 c) 0 o1 o2 h)) Q)
        -∗ wp frame (wpE (defs₀ (F := F)) 𝒱₀ (c : Thread nD τ) none) Set.univ (.op (.load vallM (Rect.unit (s := S4x256x256) ![0, o1, o2] S1x128x128.size h).toLoadRect hl) k) Q) := by
  unfold locDone
  iintro ⟨Hs, Hp⟩ Hk
  ihave Hp' := (Entails.of_eq (show locPay T c 1 = iprop(((c : Thread nD τ).loc cc0_scratch3 ↦[slot0]{fullShare} gath T.v16 c) ∗ (c : Thread nD τ).loc cc0_scratch1 ↦[ownSet c]{fullShare} T.v16 c) from if_neg (show ¬ (1 : Fin 2) = 0 by decide))) $$ Hp
  icases Hp' with ⟨H1, H2⟩
  iapply (wp_load 𝒱₀ (c : Thread nD τ) none Set.univ (m := vallM) (S := slot0) (f := gath T.v16 c) (by
    rw [unit_set]; refine (le_of_eq Finset.map_refl).trans ?_
    intro i hi
    have hi := (mem_bx3 (n0 := 4) (n1 := 256) (n2 := 256)).mp hi
    have a1 : (i 1).val < 256 := (i 1).isLt
    have a2 : (i 2).val < 256 := (i 2).isLt
    exact (mem_bx3 (n0 := 4) (n1 := 256) (n2 := 256)).mpr ⟨⟨by omega, by omega⟩, ⟨by omega, by omega⟩, ⟨by omega, by omega⟩⟩)) $$ H1
  iintro H1
  rw [show vallM.view.readAt (Elt F) (Rect.unit (s := S4x256x256) ![0, o1, o2] S1x128x128.size h).toLoadRect (gath T.v16 c) = ldT (gath T.v16 c) 0 o1 o2 h from rfl]
  iapply Hk
  isplitl [Hs]; · iexact Hs
  iapply (Entails.of_eq (show iprop(((c : Thread nD τ).loc cc0_scratch3 ↦[slot0]{fullShare} gath T.v16 c) ∗ (c : Thread nD τ).loc cc0_scratch1 ↦[ownSet c]{fullShare} T.v16 c) = locPay T c 1 from (if_neg (show ¬ (1 : Fin 2) = 0 by decide)).symm))
  isplitl [H1]; · iexact H1
  iexact H2

theorem loadA (b : Fin 2) (d : Fin 3) {w i r u m v : ℕ} (hr : arOrd (b, d) < v) {s o1 : ℕ} (hs : s = 2 - d.val) (h1 : o1 = b.val)
    {h : ∀ a, (![s, o1, 0, 0] : Fin 4 → ℕ) a + S1x1x128x512.size a ≤ S3x2x128x512.size a} {hl} (k : _ → Prog (TpuEff nD τ sig (Elt F) Λ₀ .tc) α) :
    Comm T K c w i r u m v
      ⊢ iprop((Comm T K c w i r u m v -∗ wp frame (wpE (defs₀ (F := F)) 𝒱₀ (c : Thread nD τ) none) Set.univ (k (ldA (accOf T.part c) s o1 h)) Q)
        -∗ wp frame (wpE (defs₀ (F := F)) 𝒱₀ (c : Thread nD τ) none) Set.univ (.op (.load accM (Rect.unit (s := S3x2x128x512) ![s, o1, 0, 0] S1x1x128x512.size h).toLoadRect hl) k) Q) := by
  subst hs; subst h1
  unfold Comm
  iintro ⟨HA, HB, HC, HD, HE, HF, HG⟩ Hk
  ihave HF' := (stage2_borrow arOrd (arDue c) (arIn T c) (b, d) hr) $$ HF
  icases HF' with ⟨Hj, HF⟩
  ihave Hj' := (Entails.of_eq (show arIn T c (b, d) = iprop(semVal (dcell c (arRcv (b, d))) 0 ∗ arGot T c (b, d)) from rfl)) $$ Hj
  icases Hj' with ⟨Hs, Hg⟩
  ihave Hg' := (Entails.of_eq (show arGot T c (b, d) = iprop((c : Thread nD τ).loc cc0_scratch5 ↦[accSet b d]{fullShare} accOf T.part c) from rfl)) $$ Hg
  iapply (wp_load 𝒱₀ (c : Thread nD τ) none Set.univ (m := accM) (le_of_eq (by
    rw [unit_set]; exact Finset.map_refl))) $$ Hg'
  iintro Hg
  rw [show accM.view.readAt (Elt F) (Rect.unit (s := S3x2x128x512) ![2 - d.val, b.val, 0, 0] S1x1x128x512.size h).toLoadRect (accOf T.part c) = ldA (accOf T.part c) (2 - d.val) b.val h from rfl]
  ihave Hg' := (Entails.of_eq (show iprop((c : Thread nD τ).loc cc0_scratch5 ↦[accSet b d]{fullShare} accOf T.part c) = arGot T c (b, d) from rfl)) $$ Hg
  ihave HF' := HF $$ [Hs Hg']
  · unfold arIn
    isplitl [Hs]; · iexact Hs
    iexact Hg'
  iapply Hk
  isplitl [HA]; · iexact HA
  isplitl [HB]; · iexact HB
  isplitl [HC]; · iexact HC
  isplitl [HD]; · iexact HD
  isplitl [HE]; · iexact HE
  isplitl [HF']; · iexact HF'
  iexact HG
theorem loadP (b : Fin 2) {w i r u m v : ℕ} (hu : arOrd (b, 0) < u) {o1 : ℕ} (h1 : o1 = b.val)
    {h : ∀ a, (![o1, 0, 0] : Fin 3 → ℕ) a + S1x128x512.size a ≤ S2x128x512.size a} {hl} (k : _ → Prog (TpuEff nD τ sig (Elt F) Λ₀ .tc) α) :
    Comm T K c w i r u m v
      ⊢ iprop((Comm T K c w i r u m v -∗ wp frame (wpE (defs₀ (F := F)) 𝒱₀ (c : Thread nD τ) none) Set.univ (k (ldP (T.part c) o1 h)) Q)
        -∗ wp frame (wpE (defs₀ (F := F)) 𝒱₀ (c : Thread nD τ) none) Set.univ (.op (.load partM (Rect.unit (s := S2x128x512) ![o1, 0, 0] S1x128x512.size h).toLoadRect hl) k) Q) := by
  subst h1
  unfold Comm
  iintro ⟨HA, HB, HC, HD, HE, HG⟩ Hk
  ihave HE' := (stage3_borrow arOrd (arNew c) (arOut c) (arBack T c) (b, 0) hu) $$ HE
  icases HE' with ⟨Hj, HE⟩
  ihave Hj' := (Entails.of_eq (show arBack T c (b, 0) = iprop(semVal (dcell c (arSnd (b, 0))) 0 ∗ arSrc T c (b, 0)) from rfl)) $$ Hj
  icases Hj' with ⟨Hs, Hg⟩
  ihave Hg' := (Entails.of_eq (show arSrc T c (b, 0) = iprop((c : Thread nD τ).loc cc0_scratch4 ↦[partSet b]{shr 0} T.part c) from rfl)) $$ Hg
  iapply (wp_load 𝒱₀ (c : Thread nD τ) none Set.univ (m := partM) (le_of_eq (by
    rw [unit_set]; exact Finset.map_refl))) $$ Hg'
  iintro Hg
  rw [show partM.view.readAt (Elt F) (Rect.unit (s := S2x128x512) ![b.val, 0, 0] S1x128x512.size h).toLoadRect (T.part c) = ldP (T.part c) b.val h from rfl]
  ihave Hg' := (Entails.of_eq (show iprop((c : Thread nD τ).loc cc0_scratch4 ↦[partSet b]{shr 0} T.part c) = arSrc T c (b, 0) from rfl)) $$ Hg
  ihave HE' := HE $$ [Hs Hg']
  · unfold arBack
    isplitl [Hs]; · iexact Hs
    iexact Hg'
  iapply Hk
  isplitl [HA]; · iexact HA
  isplitl [HB]; · iexact HB
  isplitl [HC]; · iexact HC
  isplitl [HD]; · iexact HD
  isplitl [HE']; · iexact HE'
  iexact HG

end Cert.KernelIdealRun

end
-- ==== Proof.Ops.lean ====
/-
# Names the program computes, and the stages it passes through

The devices, offsets and semaphores of the transfers in closed form; the state before the barrier and the one after it;
a converted batch as the sources of its transfers.
-/
module

public import proofs.«01_k».proof.Proof.Steps

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (T : Held F) (K : GSem nD τ sig → ℕ) (c : Dev nD) {α : Type} {Q : α → sProp (MT nD τ sig Unit (Elt F) ℕ UU ℕ)}

/-! ## Devices and offsets -/

theorem dev1 : (⟨k0_dev1 c, k0_dev1_lt c⟩ : Dev nD) = peer c 0 := Fin.ext ((k0_dev1_eq c).trans rfl)
theorem dev2 : (⟨k0_dev2 c, k0_dev2_lt c⟩ : Dev nD) = peer c 1 := Fin.ext ((k0_dev2_eq c).trans rfl)
theorem dev3 : (⟨k0_dev3 c, k0_dev3_lt c⟩ : Dev nD) = peer c 2 := Fin.ext ((k0_dev3_eq c).trans rfl)
theorem dev4 : (⟨k0_dev4 c, k0_dev4_lt c⟩ : Dev nD) = peer c 0 := Fin.ext ((k0_dev4_eq c).trans rfl)
theorem dev5 : (⟨k0_dev5 c, k0_dev5_lt c⟩ : Dev nD) = peer c 0 := Fin.ext ((k0_dev5_eq c).trans rfl)
theorem dev6 : (⟨k0_dev6 c, k0_dev6_lt c⟩ : Dev nD) = peer c 1 := Fin.ext ((k0_dev6_eq c).trans rfl)
theorem dev7 : (⟨k0_dev7 c, k0_dev7_lt c⟩ : Dev nD) = peer c 1 := Fin.ext ((k0_dev7_eq c).trans rfl)
theorem dev8 : (⟨k0_dev8 c, k0_dev8_lt c⟩ : Dev nD) = peer c 2 := Fin.ext ((k0_dev8_eq c).trans rfl)
theorem dev9 : (⟨k0_dev9 c, k0_dev9_lt c⟩ : Dev nD) = peer c 2 := Fin.ext ((k0_dev9_eq c).trans rfl)
theorem dev10 : (⟨k0_dev10 c, k0_dev10_lt c⟩ : Dev nD) = peer c 0 := Fin.ext ((k0_dev10_eq c).trans rfl)
theorem dev11 : (⟨k0_dev11 c, k0_dev11_lt c⟩ : Dev nD) = peer c 0 := Fin.ext ((k0_dev11_eq c).trans rfl)
theorem dev12 : (⟨k0_dev12 c, k0_dev12_lt c⟩ : Dev nD) = peer c 1 := Fin.ext ((k0_dev12_eq c).trans rfl)
theorem dev13 : (⟨k0_dev13 c, k0_dev13_lt c⟩ : Dev nD) = peer c 1 := Fin.ext ((k0_dev13_eq c).trans rfl)
theorem dev14 : (⟨k0_dev14 c, k0_dev14_lt c⟩ : Dev nD) = peer c 2 := Fin.ext ((k0_dev14_eq c).trans rfl)
theorem dev15 : (⟨k0_dev15 c, k0_dev15_lt c⟩ : Dev nD) = peer c 2 := Fin.ext ((k0_dev15_eq c).trans rfl)
theorem dev16 : (⟨k0_dev16 c, k0_dev16_lt c⟩ : Dev nD) = peer c 0 := Fin.ext ((k0_dev16_eq c).trans rfl)
theorem dev17 : (⟨k0_dev17 c, k0_dev17_lt c⟩ : Dev nD) = peer c 0 := Fin.ext ((k0_dev17_eq c).trans rfl)
theorem dev18 : (⟨k0_dev18 c, k0_dev18_lt c⟩ : Dev nD) = peer c 1 := Fin.ext ((k0_dev18_eq c).trans rfl)
theorem dev19 : (⟨k0_dev19 c, k0_dev19_lt c⟩ : Dev nD) = peer c 1 := Fin.ext ((k0_dev19_eq c).trans rfl)
theorem dev20 : (⟨k0_dev20 c, k0_dev20_lt c⟩ : Dev nD) = peer c 2 := Fin.ext ((k0_dev20_eq c).trans rfl)
theorem dev21 : (⟨k0_dev21 c, k0_dev21_lt c⟩ : Dev nD) = peer c 2 := Fin.ext ((k0_dev21_eq c).trans rfl)
theorem dev22 : (⟨k0_dev22 c, k0_dev22_lt c⟩ : Dev nD) = peer c 0 := Fin.ext ((k0_dev22_eq c).trans rfl)
theorem dev23 : (⟨k0_dev23 c, k0_dev23_lt c⟩ : Dev nD) = peer c 0 := Fin.ext ((k0_dev23_eq c).trans rfl)
theorem dev24 : (⟨k0_dev24 c, k0_dev24_lt c⟩ : Dev nD) = peer c 1 := Fin.ext ((k0_dev24_eq c).trans rfl)
theorem dev25 : (⟨k0_dev25 c, k0_dev25_lt c⟩ : Dev nD) = peer c 1 := Fin.ext ((k0_dev25_eq c).trans rfl)
theorem dev26 : (⟨k0_dev26 c, k0_dev26_lt c⟩ : Dev nD) = peer c 2 := Fin.ext ((k0_dev26_eq c).trans rfl)
theorem dev27 : (⟨k0_dev27 c, k0_dev27_lt c⟩ : Dev nD) = peer c 2 := Fin.ext ((k0_dev27_eq c).trans rfl)
theorem dev28 : (⟨k0_dev28 c, k0_dev28_lt c⟩ : Dev nD) = peer c 0 := Fin.ext ((k0_dev28_eq c).trans rfl)
theorem dev29 : (⟨k0_dev29 c, k0_dev29_lt c⟩ : Dev nD) = peer c 1 := Fin.ext ((k0_dev29_eq c).trans rfl)
theorem dev30 : (⟨k0_dev30 c, k0_dev30_lt c⟩ : Dev nD) = peer c 2 := Fin.ext ((k0_dev30_eq c).trans rfl)
theorem dev31 : (⟨k0_dev31 c, k0_dev31_lt c⟩ : Dev nD) = peer c 0 := Fin.ext ((k0_dev31_eq c).trans rfl)
theorem dev32 : (⟨k0_dev32 c, k0_dev32_lt c⟩ : Dev nD) = peer c 1 := Fin.ext ((k0_dev32_eq c).trans rfl)
theorem dev33 : (⟨k0_dev33 c, k0_dev33_lt c⟩ : Dev nD) = peer c 2 := Fin.ext ((k0_dev33_eq c).trans rfl)
theorem off1_0_0 : k0_off1 c 1#32 0#32 = ![128 * (0 : Fin 2).val, 256 * (peer c 0).val + 128 * (0 : Fin 2).val] := (k0_off1_eq c 0 0).trans rfl
theorem off1_0_1 : k0_off1 c 1#32 128#32 = ![128 * (0 : Fin 2).val, 256 * (peer c 0).val + 128 * (1 : Fin 2).val] := (k0_off1_eq c 0 1).trans rfl
theorem off1_1_0 : k0_off1 c 2#32 0#32 = ![128 * (0 : Fin 2).val, 256 * (peer c 1).val + 128 * (0 : Fin 2).val] := (k0_off1_eq c 1 0).trans rfl
theorem off1_1_1 : k0_off1 c 2#32 128#32 = ![128 * (0 : Fin 2).val, 256 * (peer c 1).val + 128 * (1 : Fin 2).val] := (k0_off1_eq c 1 1).trans rfl
theorem off1_2_0 : k0_off1 c 3#32 0#32 = ![128 * (0 : Fin 2).val, 256 * (peer c 2).val + 128 * (0 : Fin 2).val] := (k0_off1_eq c 2 0).trans rfl
theorem off1_2_1 : k0_off1 c 3#32 128#32 = ![128 * (0 : Fin 2).val, 256 * (peer c 2).val + 128 * (1 : Fin 2).val] := (k0_off1_eq c 2 1).trans rfl
theorem off2_0_0 : k0_off2 c 1#32 0#32 = ![128 * (1 : Fin 2).val, 256 * (peer c 0).val + 128 * (0 : Fin 2).val] := (k0_off2_eq c 0 0).trans rfl
theorem off2_0_1 : k0_off2 c 1#32 128#32 = ![128 * (1 : Fin 2).val, 256 * (peer c 0).val + 128 * (1 : Fin 2).val] := (k0_off2_eq c 0 1).trans rfl
theorem off2_1_0 : k0_off2 c 2#32 0#32 = ![128 * (1 : Fin 2).val, 256 * (peer c 1).val + 128 * (0 : Fin 2).val] := (k0_off2_eq c 1 0).trans rfl
theorem off2_1_1 : k0_off2 c 2#32 128#32 = ![128 * (1 : Fin 2).val, 256 * (peer c 1).val + 128 * (1 : Fin 2).val] := (k0_off2_eq c 1 1).trans rfl
theorem off2_2_0 : k0_off2 c 3#32 0#32 = ![128 * (1 : Fin 2).val, 256 * (peer c 2).val + 128 * (0 : Fin 2).val] := (k0_off2_eq c 2 0).trans rfl
theorem off2_2_1 : k0_off2 c 3#32 128#32 = ![128 * (1 : Fin 2).val, 256 * (peer c 2).val + 128 * (1 : Fin 2).val] := (k0_off2_eq c 2 1).trans rfl

/-! ## The barrier -/

/-- A transfer before the barrier: without the right to write where it lands. -/
def kvPre (j : KV) : sProp 𝕄 :=
  iprop(dutyTok ER (dcell c (kvSnd j)) 0 0 ∗ dutyTok ER (dcell (peer c j.2.2.1) (kvRcv j)) 0 0
    ∗ reached ER (dcell c (kvSnd j)) 0 ∗ atPos ER (dcell c (kvSnd j)) 0 ∅ 0)
def arPre (j : AR) : sProp 𝕄 :=
  iprop(dutyTok ER (dcell c (arSnd j)) 0 0 ∗ dutyTok ER (dcell (peer c j.2) (arRcv j)) 0 0
    ∗ reached ER (dcell c (arSnd j)) 0 ∗ atPos ER (dcell c (arSnd j)) 0 ∅ 0)
/-- Every transfer before the barrier. -/
def Pre : sProp 𝕄 :=
  iprop((bigSep Finset.univ (kvPre (F := F) c)) ∗ (bigSep Finset.univ (kvDue (F := F) c)) ∗ (bigSep Finset.univ (arPre (F := F) c)) ∗ bigSep Finset.univ (arDue (F := F) c))

theorem kv_new (j : KV) : iprop(kvPre (F := F) c j ∗ kvGift (F := F) (peer c j.2.2.1) j) ⊢ kvNew (F := F) c j := by
  unfold kvPre kvNew
  iintro ⟨⟨H1, H2, H3, H4⟩, H5⟩
  isplitl [H1]; · iexact H1
  isplitl [H2]; · iexact H2
  isplitl [H5]; · iexact H5
  isplitl [H3]; · iexact H3
  iexact H4
theorem kv_news : iprop((bigSep Finset.univ (kvPre (F := F) c)) ∗ bigSep Finset.univ fun j : KV => kvGift (F := F) (peer c j.2.2.1) j)
    ⊢ bigSep Finset.univ (kvNew (F := F) c) := by
  rw [← bigSep_sep']
  exact bigSep_mono fun j _ => kv_new c j
theorem ar_new (j : AR) : iprop(arPre (F := F) c j ∗ arGift (F := F) (peer c j.2) j) ⊢ arNew (F := F) c j := by
  unfold arPre arNew
  iintro ⟨⟨H1, H2, H3, H4⟩, H5⟩
  isplitl [H1]; · iexact H1
  isplitl [H2]; · iexact H2
  isplitl [H5]; · iexact H5
  isplitl [H3]; · iexact H3
  iexact H4
theorem ar_news : iprop((bigSep Finset.univ (arPre (F := F) c)) ∗ bigSep Finset.univ fun j : AR => arGift (F := F) (peer c j.2) j)
    ⊢ bigSep Finset.univ (arNew (F := F) c) := by
  rw [← bigSep_sep']
  exact bigSep_mono fun j _ => ar_new c j

/-- The wait for the peers' signals. -/
theorem barrier_comm {s : Sem sig} (hs : s = barS) (k : PUnit → Prog (TpuEff nD τ sig (Elt F) Λ₀ .tc) α) :
    iprop(levAts L lv ∗ invs T K ∗ (∃ W, owes (c : Thread nD τ) (owed c 3 0 0) W) ∗ cred (tallyAt (bcell c) () 3) ∗ atPos ER (bcell c) 0 ∅ 0 ∗ Pre c)
      ⊢ iprop((Comm T K c 0 0 0 0 0 0 ∗ semVal (bcell c) 0 -∗ wp frame (wpE (defs₀ (F := F)) 𝒱₀ (c : Thread nD τ) none) Set.univ (k ⟨⟩) Q)
      -∗ wp frame (wpE (defs₀ (F := F)) 𝒱₀ (c : Thread nD τ) none) Set.univ (.op (.semWait s 3) k) Q) := by
  unfold Pre
  iintro ⟨#Hlev, #HI, HO, Hc, Hat, Hk, Hd, Ha, He⟩ HK
  iapply (barrier T K c hs k) $$ [HO Hc Hat]
  · isplitr; · iexact Hlev
    isplitr; · iexact HI
    isplitl [HO]; · iexact HO
    isplitl [Hc]; · iexact Hc
    iexact Hat
  iintro ⟨HO, Hz, HP⟩
  ihave HP' := (Entails.of_eq (barPay_all (F := F) c)) $$ HP
  icases HP' with ⟨Hg, Hh⟩
  ihave Hk' := (kv_news (F := F) c) $$ [Hk Hg]
  · isplitl [Hk]; · iexact Hk
    iexact Hg
  ihave Ha' := (ar_news (F := F) c) $$ [Ha Hh]
  · isplitl [Ha]; · iexact Ha
    iexact Hh
  iapply HK
  isplitr [Hz]; swap; · iexact Hz
  unfold Comm
  rw [stage3_none, stage3_none, stage2_none, stage2_none]
  isplitr; · iexact Hlev
  isplitr; · iexact HI
  isplitl [Hk']; · iexact Hk'
  isplitl [Hd]; · iexact Hd
  isplitl [Ha']; · iexact Ha'
  isplitl [He]; · iexact He
  iexact HO

/-! ## Sources -/

theorem split2 {B : Type} [Fintype B] [DecidableEq B] (Φ : Fin 2 × B → sProp 𝕄) :
    bigSep Finset.univ Φ = iprop((bigSep Finset.univ fun x => Φ (0, x)) ∗ bigSep Finset.univ fun x => Φ (1, x)) := by
  rw [bigSep_univ_prod, bigSep_fin_two]; rfl

def batchEquiv : Fin 2 × (Fin 2 × Fin 3) ≃ Fin 2 × Fin 3 × Fin 2 :=
  ⟨fun x => (x.2.1, x.2.2, x.1), fun y => (y.2.2, y.1, y.2.1), fun _ => rfl, fun _ => rfl⟩

theorem batch_srcs (b : Fin 2) :
    (iprop((bigSep Finset.univ fun x : Fin 2 × Fin 3 => ((c : Thread nD τ).loc cc0_scratch0 ↦[srcSet c b x.1 x.2]{fullShare} T.k16 c))
      ∗ bigSep Finset.univ fun x : Fin 2 × Fin 3 => ((c : Thread nD τ).loc cc0_scratch1 ↦[srcSet c b x.1 x.2]{fullShare} T.v16 c)) : sProp 𝕄)
    = bigSep Finset.univ fun x : Fin 2 × Fin 3 × Fin 2 => kvSrc T c (b, x) := by
  exact Eq.symm ((bigSep_univ_equiv batchEquiv (fun x => kvSrc T c (b, x))).trans (split2 _))

theorem srcs0 : (bigSep Finset.univ fun x : Fin 2 × Fin 3 × Fin 2 => kvSrc T c (0, x)) ⊢ Srcs T c 0 0 := by
  unfold Srcs
  rw [stage2_none]
  refine (?_ : _ ⊢ _).trans (Entails.of_eq (split2 (B := Fin 2 × Fin 3 × Fin 2) _).symm)
  have h : (bigSep Finset.univ fun x : Fin 2 × Fin 3 × Fin 2 => if ((1 : Fin 2), x).1 = 0 then kvSrc T c (1, x) else iprop(emp)) = (iprop(emp) : sProp 𝕄) :=
    (bigSep_congr fun x _ => if_neg (show ¬ (1 : Fin 2) = 0 by decide)).trans (bigSep_emp_const _)
  rw [h]
  iintro H
  isplitl [H]
  · iapply (Entails.of_eq (bigSep_congr fun x _ => (if_pos rfl).symm)) $$ H
  iempintro
theorem srcs1 : (bigSep Finset.univ fun x : Fin 2 × Fin 3 × Fin 2 => kvSrc T c (1, x)) ⊢ Srcs T c 1 12 := by
  unfold Srcs stage2
  refine (?_ : _ ⊢ _).trans (Entails.of_eq (split2 (B := Fin 2 × Fin 3 × Fin 2) _).symm)
  have h0 : ∀ x : Fin 2 × Fin 3 × Fin 2, kvOrd (0, x) < 12 := by decide
  have h1 : ∀ x : Fin 2 × Fin 3 × Fin 2, ¬ kvOrd (1, x) < 12 := by decide
  have e0 : (bigSep Finset.univ fun x : Fin 2 × Fin 3 × Fin 2 => if kvOrd (0, x) < 12 then (iprop(emp) : sProp 𝕄)
      else if ((0 : Fin 2), x).1 = 1 then kvSrc T c (0, x) else iprop(emp)) = iprop(emp) :=
    (bigSep_congr fun x _ => if_pos (h0 x)).trans (bigSep_emp_const _)
  rw [e0]
  iintro H
  isplitr; · iempintro
  iapply (Entails.of_eq (bigSep_congr fun x _ => ((if_neg (h1 x)).trans (if_pos rfl)).symm)) $$ H

/-- A converted batch: its transfers' sources, and the columns kept. -/
theorem batch (b : Fin 2) : iprop(((c : Thread nD τ).loc cc0_scratch0 ↦[rows b]{fullShare} T.k16 c) ∗ ((c : Thread nD τ).loc cc0_scratch1 ↦[rows b]{fullShare} T.v16 c))
    ⊢ iprop((bigSep Finset.univ fun x : Fin 2 × Fin 3 × Fin 2 => kvSrc T c (b, x))
      ∗ ((c : Thread nD τ).loc cc0_scratch0 ↦[ownRows c b]{fullShare} T.k16 c) ∗ (c : Thread nD τ).loc cc0_scratch1 ↦[ownRows c b]{fullShare} T.v16 c) := by
  rw [k_rows c b, v_rows c b, ← batch_srcs T c b]
  iintro ⟨⟨H1, H2⟩, H3, H4⟩
  isplitl [H1 H3]
  · isplitl [H1]; · iexact H1
    iexact H3
  isplitl [H2]; · iexact H2
  iexact H4

/-! ## What a wait is credited -/

theorem credT (m : Memref sig .tc .vmem S128x128 .bf16) : m.view.dmaCredit = NT :=
  show RefSig.tileCredit S128x128 .bf16 = RefSig.tileCredit S1x128x128 .bf16 by decide
theorem credL (m : Memref sig .tc .vmem S256x256 .bf16) : m.view.dmaCredit = NL :=
  show RefSig.tileCredit S256x256 .bf16 = RefSig.tileCredit S1x256x256 .bf16 by decide
theorem credA (m : Memref sig .tc .vmem S128x512 .bf16) : m.view.dmaCredit = NA :=
  show RefSig.tileCredit S128x512 .bf16 = RefSig.tileCredit S1x1x128x512 .bf16 by decide

end Cert.KernelIdealRun

end
-- ==== Proof.Parts1.lean ====
/-
# The program, parts 1 to 8

What each part of the kernel takes and gives back, operation by operation.
-/
module

public import proofs.«01_k».proof.Proof.Ops

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

theorem part1_wp {Kt : (Σ' (d0 : Dev nD) (v2 : BitVec 32), Sems sig S_) → sProp (MT nD τ sig Unit (Elt F) ℕ UU ℕ)}   :
    iprop(invs (held I) K ∗ (∃ W, owes (c : Thread nD τ) (owed c 0 0 0) W) ∗ (dutyTok ER (bcell (peer c 0)) 0 (back 0) ∗ barPay (F := F) (peer c 0) (back 0) ∗ reached ER (bcell (peer c 0)) 0) ∗ (dutyTok ER (bcell (peer c 1)) 0 (back 1) ∗ barPay (F := F) (peer c 1) (back 1) ∗ reached ER (bcell (peer c 1)) 0) ∗ (dutyTok ER (bcell (peer c 2)) 0 (back 2) ∗ barPay (F := F) (peer c 2) (back 2) ∗ reached ER (bcell (peer c 2)) 0) ∗ ((c : Thread nD τ).loc cc0_stg2_0 ↦{fullShare} I.k c) ∗ (∃ f, ((c : Thread nD τ).loc cc0_scratch0 ↦[rows 0]{fullShare} f)) ∗ ((c : Thread nD τ).loc cc0_stg3_0 ↦{fullShare} I.v c) ∗ (∃ f, ((c : Thread nD τ).loc cc0_scratch1 ↦[rows 0]{fullShare} f))) ⊢ iprop(((∃ W, owes (c : Thread nD τ) (owed c 3 0 0) W) ∗ ((c : Thread nD τ).loc cc0_stg2_0 ↦{fullShare} I.k c) ∗ ((c : Thread nD τ).loc cc0_stg3_0 ↦{fullShare} I.v c) ∗ ((c : Thread nD τ).loc cc0_scratch0 ↦[ownRows c 0]{fullShare} (held I).k16 c) ∗ ((c : Thread nD τ).loc cc0_scratch1 ↦[ownRows c 0]{fullShare} (held I).v16 c) ∗ Srcs (held I) c 0 0 -∗ Kt ⟨c, Scalar.remsi (Scalar.divsi (Dev.word c) 1#32) 4#32, SemArray.scalar (sig.barrier 0 rfl)⟩)
      -∗ wp frame (wpE (defs₀ (F := F)) 𝒱₀ (c : Thread nD τ) none) Set.univ (k0_part1 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 ) Kt) := by
  rw [k0_part1_eq_skeleton]; unfold k0_part1_skel
  simp only [semSignalWord, semWaitWord, Prog.lift, Prog.bind_op, Prog.bind_ret, Prog.pure_eq_ret, wp_deviceId]
  iintro ⟨#HI, HW, Hsg0, Hsg1, Hsg2, HKi, HK0, HVi, HV0⟩ Hk
  iapply (signal (held I) K c 0 (dev1 c) rfl _) $$ [HW Hsg0]
  · isplitr; · iexact HI
    isplitl [HW]; · iexact HW
    iexact Hsg0
  iintro HW
  iapply (signal (held I) K c 1 (dev2 c) rfl _) $$ [HW Hsg1]
  · isplitr; · iexact HI
    isplitl [HW]; · iexact HW
    iexact Hsg1
  iintro HW
  iapply (signal (held I) K c 2 (dev3 c) rfl _) $$ [HW Hsg2]
  · isplitr; · iexact HI
    isplitl [HW]; · iexact HW
    iexact Hsg2
  iintro HW
  iapply (loadKin c _) $$ HKi
  iintro HKi
  iapply (deadK c 0 rfl _) $$ HK0
  iintro HK0 %v19
  iapply (storeK c 0 rfl ((held I).k16 c) (fun y => pay2_eq I c y) _) $$ HK0
  iintro HKs0
  iapply (loadVin c _) $$ HVi
  iintro HVi
  iapply (deadV c 0 rfl _) $$ HV0
  iintro HV0 %v25
  iapply (storeV c 0 rfl ((held I).v16 c) (fun y => pay3_eq I c y) _) $$ HV0
  iintro HVs0
  ihave HB := (batch (held I) c 0) $$ [HKs0 HVs0]
  · isplitl [HKs0]; · iexact HKs0
    iexact HVs0
  icases HB with ⟨HB, HKo0, HVo0⟩
  ihave HS := (srcs0 (held I) c) $$ HB
  rw [wp_ret]; imodintro
  iapply Hk $$ [HW HKi HVi HKo0 HVo0 HS]
  · isplitl [HW]; · iexact HW
    isplitl [HKi]; · iexact HKi
    isplitl [HVi]; · iexact HVi
    isplitl [HKo0]; · iexact HKo0
    isplitl [HVo0]; · iexact HVo0
    iexact HS

theorem part2_wp {Kt : (BitVec 32) → sProp (MT nD τ sig Unit (Elt F) ℕ UU ℕ)} (v2 : BitVec 32)  :
    iprop(levAts L lv ∗ invs (held I) K ∗ (∃ W, owes (c : Thread nD τ) (owed c 3 0 0) W) ∗ cred (tallyAt (bcell c) () 3) ∗ atPos ER (bcell c) 0 ∅ 0 ∗ Pre c ∗ Srcs (held I) c 0 0) ⊢ iprop((semVal (bcell c) 0 ∗ Comm (held I) K c 0 1 0 0 0 0 ∗ Srcs (held I) c 0 1 -∗ ∀ r, Kt r)
      -∗ wp frame (wpE (defs₀ (F := F)) 𝒱₀ (c : Thread nD τ) none) Set.univ (k0_part2 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 (SemArray.scalar (sig.barrier 0 rfl))) Kt) := by
  rw [k0_part2_eq_skeleton]; unfold k0_part2_skel
  simp only [semSignalWord, semWaitWord, Prog.lift, Prog.bind_op, Prog.bind_ret, Prog.pure_eq_ret, wp_deviceId]
  iintro ⟨#Hlev, #HI, HW, Hcr, Hat, Hpre, HS⟩ Hk
  iapply (barrier_comm (held I) K c rfl _) $$ [HW Hcr Hat Hpre]
  · isplitr; · iexact Hlev
    isplitr; · iexact HI
    isplitl [HW]; · iexact HW
    isplitl [Hcr]; · iexact Hcr
    isplitl [Hat]; · iexact Hat
    iexact Hpre
  iintro ⟨HC, HBz⟩
  iapply (startK (held I) K c 0 0 0 (w := 0) rfl (by decide) (dev4 c) rfl rfl (off1_0_0 c) rfl _) $$ [HC HS]
  · isplitl [HC]; · iexact HC
    iexact HS
  iintro ⟨HC, HS⟩
  rw [wp_ret]; imodintro
  iapply Hk $$ [HBz HC HS]
  · isplitl [HBz]; · iexact HBz
    isplitl [HC]; · iexact HC
    iexact HS

theorem part3_wp {Kt : (BitVec 32) → sProp (MT nD τ sig Unit (Elt F) ℕ UU ℕ)} (v2 : BitVec 32)  :
    iprop(Comm (held I) K c 0 1 0 0 0 0 ∗ Srcs (held I) c 0 1) ⊢ iprop((Comm (held I) K c 0 3 0 0 0 0 ∗ Srcs (held I) c 0 3 -∗ ∀ r, Kt r)
      -∗ wp frame (wpE (defs₀ (F := F)) 𝒱₀ (c : Thread nD τ) none) Set.univ (k0_part3 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part3_eq_skeleton]; unfold k0_part3_skel
  simp only [semSignalWord, semWaitWord, Prog.lift, Prog.bind_op, Prog.bind_ret, Prog.pure_eq_ret, wp_deviceId]
  iintro ⟨HC, HS⟩ Hk
  iapply (startV (held I) K c 0 0 0 (w := 0) rfl (by decide) (dev5 c) rfl rfl (off1_0_0 c) rfl _) $$ [HC HS]
  · isplitl [HC]; · iexact HC
    iexact HS
  iintro ⟨HC, HS⟩
  iapply (startK (held I) K c 0 0 1 (w := 0) rfl (by decide) (dev6 c) rfl rfl (off1_1_0 c) rfl _) $$ [HC HS]
  · isplitl [HC]; · iexact HC
    iexact HS
  iintro ⟨HC, HS⟩
  rw [wp_ret]; imodintro
  iapply Hk $$ [HC HS]
  · isplitl [HC]; · iexact HC
    iexact HS

theorem part4_wp {Kt : (BitVec 32) → sProp (MT nD τ sig Unit (Elt F) ℕ UU ℕ)} (v2 : BitVec 32)  :
    iprop(Comm (held I) K c 0 3 0 0 0 0 ∗ Srcs (held I) c 0 3) ⊢ iprop((Comm (held I) K c 0 5 0 0 0 0 ∗ Srcs (held I) c 0 5 -∗ ∀ r, Kt r)
      -∗ wp frame (wpE (defs₀ (F := F)) 𝒱₀ (c : Thread nD τ) none) Set.univ (k0_part4 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part4_eq_skeleton]; unfold k0_part4_skel
  simp only [semSignalWord, semWaitWord, Prog.lift, Prog.bind_op, Prog.bind_ret, Prog.pure_eq_ret, wp_deviceId]
  iintro ⟨HC, HS⟩ Hk
  iapply (startV (held I) K c 0 0 1 (w := 0) rfl (by decide) (dev7 c) rfl rfl (off1_1_0 c) rfl _) $$ [HC HS]
  · isplitl [HC]; · iexact HC
    iexact HS
  iintro ⟨HC, HS⟩
  iapply (startK (held I) K c 0 0 2 (w := 0) rfl (by decide) (dev8 c) rfl rfl (off1_2_0 c) rfl _) $$ [HC HS]
  · isplitl [HC]; · iexact HC
    iexact HS
  iintro ⟨HC, HS⟩
  rw [wp_ret]; imodintro
  iapply Hk $$ [HC HS]
  · isplitl [HC]; · iexact HC
    iexact HS

theorem part5_wp {Kt : (BitVec 32) → sProp (MT nD τ sig Unit (Elt F) ℕ UU ℕ)} (v2 : BitVec 32)  :
    iprop(Comm (held I) K c 0 5 0 0 0 0 ∗ Srcs (held I) c 0 5) ⊢ iprop((Comm (held I) K c 0 7 0 0 0 0 ∗ Srcs (held I) c 0 7 -∗ ∀ r, Kt r)
      -∗ wp frame (wpE (defs₀ (F := F)) 𝒱₀ (c : Thread nD τ) none) Set.univ (k0_part5 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part5_eq_skeleton]; unfold k0_part5_skel
  simp only [semSignalWord, semWaitWord, Prog.lift, Prog.bind_op, Prog.bind_ret, Prog.pure_eq_ret, wp_deviceId]
  iintro ⟨HC, HS⟩ Hk
  iapply (startV (held I) K c 0 0 2 (w := 0) rfl (by decide) (dev9 c) rfl rfl (off1_2_0 c) rfl _) $$ [HC HS]
  · isplitl [HC]; · iexact HC
    iexact HS
  iintro ⟨HC, HS⟩
  iapply (startK (held I) K c 0 1 0 (w := 0) rfl (by decide) (dev10 c) rfl rfl (off1_0_1 c) rfl _) $$ [HC HS]
  · isplitl [HC]; · iexact HC
    iexact HS
  iintro ⟨HC, HS⟩
  rw [wp_ret]; imodintro
  iapply Hk $$ [HC HS]
  · isplitl [HC]; · iexact HC
    iexact HS

theorem part6_wp {Kt : (BitVec 32) → sProp (MT nD τ sig Unit (Elt F) ℕ UU ℕ)} (v2 : BitVec 32)  :
    iprop(Comm (held I) K c 0 7 0 0 0 0 ∗ Srcs (held I) c 0 7) ⊢ iprop((Comm (held I) K c 0 9 0 0 0 0 ∗ Srcs (held I) c 0 9 -∗ ∀ r, Kt r)
      -∗ wp frame (wpE (defs₀ (F := F)) 𝒱₀ (c : Thread nD τ) none) Set.univ (k0_part6 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part6_eq_skeleton]; unfold k0_part6_skel
  simp only [semSignalWord, semWaitWord, Prog.lift, Prog.bind_op, Prog.bind_ret, Prog.pure_eq_ret, wp_deviceId]
  iintro ⟨HC, HS⟩ Hk
  iapply (startV (held I) K c 0 1 0 (w := 0) rfl (by decide) (dev11 c) rfl rfl (off1_0_1 c) rfl _) $$ [HC HS]
  · isplitl [HC]; · iexact HC
    iexact HS
  iintro ⟨HC, HS⟩
  iapply (startK (held I) K c 0 1 1 (w := 0) rfl (by decide) (dev12 c) rfl rfl (off1_1_1 c) rfl _) $$ [HC HS]
  · isplitl [HC]; · iexact HC
    iexact HS
  iintro ⟨HC, HS⟩
  rw [wp_ret]; imodintro
  iapply Hk $$ [HC HS]
  · isplitl [HC]; · iexact HC
    iexact HS

theorem part7_wp {Kt : (BitVec 32) → sProp (MT nD τ sig Unit (Elt F) ℕ UU ℕ)} (v2 : BitVec 32)  :
    iprop(Comm (held I) K c 0 9 0 0 0 0 ∗ Srcs (held I) c 0 9) ⊢ iprop((Comm (held I) K c 0 11 0 0 0 0 ∗ Srcs (held I) c 0 11 -∗ ∀ r, Kt r)
      -∗ wp frame (wpE (defs₀ (F := F)) 𝒱₀ (c : Thread nD τ) none) Set.univ (k0_part7 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part7_eq_skeleton]; unfold k0_part7_skel
  simp only [semSignalWord, semWaitWord, Prog.lift, Prog.bind_op, Prog.bind_ret, Prog.pure_eq_ret, wp_deviceId]
  iintro ⟨HC, HS⟩ Hk
  iapply (startV (held I) K c 0 1 1 (w := 0) rfl (by decide) (dev13 c) rfl rfl (off1_1_1 c) rfl _) $$ [HC HS]
  · isplitl [HC]; · iexact HC
    iexact HS
  iintro ⟨HC, HS⟩
  iapply (startK (held I) K c 0 1 2 (w := 0) rfl (by decide) (dev14 c) rfl rfl (off1_2_1 c) rfl _) $$ [HC HS]
  · isplitl [HC]; · iexact HC
    iexact HS
  iintro ⟨HC, HS⟩
  rw [wp_ret]; imodintro
  iapply Hk $$ [HC HS]
  · isplitl [HC]; · iexact HC
    iexact HS

theorem part8_wp {Kt : (BitVec 32) → sProp (MT nD τ sig Unit (Elt F) ℕ UU ℕ)} (v2 : BitVec 32)  :
    iprop(Comm (held I) K c 0 11 0 0 0 0 ∗ Srcs (held I) c 0 11 ∗ ((c : Thread nD τ).loc cc0_stg2_0 ↦{fullShare} I.k c) ∗ (∃ f, ((c : Thread nD τ).loc cc0_scratch0 ↦[rows 1]{fullShare} f)) ∗ ((c : Thread nD τ).loc cc0_stg3_0 ↦{fullShare} I.v c) ∗ (∃ f, ((c : Thread nD τ).loc cc0_scratch1 ↦[rows 1]{fullShare} f))) ⊢ iprop((((c : Thread nD τ).loc cc0_stg2_0 ↦{fullShare} I.k c) ∗ ((c : Thread nD τ).loc cc0_stg3_0 ↦{fullShare} I.v c) ∗ ((c : Thread nD τ).loc cc0_scratch0 ↦[ownRows c 1]{fullShare} (held I).k16 c) ∗ ((c : Thread nD τ).loc cc0_scratch1 ↦[ownRows c 1]{fullShare} (held I).v16 c) ∗ Comm (held I) K c 0 13 0 0 0 0 ∗ Srcs (held I) c 1 13 -∗ ∀ r, Kt r)
      -∗ wp frame (wpE (defs₀ (F := F)) 𝒱₀ (c : Thread nD τ) none) Set.univ (k0_part8 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part8_eq_skeleton]; unfold k0_part8_skel
  simp only [semSignalWord, semWaitWord, Prog.lift, Prog.bind_op, Prog.bind_ret, Prog.pure_eq_ret, wp_deviceId]
  iintro ⟨HC, HS, HKi, HK1, HVi, HV1⟩ Hk
  iapply (startV (held I) K c 0 1 2 (w := 0) rfl (by decide) (dev15 c) rfl rfl (off1_2_1 c) rfl _) $$ [HC HS]
  · isplitl [HC]; · iexact HC
    iexact HS
  iintro ⟨HC, HS⟩
  iapply (loadKin c _) $$ HKi
  iintro HKi
  iapply (deadK c 1 rfl _) $$ HK1
  iintro HK1 %v175
  iapply (storeK c 1 rfl ((held I).k16 c) (fun y => pay4_eq I c y) _) $$ HK1
  iintro HKs1
  iapply (loadVin c _) $$ HVi
  iintro HVi
  iapply (deadV c 1 rfl _) $$ HV1
  iintro HV1 %v181
  iapply (storeV c 1 rfl ((held I).v16 c) (fun y => pay5_eq I c y) _) $$ HV1
  iintro HVs1
  ihave HB := (batch (held I) c 1) $$ [HKs1 HVs1]
  · isplitl [HKs1]; · iexact HKs1
    iexact HVs1
  icases HB with ⟨HB, HKo1, HVo1⟩
  ihave HS := (srcs1 (held I) c) $$ HB
  iapply (startK (held I) K c 1 0 0 (w := 0) rfl (by decide) (dev16 c) rfl rfl (off2_0_0 c) rfl _) $$ [HC HS]
  · isplitl [HC]; · iexact HC
    iexact HS
  iintro ⟨HC, HS⟩
  rw [wp_ret]; imodintro
  iapply Hk $$ [HKi HVi HKo1 HVo1 HC HS]
  · isplitl [HKi]; · iexact HKi
    isplitl [HVi]; · iexact HVi
    isplitl [HKo1]; · iexact HKo1
    isplitl [HVo1]; · iexact HVo1
    isplitl [HC]; · iexact HC
    iexact HS

end Cert.KernelIdealRun

end
-- ==== Proof.Parts2.lean ====
/-
# The program, parts 9 to 15

What each part of the kernel takes and gives back, operation by operation.
-/
module

public import proofs.«01_k».proof.Proof.Ops

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

theorem part9_wp {Kt : (BitVec 32) → sProp (MT nD τ sig Unit (Elt F) ℕ UU ℕ)} (v2 : BitVec 32) (v185 : BitVec 32)  :
    iprop(Comm (held I) K c 0 13 0 0 0 0 ∗ Srcs (held I) c 1 13) ⊢ iprop((Comm (held I) K c 0 15 0 0 0 0 ∗ Srcs (held I) c 1 15 -∗ ∀ r, Kt r)
      -∗ wp frame (wpE (defs₀ (F := F)) 𝒱₀ (c : Thread nD τ) none) Set.univ (k0_part9 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 v185) Kt) := by
  rw [k0_part9_eq_skeleton]; unfold k0_part9_skel
  simp only [semSignalWord, semWaitWord, Prog.lift, Prog.bind_op, Prog.bind_ret, Prog.pure_eq_ret, wp_deviceId]
  iintro ⟨HC, HS⟩ Hk
  iapply (startV (held I) K c 1 0 0 (w := 0) rfl (by decide) (dev17 c) rfl rfl (off2_0_0 c) rfl _) $$ [HC HS]
  · isplitl [HC]; · iexact HC
    iexact HS
  iintro ⟨HC, HS⟩
  iapply (startK (held I) K c 1 0 1 (w := 0) rfl (by decide) (dev18 c) rfl rfl (off2_1_0 c) rfl _) $$ [HC HS]
  · isplitl [HC]; · iexact HC
    iexact HS
  iintro ⟨HC, HS⟩
  rw [wp_ret]; imodintro
  iapply Hk $$ [HC HS]
  · isplitl [HC]; · iexact HC
    iexact HS

theorem part10_wp {Kt : (BitVec 32) → sProp (MT nD τ sig Unit (Elt F) ℕ UU ℕ)} (v2 : BitVec 32) (v209 : BitVec 32)  :
    iprop(Comm (held I) K c 0 15 0 0 0 0 ∗ Srcs (held I) c 1 15) ⊢ iprop((Comm (held I) K c 0 17 0 0 0 0 ∗ Srcs (held I) c 1 17 -∗ ∀ r, Kt r)
      -∗ wp frame (wpE (defs₀ (F := F)) 𝒱₀ (c : Thread nD τ) none) Set.univ (k0_part10 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 v209) Kt) := by
  rw [k0_part10_eq_skeleton]; unfold k0_part10_skel
  simp only [semSignalWord, semWaitWord, Prog.lift, Prog.bind_op, Prog.bind_ret, Prog.pure_eq_ret, wp_deviceId]
  iintro ⟨HC, HS⟩ Hk
  iapply (startV (held I) K c 1 0 1 (w := 0) rfl (by decide) (dev19 c) rfl rfl (off2_1_0 c) rfl _) $$ [HC HS]
  · isplitl [HC]; · iexact HC
    iexact HS
  iintro ⟨HC, HS⟩
  iapply (startK (held I) K c 1 0 2 (w := 0) rfl (by decide) (dev20 c) rfl rfl (off2_2_0 c) rfl _) $$ [HC HS]
  · isplitl [HC]; · iexact HC
    iexact HS
  iintro ⟨HC, HS⟩
  rw [wp_ret]; imodintro
  iapply Hk $$ [HC HS]
  · isplitl [HC]; · iexact HC
    iexact HS

theorem part11_wp {Kt : (BitVec 32) → sProp (MT nD τ sig Unit (Elt F) ℕ UU ℕ)} (v2 : BitVec 32) (v233 : BitVec 32)  :
    iprop(Comm (held I) K c 0 17 0 0 0 0 ∗ Srcs (held I) c 1 17) ⊢ iprop((Comm (held I) K c 0 19 0 0 0 0 ∗ Srcs (held I) c 1 19 -∗ ∀ r, Kt r)
      -∗ wp frame (wpE (defs₀ (F := F)) 𝒱₀ (c : Thread nD τ) none) Set.univ (k0_part11 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 v233) Kt) := by
  rw [k0_part11_eq_skeleton]; unfold k0_part11_skel
  simp only [semSignalWord, semWaitWord, Prog.lift, Prog.bind_op, Prog.bind_ret, Prog.pure_eq_ret, wp_deviceId]
  iintro ⟨HC, HS⟩ Hk
  iapply (startV (held I) K c 1 0 2 (w := 0) rfl (by decide) (dev21 c) rfl rfl (off2_2_0 c) rfl _) $$ [HC HS]
  · isplitl [HC]; · iexact HC
    iexact HS
  iintro ⟨HC, HS⟩
  iapply (startK (held I) K c 1 1 0 (w := 0) rfl (by decide) (dev22 c) rfl rfl (off2_0_1 c) rfl _) $$ [HC HS]
  · isplitl [HC]; · iexact HC
    iexact HS
  iintro ⟨HC, HS⟩
  rw [wp_ret]; imodintro
  iapply Hk $$ [HC HS]
  · isplitl [HC]; · iexact HC
    iexact HS

theorem part12_wp {Kt : (BitVec 32) → sProp (MT nD τ sig Unit (Elt F) ℕ UU ℕ)} (v2 : BitVec 32) (v257 : BitVec 32)  :
    iprop(Comm (held I) K c 0 19 0 0 0 0 ∗ Srcs (held I) c 1 19) ⊢ iprop((Comm (held I) K c 0 21 0 0 0 0 ∗ Srcs (held I) c 1 21 -∗ ∀ r, Kt r)
      -∗ wp frame (wpE (defs₀ (F := F)) 𝒱₀ (c : Thread nD τ) none) Set.univ (k0_part12 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 v257) Kt) := by
  rw [k0_part12_eq_skeleton]; unfold k0_part12_skel
  simp only [semSignalWord, semWaitWord, Prog.lift, Prog.bind_op, Prog.bind_ret, Prog.pure_eq_ret, wp_deviceId]
  iintro ⟨HC, HS⟩ Hk
  iapply (startV (held I) K c 1 1 0 (w := 0) rfl (by decide) (dev23 c) rfl rfl (off2_0_1 c) rfl _) $$ [HC HS]
  · isplitl [HC]; · iexact HC
    iexact HS
  iintro ⟨HC, HS⟩
  iapply (startK (held I) K c 1 1 1 (w := 0) rfl (by decide) (dev24 c) rfl rfl (off2_1_1 c) rfl _) $$ [HC HS]
  · isplitl [HC]; · iexact HC
    iexact HS
  iintro ⟨HC, HS⟩
  rw [wp_ret]; imodintro
  iapply Hk $$ [HC HS]
  · isplitl [HC]; · iexact HC
    iexact HS

theorem part13_wp {Kt : (BitVec 32) → sProp (MT nD τ sig Unit (Elt F) ℕ UU ℕ)} (v2 : BitVec 32) (v281 : BitVec 32)  :
    iprop(Comm (held I) K c 0 21 0 0 0 0 ∗ Srcs (held I) c 1 21) ⊢ iprop((Comm (held I) K c 0 23 0 0 0 0 ∗ Srcs (held I) c 1 23 -∗ ∀ r, Kt r)
      -∗ wp frame (wpE (defs₀ (F := F)) 𝒱₀ (c : Thread nD τ) none) Set.univ (k0_part13 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 v281) Kt) := by
  rw [k0_part13_eq_skeleton]; unfold k0_part13_skel
  simp only [semSignalWord, semWaitWord, Prog.lift, Prog.bind_op, Prog.bind_ret, Prog.pure_eq_ret, wp_deviceId]
  iintro ⟨HC, HS⟩ Hk
  iapply (startV (held I) K c 1 1 1 (w := 0) rfl (by decide) (dev25 c) rfl rfl (off2_1_1 c) rfl _) $$ [HC HS]
  · isplitl [HC]; · iexact HC
    iexact HS
  iintro ⟨HC, HS⟩
  iapply (startK (held I) K c 1 1 2 (w := 0) rfl (by decide) (dev26 c) rfl rfl (off2_2_1 c) rfl _) $$ [HC HS]
  · isplitl [HC]; · iexact HC
    iexact HS
  iintro ⟨HC, HS⟩
  rw [wp_ret]; imodintro
  iapply Hk $$ [HC HS]
  · isplitl [HC]; · iexact HC
    iexact HS

theorem part14_wp {Kt : (Σ' (v342 : FVec F S256x512 .f32), FVec F S512x256 .f32) → sProp (MT nD τ sig Unit (Elt F) ℕ UU ℕ)} (v2 : BitVec 32) (v305 : BitVec 32)  :
    iprop(Comm (held I) K c 0 23 0 0 0 0 ∗ Srcs (held I) c 1 23 ∗ ((c : Thread nD τ).loc cc0_scratch0 ↦[ownRows c 0]{fullShare} (held I).k16 c) ∗ ((c : Thread nD τ).loc cc0_scratch0 ↦[ownRows c 1]{fullShare} (held I).k16 c) ∗ locNew c 0 ∗ (∃ f, ((c : Thread nD τ).loc cc0_scratch2 ↦[slot0]{fullShare} f)) ∗ ((c : Thread nD τ).loc cc0_scratch1 ↦[ownRows c 0]{fullShare} (held I).v16 c) ∗ ((c : Thread nD τ).loc cc0_scratch1 ↦[ownRows c 1]{fullShare} (held I).v16 c) ∗ locNew c 1 ∗ (∃ f, ((c : Thread nD τ).loc cc0_scratch3 ↦[slot0]{fullShare} f)) ∗ ((c : Thread nD τ).loc cc0_stg0_0 ↦{fullShare} I.x c) ∗ ((c : Thread nD τ).loc cc0_stg1_0 ↦{fullShare} I.wq c)) ⊢ iprop((Srcs (held I) c 1 24 ∗ locOut c 0 ∗ locOut c 1 ∗ Comm (held I) K c 0 24 0 0 0 0 ∗ ((c : Thread nD τ).loc cc0_stg0_0 ↦{fullShare} I.x c) ∗ ((c : Thread nD τ).loc cc0_stg1_0 ↦{fullShare} I.wq c) -∗ Kt ⟨k0_pay6 (ldX (I.x c)), k0_pay7 (ldQ (I.wq c))⟩)
      -∗ wp frame (wpE (defs₀ (F := F)) 𝒱₀ (c : Thread nD τ) none) Set.univ (k0_part14 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 v305) Kt) := by
  rw [k0_part14_eq_skeleton]; unfold k0_part14_skel
  simp only [semSignalWord, semWaitWord, Prog.lift, Prog.bind_op, Prog.bind_ret, Prog.pure_eq_ret, wp_deviceId]
  iintro ⟨HC, HS, HKo0, HKo1, HN0, HZ0, HVo0, HVo1, HN1, HZ1, HX, HQ⟩ Hk
  iapply (startV (held I) K c 1 1 2 (w := 0) rfl (by decide) (dev27 c) rfl rfl (off2_2_1 c) rfl _) $$ [HC HS]
  · isplitl [HC]; · iexact HC
    iexact HS
  iintro ⟨HC, HS⟩
  ihave HOw := (Entails.of_eq (k_own c ((held I).k16 c)).symm) $$ [HKo0 HKo1]
  · isplitl [HKo0]; · iexact HKo0
    iexact HKo1
  iapply (copyK (held I) K c rfl (k0_off3_eq c) rfl _) $$ [HC HN0 HOw HZ0]
  · isplitl [HC]; · iexact HC
    isplitl [HN0]; · iexact HN0
    isplitl [HOw]; · iexact HOw
    iexact HZ0
  iintro ⟨HC, HL0⟩
  ihave HOw := (Entails.of_eq (v_own c ((held I).v16 c)).symm) $$ [HVo0 HVo1]
  · isplitl [HVo0]; · iexact HVo0
    iexact HVo1
  iapply (copyV (held I) K c rfl (k0_off3_eq c) rfl _) $$ [HC HN1 HOw HZ1]
  · isplitl [HC]; · iexact HC
    isplitl [HN1]; · iexact HN1
    isplitl [HOw]; · iexact HOw
    iexact HZ1
  iintro ⟨HC, HL1⟩
  iapply (loadX c _) $$ HX
  iintro HX
  iapply (loadQ c _) $$ HQ
  iintro HQ
  rw [wp_ret]; imodintro
  iapply Hk $$ [HS HL0 HL1 HC HX HQ]
  · isplitl [HS]; · iexact HS
    isplitl [HL0]; · iexact HL0
    isplitl [HL1]; · iexact HL1
    isplitl [HC]; · iexact HC
    isplitl [HX]; · iexact HX
    iexact HQ

theorem part15_wp {Kt : (Σ' (v346 : FVec F S256x256 .bf16), IVec S128x512 1) → sProp (MT nD τ sig Unit (Elt F) ℕ UU ℕ)} (v2 : BitVec 32) (v342 : FVec F S256x512 .f32) (v344 : FVec F S512x256 .f32)  :
    iprop(emp) ⊢ iprop(Kt ⟨k0_pay8 v342 v344, k0_pay9 v2⟩
      -∗ wp frame (wpE (defs₀ (F := F)) 𝒱₀ (c : Thread nD τ) none) Set.univ (k0_part15 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v2 v342 v344) Kt) := by
  rw [k0_part15_eq_skeleton]; unfold k0_part15_skel
  simp only [semSignalWord, semWaitWord, Prog.lift, Prog.bind_op, Prog.bind_ret, Prog.pure_eq_ret, wp_deviceId]
  iintro - Hk

  rw [wp_ret]; imodintro
  iexact Hk

end Cert.KernelIdealRun

end
-- ==== Proof.Parts3.lean ====
/-
# The program, parts 16 to 23

What each part of the kernel takes and gives back, operation by operation.
-/
module

public import proofs.«01_k».proof.Proof.Ops

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

theorem part16_wp {Kt : (PUnit) → sProp (MT nD τ sig Unit (Elt F) ℕ UU ℕ)} (v29 : BitVec 32)  :
    iprop(Comm (held I) K c 0 24 0 0 0 0 ∗ locOut c 0 ∗ locOut c 1) ⊢ iprop((locDone (held I) c 0 ∗ locDone (held I) c 1 ∗ Comm (held I) K c 1 24 1 0 0 0 -∗ Kt PUnit.unit)
      -∗ wp frame (wpE (defs₀ (F := F)) 𝒱₀ (c : Thread nD τ) none) Set.univ (k0_part16 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v29) Kt) := by
  rw [k0_part16_eq_skeleton]; unfold k0_part16_skel
  simp only [semSignalWord, semWaitWord, Prog.lift, Prog.bind_op, Prog.bind_ret, Prog.pure_eq_ret, wp_deviceId]
  iintro ⟨HC, HL0, HL1⟩ Hk
  iapply (copyWait (held I) K c 0 rfl (credL _) _) $$ [HC HL0]
  · isplitl [HC]; · iexact HC
    iexact HL0
  iintro ⟨HC, HD0⟩
  iapply (copyWait (held I) K c 1 rfl (credL _) _) $$ [HC HL1]
  · isplitl [HC]; · iexact HC
    iexact HL1
  iintro ⟨HC, HD1⟩
  iapply (kv_back (held I) K c (0, 0, 0, 0) (w := 0) (i := 24) rfl (by decide) rfl (credT _) _) $$ HC
  iintro HC
  iapply (kv_land (held I) K c (0, 0, 0, 0) (r := 0) rfl rfl (credT _) _) $$ HC
  iintro HC
  rw [wp_ret]; imodintro
  iapply Hk $$ [HD0 HD1 HC]
  · isplitl [HD0]; · iexact HD0
    isplitl [HD1]; · iexact HD1
    iexact HC

theorem part17_wp {Kt : (PUnit) → sProp (MT nD τ sig Unit (Elt F) ℕ UU ℕ)} (v29 : BitVec 32)  :
    iprop(Comm (held I) K c 1 24 1 0 0 0) ⊢ iprop((Comm (held I) K c 3 24 2 0 0 0 -∗ Kt PUnit.unit)
      -∗ wp frame (wpE (defs₀ (F := F)) 𝒱₀ (c : Thread nD τ) none) Set.univ (k0_part17 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v29) Kt) := by
  rw [k0_part17_eq_skeleton]; unfold k0_part17_skel
  simp only [semSignalWord, semWaitWord, Prog.lift, Prog.bind_op, Prog.bind_ret, Prog.pure_eq_ret, wp_deviceId]
  iintro HC Hk
  iapply (kv_back (held I) K c (0, 0, 0, 1) (w := 1) (i := 24) rfl (by decide) rfl (credT _) _) $$ HC
  iintro HC
  iapply (kv_land (held I) K c (0, 0, 0, 1) (r := 1) rfl rfl (credT _) _) $$ HC
  iintro HC
  iapply (kv_back (held I) K c (0, 0, 1, 0) (w := 2) (i := 24) rfl (by decide) rfl (credT _) _) $$ HC
  iintro HC
  rw [wp_ret]; imodintro
  iapply Hk $$ HC

theorem part18_wp {Kt : (PUnit) → sProp (MT nD τ sig Unit (Elt F) ℕ UU ℕ)} (v53 : BitVec 32)  :
    iprop(Comm (held I) K c 3 24 2 0 0 0) ⊢ iprop((Comm (held I) K c 4 24 4 0 0 0 -∗ Kt PUnit.unit)
      -∗ wp frame (wpE (defs₀ (F := F)) 𝒱₀ (c : Thread nD τ) none) Set.univ (k0_part18 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v53) Kt) := by
  rw [k0_part18_eq_skeleton]; unfold k0_part18_skel
  simp only [semSignalWord, semWaitWord, Prog.lift, Prog.bind_op, Prog.bind_ret, Prog.pure_eq_ret, wp_deviceId]
  iintro HC Hk
  iapply (kv_land (held I) K c (0, 0, 1, 0) (r := 2) rfl rfl (credT _) _) $$ HC
  iintro HC
  iapply (kv_back (held I) K c (0, 0, 1, 1) (w := 3) (i := 24) rfl (by decide) rfl (credT _) _) $$ HC
  iintro HC
  iapply (kv_land (held I) K c (0, 0, 1, 1) (r := 3) rfl rfl (credT _) _) $$ HC
  iintro HC
  rw [wp_ret]; imodintro
  iapply Hk $$ HC

theorem part19_wp {Kt : (PUnit) → sProp (MT nD τ sig Unit (Elt F) ℕ UU ℕ)} (v77 : BitVec 32)  :
    iprop(Comm (held I) K c 4 24 4 0 0 0) ⊢ iprop((Comm (held I) K c 6 24 5 0 0 0 -∗ Kt PUnit.unit)
      -∗ wp frame (wpE (defs₀ (F := F)) 𝒱₀ (c : Thread nD τ) none) Set.univ (k0_part19 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v77) Kt) := by
  rw [k0_part19_eq_skeleton]; unfold k0_part19_skel
  simp only [semSignalWord, semWaitWord, Prog.lift, Prog.bind_op, Prog.bind_ret, Prog.pure_eq_ret, wp_deviceId]
  iintro HC Hk
  iapply (kv_back (held I) K c (0, 0, 2, 0) (w := 4) (i := 24) rfl (by decide) rfl (credT _) _) $$ HC
  iintro HC
  iapply (kv_land (held I) K c (0, 0, 2, 0) (r := 4) rfl rfl (credT _) _) $$ HC
  iintro HC
  iapply (kv_back (held I) K c (0, 0, 2, 1) (w := 5) (i := 24) rfl (by decide) rfl (credT _) _) $$ HC
  iintro HC
  rw [wp_ret]; imodintro
  iapply Hk $$ HC

theorem part20_wp {Kt : (Σ' (v463 : FVec F S128x128 .bf16) (v465 : FVec F S128x128 .bf16) (v467 : FVec F S128x128 .bf16) (v469 : FVec F S128x128 .bf16) (v471 : FVec F S128x128 .bf16) (v473 : FVec F S128x128 .bf16) (v475 : FVec F S128x128 .bf16) (v477 : FVec F S128x128 .bf16), FVec F S128x64 .bf16) → sProp (MT nD τ sig Unit (Elt F) ℕ UU ℕ)} (v77 : BitVec 32) (v346 : FVec F S256x256 .bf16)  :
    iprop(Comm (held I) K c 6 24 5 0 0 0 ∗ locDone (held I) c 0 ∗ locDone (held I) c 1) ⊢ iprop((locDone (held I) c 0 ∗ locDone (held I) c 1 ∗ Comm (held I) K c 6 24 6 0 0 0 -∗ Kt ⟨k0_pay10 (ldT (gath (held I).k16 c) 0 0 0 inb_S4x256x256_S1x128x128_0_0_0), k0_pay11 (ldT (gath (held I).k16 c) 1 0 0 inb_S4x256x256_S1x128x128_1_0_0), k0_pay12 (ldT (gath (held I).k16 c) 2 0 0 inb_S4x256x256_S1x128x128_2_0_0), k0_pay13 (ldT (gath (held I).k16 c) 3 0 0 inb_S4x256x256_S1x128x128_3_0_0), k0_pay14 (ldT (gath (held I).v16 c) 0 0 0 inb_S4x256x256_S1x128x128_0_0_0), k0_pay15 (ldT (gath (held I).v16 c) 1 0 0 inb_S4x256x256_S1x128x128_1_0_0), k0_pay16 (ldT (gath (held I).v16 c) 2 0 0 inb_S4x256x256_S1x128x128_2_0_0), k0_pay17 (ldT (gath (held I).v16 c) 3 0 0 inb_S4x256x256_S1x128x128_3_0_0), k0_pay18 v346⟩)
      -∗ wp frame (wpE (defs₀ (F := F)) 𝒱₀ (c : Thread nD τ) none) Set.univ (k0_part20 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v77 v346) Kt) := by
  rw [k0_part20_eq_skeleton]; unfold k0_part20_skel
  simp only [semSignalWord, semWaitWord, Prog.lift, Prog.bind_op, Prog.bind_ret, Prog.pure_eq_ret, wp_deviceId]
  iintro ⟨HC, HD0, HD1⟩ Hk
  iapply (kv_land (held I) K c (0, 0, 2, 1) (r := 5) rfl rfl (credT _) _) $$ HC
  iintro HC
  iapply (loadG0 (held I) c (o1 := 0) (o2 := 0) _) $$ HD0
  iintro HD0
  iapply (loadG (held I) K c 0 0 2 (r := 6) (s := 1) (o1 := 0) (o2 := 0) (by decide) rfl rfl rfl _) $$ HC
  iintro HC
  iapply (loadG (held I) K c 0 0 1 (r := 6) (s := 2) (o1 := 0) (o2 := 0) (by decide) rfl rfl rfl _) $$ HC
  iintro HC
  iapply (loadG (held I) K c 0 0 0 (r := 6) (s := 3) (o1 := 0) (o2 := 0) (by decide) rfl rfl rfl _) $$ HC
  iintro HC
  iapply (loadW0 (held I) c (o1 := 0) (o2 := 0) _) $$ HD1
  iintro HD1
  iapply (loadW (held I) K c 0 0 2 (r := 6) (s := 1) (o1 := 0) (o2 := 0) (by decide) rfl rfl rfl _) $$ HC
  iintro HC
  iapply (loadW (held I) K c 0 0 1 (r := 6) (s := 2) (o1 := 0) (o2 := 0) (by decide) rfl rfl rfl _) $$ HC
  iintro HC
  iapply (loadW (held I) K c 0 0 0 (r := 6) (s := 3) (o1 := 0) (o2 := 0) (by decide) rfl rfl rfl _) $$ HC
  iintro HC
  rw [wp_ret]; imodintro
  iapply Hk $$ [HD0 HD1 HC]
  · isplitl [HD0]; · iexact HD0
    isplitl [HD1]; · iexact HD1
    iexact HC

theorem part21_wp {Kt : (Σ' (v504 : FVec F S128x64 .f32) (v515 : FVec F S512x64 .bf16) (v525 : FVec F S128x512 .f32), FVec F S128x1 .f32) → sProp (MT nD τ sig Unit (Elt F) ℕ UU ℕ)} (v346 : FVec F S256x256 .bf16) (v379 : IVec S128x512 1) (v463 : FVec F S128x128 .bf16) (v465 : FVec F S128x128 .bf16) (v467 : FVec F S128x128 .bf16) (v469 : FVec F S128x128 .bf16) (v471 : FVec F S128x128 .bf16) (v473 : FVec F S128x128 .bf16) (v475 : FVec F S128x128 .bf16) (v477 : FVec F S128x128 .bf16) (v478 : FVec F S128x64 .bf16)  :
    iprop(emp) ⊢ iprop(Kt ⟨k0_pay19 v379 v463 v465 v467 v469 v471 v473 v475 v477 v478, k0_pay20 v471 v473 v475 v477, k0_pay21 v346 v379 v463 v465 v467 v469, k0_pay22 v346 v379 v463 v465 v467 v469⟩
      -∗ wp frame (wpE (defs₀ (F := F)) 𝒱₀ (c : Thread nD τ) none) Set.univ (k0_part21 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v346 v379 v463 v465 v467 v469 v471 v473 v475 v477 v478) Kt) := by
  rw [k0_part21_eq_skeleton]; unfold k0_part21_skel
  simp only [semSignalWord, semWaitWord, Prog.lift, Prog.bind_op, Prog.bind_ret, Prog.pure_eq_ret, wp_deviceId]
  iintro - Hk

  rw [wp_ret]; imodintro
  iexact Hk

theorem part22_wp {Kt : (FVec F S128x64 .f32) → sProp (MT nD τ sig Unit (Elt F) ℕ UU ℕ)} (v101 : BitVec 32) (v515 : FVec F S512x64 .bf16) (v525 : FVec F S128x512 .f32) (v527 : FVec F S128x1 .f32)  :
    iprop(Comm (held I) K c 6 24 6 0 0 0) ⊢ iprop((Comm (held I) K c 7 24 7 0 0 0 -∗ Kt (k0_pay23 v515 v525 v527))
      -∗ wp frame (wpE (defs₀ (F := F)) 𝒱₀ (c : Thread nD τ) none) Set.univ (k0_part22 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v101 v515 v525 v527) Kt) := by
  rw [k0_part22_eq_skeleton]; unfold k0_part22_skel
  simp only [semSignalWord, semWaitWord, Prog.lift, Prog.bind_op, Prog.bind_ret, Prog.pure_eq_ret, wp_deviceId]
  iintro HC Hk
  iapply (kv_back (held I) K c (0, 1, 0, 0) (w := 6) (i := 24) rfl (by decide) rfl (credT _) _) $$ HC
  iintro HC
  iapply (kv_land (held I) K c (0, 1, 0, 0) (r := 6) rfl rfl (credT _) _) $$ HC
  iintro HC
  rw [wp_ret]; imodintro
  iapply Hk $$ HC

theorem part23_wp {Kt : (PUnit) → sProp (MT nD τ sig Unit (Elt F) ℕ UU ℕ)} (v101 : BitVec 32) (v125 : BitVec 32)  :
    iprop(Comm (held I) K c 7 24 7 0 0 0) ⊢ iprop((Comm (held I) K c 9 24 8 0 0 0 -∗ Kt PUnit.unit)
      -∗ wp frame (wpE (defs₀ (F := F)) 𝒱₀ (c : Thread nD τ) none) Set.univ (k0_part23 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v101 v125) Kt) := by
  rw [k0_part23_eq_skeleton]; unfold k0_part23_skel
  simp only [semSignalWord, semWaitWord, Prog.lift, Prog.bind_op, Prog.bind_ret, Prog.pure_eq_ret, wp_deviceId]
  iintro HC Hk
  iapply (kv_back (held I) K c (0, 1, 0, 1) (w := 7) (i := 24) rfl (by decide) rfl (credT _) _) $$ HC
  iintro HC
  iapply (kv_land (held I) K c (0, 1, 0, 1) (r := 7) rfl rfl (credT _) _) $$ HC
  iintro HC
  iapply (kv_back (held I) K c (0, 1, 1, 0) (w := 8) (i := 24) rfl (by decide) rfl (credT _) _) $$ HC
  iintro HC
  rw [wp_ret]; imodintro
  iapply Hk $$ HC

end Cert.KernelIdealRun

end
-- ==== Proof.Parts4.lean ====
/-
# The program, parts 24 to 29

What each part of the kernel takes and gives back, operation by operation.
-/
module

public import proofs.«01_k».proof.Proof.Ops

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

theorem part24_wp {Kt : (PUnit) → sProp (MT nD τ sig Unit (Elt F) ℕ UU ℕ)} (v125 : BitVec 32)  :
    iprop(Comm (held I) K c 9 24 8 0 0 0) ⊢ iprop((Comm (held I) K c 10 24 10 0 0 0 -∗ Kt PUnit.unit)
      -∗ wp frame (wpE (defs₀ (F := F)) 𝒱₀ (c : Thread nD τ) none) Set.univ (k0_part24 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v125) Kt) := by
  rw [k0_part24_eq_skeleton]; unfold k0_part24_skel
  simp only [semSignalWord, semWaitWord, Prog.lift, Prog.bind_op, Prog.bind_ret, Prog.pure_eq_ret, wp_deviceId]
  iintro HC Hk
  iapply (kv_land (held I) K c (0, 1, 1, 0) (r := 8) rfl rfl (credT _) _) $$ HC
  iintro HC
  iapply (kv_back (held I) K c (0, 1, 1, 1) (w := 9) (i := 24) rfl (by decide) rfl (credT _) _) $$ HC
  iintro HC
  iapply (kv_land (held I) K c (0, 1, 1, 1) (r := 9) rfl rfl (credT _) _) $$ HC
  iintro HC
  rw [wp_ret]; imodintro
  iapply Hk $$ HC

theorem part25_wp {Kt : (BitVec 32) → sProp (MT nD τ sig Unit (Elt F) ℕ UU ℕ)} (v149 : BitVec 32)  :
    iprop(Comm (held I) K c 10 24 10 0 0 0) ⊢ iprop((Comm (held I) K c 12 24 11 0 0 0 -∗ ∀ r, Kt r)
      -∗ wp frame (wpE (defs₀ (F := F)) 𝒱₀ (c : Thread nD τ) none) Set.univ (k0_part25 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v149) Kt) := by
  rw [k0_part25_eq_skeleton]; unfold k0_part25_skel
  simp only [semSignalWord, semWaitWord, Prog.lift, Prog.bind_op, Prog.bind_ret, Prog.pure_eq_ret, wp_deviceId]
  iintro HC Hk
  iapply (kv_back (held I) K c (0, 1, 2, 0) (w := 10) (i := 24) rfl (by decide) rfl (credT _) _) $$ HC
  iintro HC
  iapply (kv_land (held I) K c (0, 1, 2, 0) (r := 10) rfl rfl (credT _) _) $$ HC
  iintro HC
  iapply (kv_back (held I) K c (0, 1, 2, 1) (w := 11) (i := 24) rfl (by decide) rfl (credT _) _) $$ HC
  iintro HC
  rw [wp_ret]; imodintro
  iapply Hk $$ HC

theorem part26_wp {Kt : (Σ' (v605 : FVec F S128x128 .bf16) (v607 : FVec F S128x128 .bf16) (v609 : FVec F S128x128 .bf16) (v611 : FVec F S128x128 .bf16) (v613 : FVec F S128x128 .bf16) (v615 : FVec F S128x128 .bf16) (v617 : FVec F S128x128 .bf16) (v619 : FVec F S128x128 .bf16) (v620 : FVec F S128x64 .bf16) (v625 : FVec F S512x64 .bf16) (v626 : FVec F S128x64 .bf16) (v627 : FVec F S128x64 .bf16), FVec F S128x64 .bf16) → sProp (MT nD τ sig Unit (Elt F) ℕ UU ℕ)} (v346 : FVec F S256x256 .bf16) (v597 : BitVec 32)  :
    iprop(Comm (held I) K c 12 24 11 0 0 0 ∗ locDone (held I) c 0 ∗ locDone (held I) c 1) ⊢ iprop((locDone (held I) c 0 ∗ locDone (held I) c 1 ∗ Comm (held I) K c 12 24 12 0 0 0 -∗ Kt ⟨k0_pay24 (ldT (gath (held I).k16 c) 0 0 128 inb_S4x256x256_S1x128x128_0_0_128), k0_pay25 (ldT (gath (held I).k16 c) 1 0 128 inb_S4x256x256_S1x128x128_1_0_128), k0_pay26 (ldT (gath (held I).k16 c) 2 0 128 inb_S4x256x256_S1x128x128_2_0_128), k0_pay27 (ldT (gath (held I).k16 c) 3 0 128 inb_S4x256x256_S1x128x128_3_0_128), k0_pay28 (ldT (gath (held I).v16 c) 0 0 128 inb_S4x256x256_S1x128x128_0_0_128), k0_pay29 (ldT (gath (held I).v16 c) 1 0 128 inb_S4x256x256_S1x128x128_1_0_128), k0_pay30 (ldT (gath (held I).v16 c) 2 0 128 inb_S4x256x256_S1x128x128_2_0_128), k0_pay31 (ldT (gath (held I).v16 c) 3 0 128 inb_S4x256x256_S1x128x128_3_0_128), k0_pay32 v346, k0_pay33 (ldT (gath (held I).k16 c) 0 0 128 inb_S4x256x256_S1x128x128_0_0_128) (ldT (gath (held I).k16 c) 1 0 128 inb_S4x256x256_S1x128x128_1_0_128) (ldT (gath (held I).k16 c) 2 0 128 inb_S4x256x256_S1x128x128_2_0_128) (ldT (gath (held I).k16 c) 3 0 128 inb_S4x256x256_S1x128x128_3_0_128), k0_pay34 (ldT (gath (held I).v16 c) 0 0 128 inb_S4x256x256_S1x128x128_0_0_128), k0_pay35 (ldT (gath (held I).v16 c) 1 0 128 inb_S4x256x256_S1x128x128_1_0_128), k0_pay36 (ldT (gath (held I).v16 c) 2 0 128 inb_S4x256x256_S1x128x128_2_0_128)⟩)
      -∗ wp frame (wpE (defs₀ (F := F)) 𝒱₀ (c : Thread nD τ) none) Set.univ (k0_part26 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v346 v597) Kt) := by
  rw [k0_part26_eq_skeleton]; unfold k0_part26_skel
  simp only [semSignalWord, semWaitWord, Prog.lift, Prog.bind_op, Prog.bind_ret, Prog.pure_eq_ret, wp_deviceId]
  iintro ⟨HC, HD0, HD1⟩ Hk
  iapply (kv_land (held I) K c (0, 1, 2, 1) (r := 11) rfl rfl (credT _) _) $$ HC
  iintro HC
  iapply (loadG0 (held I) c (o1 := 0) (o2 := 128) _) $$ HD0
  iintro HD0
  iapply (loadG (held I) K c 0 1 2 (r := 12) (s := 1) (o1 := 0) (o2 := 128) (by decide) rfl rfl rfl _) $$ HC
  iintro HC
  iapply (loadG (held I) K c 0 1 1 (r := 12) (s := 2) (o1 := 0) (o2 := 128) (by decide) rfl rfl rfl _) $$ HC
  iintro HC
  iapply (loadG (held I) K c 0 1 0 (r := 12) (s := 3) (o1 := 0) (o2 := 128) (by decide) rfl rfl rfl _) $$ HC
  iintro HC
  iapply (loadW0 (held I) c (o1 := 0) (o2 := 128) _) $$ HD1
  iintro HD1
  iapply (loadW (held I) K c 0 1 2 (r := 12) (s := 1) (o1 := 0) (o2 := 128) (by decide) rfl rfl rfl _) $$ HC
  iintro HC
  iapply (loadW (held I) K c 0 1 1 (r := 12) (s := 2) (o1 := 0) (o2 := 128) (by decide) rfl rfl rfl _) $$ HC
  iintro HC
  iapply (loadW (held I) K c 0 1 0 (r := 12) (s := 3) (o1 := 0) (o2 := 128) (by decide) rfl rfl rfl _) $$ HC
  iintro HC
  rw [wp_ret]; imodintro
  iapply Hk $$ [HD0 HD1 HC]
  · isplitl [HD0]; · iexact HD0
    isplitl [HD1]; · iexact HD1
    iexact HC

theorem part27_wp {Kt : (FVec F S128x256 .f32) → sProp (MT nD τ sig Unit (Elt F) ℕ UU ℕ)} (v346 : FVec F S256x256 .bf16) (v379 : IVec S128x512 1) (v504 : FVec F S128x64 .f32) (v531 : FVec F S128x64 .f32) (v605 : FVec F S128x128 .bf16) (v607 : FVec F S128x128 .bf16) (v609 : FVec F S128x128 .bf16) (v611 : FVec F S128x128 .bf16) (v613 : FVec F S128x128 .bf16) (v615 : FVec F S128x128 .bf16) (v617 : FVec F S128x128 .bf16) (v619 : FVec F S128x128 .bf16) (v620 : FVec F S128x64 .bf16) (v625 : FVec F S512x64 .bf16) (v626 : FVec F S128x64 .bf16) (v627 : FVec F S128x64 .bf16) (v628 : FVec F S128x64 .bf16)  :
    iprop(emp) ⊢ iprop(Kt (k0_pay37 v346 v379 v504 v531 v605 v607 v609 v611 v613 v615 v617 v619 v620 v625 v626 v627 v628)
      -∗ wp frame (wpE (defs₀ (F := F)) 𝒱₀ (c : Thread nD τ) none) Set.univ (k0_part27 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v346 v379 v504 v531 v605 v607 v609 v611 v613 v615 v617 v619 v620 v625 v626 v627 v628) Kt) := by
  rw [k0_part27_eq_skeleton]; unfold k0_part27_skel
  simp only [semSignalWord, semWaitWord, Prog.lift, Prog.bind_op, Prog.bind_ret, Prog.pure_eq_ret, wp_deviceId]
  iintro - Hk

  rw [wp_ret]; imodintro
  iexact Hk

theorem part28_wp {Kt : (Σ' (v683 : BitVec 32), BitVec 32) → sProp (MT nD τ sig Unit (Elt F) ℕ UU ℕ)} (v2 : BitVec 32) (v674 : FVec F S128x256 .f32) (hv : ∀ y, k0_pay38 v674 (ldO (I.wo c)) y = partF I c ((Rect.unit (s := S2x128x512) ![0, 0, 0] S1x128x512.size inb_S2x128x512_S1x128x512_0_0_0).emb y)) :
    iprop(((c : Thread nD τ).loc cc0_stg4_0 ↦{fullShare} I.wo c) ∗ (∃ f, ((c : Thread nD τ).loc cc0_scratch4 ↦[partSet 0]{fullShare} f)) ∗ Comm (held I) K c 12 24 12 0 0 0) ⊢ iprop((((c : Thread nD τ).loc cc0_stg4_0 ↦{fullShare} I.wo c) ∗ arSrc (held I) c (0, 1) ∗ arSrc (held I) c (0, 2) ∗ Comm (held I) K c 12 24 12 0 1 0 -∗ ∀ r, Kt r)
      -∗ wp frame (wpE (defs₀ (F := F)) 𝒱₀ (c : Thread nD τ) none) Set.univ (k0_part28 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2 v674) Kt) := by
  rw [k0_part28_eq_skeleton]; unfold k0_part28_skel
  simp only [semSignalWord, semWaitWord, Prog.lift, Prog.bind_op, Prog.bind_ret, Prog.pure_eq_ret, wp_deviceId]
  iintro ⟨HO, HP0, HC⟩ Hk
  iapply (loadO c _) $$ HO
  iintro HO
  iapply (deadP c 0 rfl _) $$ HP0
  iintro HP0 %v679
  iapply (storeP c 0 rfl ((held I).part c) hv _) $$ HP0
  iintro HPs0
  ihave HA := (Entails.of_eq (part_shares (held I) c 0)) $$ HPs0
  icases HA with ⟨HA00, HA01, HA02⟩
  iapply (startA (held I) K c 0 0 (u := 0) (m := 0) rfl (by decide) (dev28 c) rfl rfl rfl rfl _) $$ [HC HA00]
  · isplitl [HC]; · iexact HC
    iexact HA00
  iintro HC
  rw [wp_ret]; imodintro
  iapply Hk $$ [HO HA01 HA02 HC]
  · isplitl [HO]; · iexact HO
    isplitl [HA01]; · iexact HA01
    isplitl [HA02]; · iexact HA02
    iexact HC

theorem part29_wp {Kt : (BitVec 32) → sProp (MT nD τ sig Unit (Elt F) ℕ UU ℕ)} (v2 : BitVec 32)  :
    iprop(Comm (held I) K c 12 24 12 0 1 0 ∗ arSrc (held I) c (0, 1) ∗ arSrc (held I) c (0, 2)) ⊢ iprop((Comm (held I) K c 13 24 12 0 3 0 -∗ ∀ r, Kt r)
      -∗ wp frame (wpE (defs₀ (F := F)) 𝒱₀ (c : Thread nD τ) none) Set.univ (k0_part29 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part29_eq_skeleton]; unfold k0_part29_skel
  simp only [semSignalWord, semWaitWord, Prog.lift, Prog.bind_op, Prog.bind_ret, Prog.pure_eq_ret, wp_deviceId]
  iintro ⟨HC, HA01, HA02⟩ Hk
  iapply (startA (held I) K c 0 1 (u := 0) (m := 1) rfl (by decide) (dev29 c) rfl rfl rfl rfl _) $$ [HC HA01]
  · isplitl [HC]; · iexact HC
    iexact HA01
  iintro HC
  iapply (startA (held I) K c 0 2 (u := 0) (m := 2) rfl (by decide) (dev30 c) rfl rfl rfl rfl _) $$ [HC HA02]
  · isplitl [HC]; · iexact HC
    iexact HA02
  iintro HC
  iapply (kv_back (held I) K c (1, 0, 0, 0) (w := 12) (i := 24) rfl (by decide) rfl (credT _) _) $$ HC
  iintro HC
  rw [wp_ret]; imodintro
  iapply Hk $$ HC

end Cert.KernelIdealRun

end
-- ==== Proof.Parts5.lean ====
/-
# The program, parts 30 to 35

What each part of the kernel takes and gives back, operation by operation.
-/
module

public import proofs.«01_k».proof.Proof.Ops

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

theorem part30_wp {Kt : (PUnit) → sProp (MT nD τ sig Unit (Elt F) ℕ UU ℕ)} (v185 : BitVec 32)  :
    iprop(Comm (held I) K c 13 24 12 0 3 0) ⊢ iprop((Comm (held I) K c 14 24 14 0 3 0 -∗ Kt PUnit.unit)
      -∗ wp frame (wpE (defs₀ (F := F)) 𝒱₀ (c : Thread nD τ) none) Set.univ (k0_part30 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v185) Kt) := by
  rw [k0_part30_eq_skeleton]; unfold k0_part30_skel
  simp only [semSignalWord, semWaitWord, Prog.lift, Prog.bind_op, Prog.bind_ret, Prog.pure_eq_ret, wp_deviceId]
  iintro HC Hk
  iapply (kv_land (held I) K c (1, 0, 0, 0) (r := 12) rfl rfl (credT _) _) $$ HC
  iintro HC
  iapply (kv_back (held I) K c (1, 0, 0, 1) (w := 13) (i := 24) rfl (by decide) rfl (credT _) _) $$ HC
  iintro HC
  iapply (kv_land (held I) K c (1, 0, 0, 1) (r := 13) rfl rfl (credT _) _) $$ HC
  iintro HC
  rw [wp_ret]; imodintro
  iapply Hk $$ HC

theorem part31_wp {Kt : (PUnit) → sProp (MT nD τ sig Unit (Elt F) ℕ UU ℕ)} (v209 : BitVec 32)  :
    iprop(Comm (held I) K c 14 24 14 0 3 0) ⊢ iprop((Comm (held I) K c 16 24 15 0 3 0 -∗ Kt PUnit.unit)
      -∗ wp frame (wpE (defs₀ (F := F)) 𝒱₀ (c : Thread nD τ) none) Set.univ (k0_part31 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v209) Kt) := by
  rw [k0_part31_eq_skeleton]; unfold k0_part31_skel
  simp only [semSignalWord, semWaitWord, Prog.lift, Prog.bind_op, Prog.bind_ret, Prog.pure_eq_ret, wp_deviceId]
  iintro HC Hk
  iapply (kv_back (held I) K c (1, 0, 1, 0) (w := 14) (i := 24) rfl (by decide) rfl (credT _) _) $$ HC
  iintro HC
  iapply (kv_land (held I) K c (1, 0, 1, 0) (r := 14) rfl rfl (credT _) _) $$ HC
  iintro HC
  iapply (kv_back (held I) K c (1, 0, 1, 1) (w := 15) (i := 24) rfl (by decide) rfl (credT _) _) $$ HC
  iintro HC
  rw [wp_ret]; imodintro
  iapply Hk $$ HC

theorem part32_wp {Kt : (PUnit) → sProp (MT nD τ sig Unit (Elt F) ℕ UU ℕ)} (v209 : BitVec 32) (v233 : BitVec 32)  :
    iprop(Comm (held I) K c 16 24 15 0 3 0) ⊢ iprop((Comm (held I) K c 17 24 16 0 3 0 -∗ Kt PUnit.unit)
      -∗ wp frame (wpE (defs₀ (F := F)) 𝒱₀ (c : Thread nD τ) none) Set.univ (k0_part32 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v209 v233) Kt) := by
  rw [k0_part32_eq_skeleton]; unfold k0_part32_skel
  simp only [semSignalWord, semWaitWord, Prog.lift, Prog.bind_op, Prog.bind_ret, Prog.pure_eq_ret, wp_deviceId]
  iintro HC Hk
  iapply (kv_land (held I) K c (1, 0, 1, 1) (r := 15) rfl rfl (credT _) _) $$ HC
  iintro HC
  iapply (kv_back (held I) K c (1, 0, 2, 0) (w := 16) (i := 24) rfl (by decide) rfl (credT _) _) $$ HC
  iintro HC
  rw [wp_ret]; imodintro
  iapply Hk $$ HC

theorem part33_wp {Kt : (Σ' (v791 : FVec F S128x128 .bf16) (v793 : FVec F S128x128 .bf16), FVec F S128x128 .bf16) → sProp (MT nD τ sig Unit (Elt F) ℕ UU ℕ)} (v233 : BitVec 32)  :
    iprop(Comm (held I) K c 17 24 16 0 3 0 ∗ locDone (held I) c 0) ⊢ iprop((locDone (held I) c 0 ∗ Comm (held I) K c 18 24 18 0 3 0 -∗ Kt ⟨k0_pay39 (ldT (gath (held I).k16 c) 0 128 0 inb_S4x256x256_S1x128x128_0_128_0), k0_pay40 (ldT (gath (held I).k16 c) 1 128 0 inb_S4x256x256_S1x128x128_1_128_0), k0_pay41 (ldT (gath (held I).k16 c) 2 128 0 inb_S4x256x256_S1x128x128_2_128_0)⟩)
      -∗ wp frame (wpE (defs₀ (F := F)) 𝒱₀ (c : Thread nD τ) none) Set.univ (k0_part33 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v233) Kt) := by
  rw [k0_part33_eq_skeleton]; unfold k0_part33_skel
  simp only [semSignalWord, semWaitWord, Prog.lift, Prog.bind_op, Prog.bind_ret, Prog.pure_eq_ret, wp_deviceId]
  iintro ⟨HC, HD0⟩ Hk
  iapply (kv_land (held I) K c (1, 0, 2, 0) (r := 16) rfl rfl (credT _) _) $$ HC
  iintro HC
  iapply (kv_back (held I) K c (1, 0, 2, 1) (w := 17) (i := 24) rfl (by decide) rfl (credT _) _) $$ HC
  iintro HC
  iapply (kv_land (held I) K c (1, 0, 2, 1) (r := 17) rfl rfl (credT _) _) $$ HC
  iintro HC
  iapply (loadG0 (held I) c (o1 := 128) (o2 := 0) _) $$ HD0
  iintro HD0
  iapply (loadG (held I) K c 1 0 2 (r := 18) (s := 1) (o1 := 128) (o2 := 0) (by decide) rfl rfl rfl _) $$ HC
  iintro HC
  iapply (loadG (held I) K c 1 0 1 (r := 18) (s := 2) (o1 := 128) (o2 := 0) (by decide) rfl rfl rfl _) $$ HC
  iintro HC
  rw [wp_ret]; imodintro
  iapply Hk $$ [HD0 HC]
  · isplitl [HD0]; · iexact HD0
    iexact HC

theorem part34_wp {Kt : (Σ' (v799 : FVec F S128x128 .bf16) (v801 : FVec F S128x128 .bf16) (v803 : FVec F S128x128 .bf16) (v805 : FVec F S128x128 .bf16) (v832 : FVec F S128x64 .f32) (v833 : FVec F S128x64 .bf16) (v834 : FVec F S128x64 .bf16) (v835 : FVec F S128x64 .bf16) (v836 : FVec F S128x64 .bf16), FVec F S128x64 .bf16) → sProp (MT nD τ sig Unit (Elt F) ℕ UU ℕ)} (v346 : FVec F S256x256 .bf16) (v379 : IVec S128x512 1) (v791 : FVec F S128x128 .bf16) (v793 : FVec F S128x128 .bf16) (v795 : FVec F S128x128 .bf16)  :
    iprop(Comm (held I) K c 18 24 18 0 3 0 ∗ locDone (held I) c 1) ⊢ iprop((locDone (held I) c 1 ∗ Comm (held I) K c 18 24 18 0 3 0 -∗ Kt ⟨k0_pay43 (ldT (gath (held I).v16 c) 0 128 0 inb_S4x256x256_S1x128x128_0_128_0), k0_pay44 (ldT (gath (held I).v16 c) 1 128 0 inb_S4x256x256_S1x128x128_1_128_0), k0_pay45 (ldT (gath (held I).v16 c) 2 128 0 inb_S4x256x256_S1x128x128_2_128_0), k0_pay46 (ldT (gath (held I).v16 c) 3 128 0 inb_S4x256x256_S1x128x128_3_128_0), k0_pay47 v346 v379 v791 v793 v795 (ldT (gath (held I).k16 c) 3 128 0 inb_S4x256x256_S1x128x128_3_128_0) (ldT (gath (held I).v16 c) 0 128 0 inb_S4x256x256_S1x128x128_0_128_0) (ldT (gath (held I).v16 c) 1 128 0 inb_S4x256x256_S1x128x128_1_128_0) (ldT (gath (held I).v16 c) 2 128 0 inb_S4x256x256_S1x128x128_2_128_0) (ldT (gath (held I).v16 c) 3 128 0 inb_S4x256x256_S1x128x128_3_128_0), k0_pay48 v346, k0_pay49 v791, k0_pay50 v793, k0_pay51 v795, k0_pay52 (ldT (gath (held I).k16 c) 3 128 0 inb_S4x256x256_S1x128x128_3_128_0)⟩)
      -∗ wp frame (wpE (defs₀ (F := F)) 𝒱₀ (c : Thread nD τ) none) Set.univ (k0_part34 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v346 v379 v791 v793 v795) Kt) := by
  rw [k0_part34_eq_skeleton]; unfold k0_part34_skel
  simp only [semSignalWord, semWaitWord, Prog.lift, Prog.bind_op, Prog.bind_ret, Prog.pure_eq_ret, wp_deviceId]
  iintro ⟨HC, HD1⟩ Hk
  iapply (loadG (held I) K c 1 0 0 (r := 18) (s := 3) (o1 := 128) (o2 := 0) (by decide) rfl rfl rfl _) $$ HC
  iintro HC
  iapply (loadW0 (held I) c (o1 := 128) (o2 := 0) _) $$ HD1
  iintro HD1
  iapply (loadW (held I) K c 1 0 2 (r := 18) (s := 1) (o1 := 128) (o2 := 0) (by decide) rfl rfl rfl _) $$ HC
  iintro HC
  iapply (loadW (held I) K c 1 0 1 (r := 18) (s := 2) (o1 := 128) (o2 := 0) (by decide) rfl rfl rfl _) $$ HC
  iintro HC
  iapply (loadW (held I) K c 1 0 0 (r := 18) (s := 3) (o1 := 128) (o2 := 0) (by decide) rfl rfl rfl _) $$ HC
  iintro HC
  rw [wp_ret]; imodintro
  iapply Hk $$ [HD1 HC]
  · isplitl [HD1]; · iexact HD1
    iexact HC

theorem part35_wp {Kt : (FVec F S128x64 .f32) → sProp (MT nD τ sig Unit (Elt F) ℕ UU ℕ)} (v257 : BitVec 32) (v379 : IVec S128x512 1) (v799 : FVec F S128x128 .bf16) (v801 : FVec F S128x128 .bf16) (v803 : FVec F S128x128 .bf16) (v805 : FVec F S128x128 .bf16) (v833 : FVec F S128x64 .bf16) (v834 : FVec F S128x64 .bf16) (v835 : FVec F S128x64 .bf16) (v836 : FVec F S128x64 .bf16) (v837 : FVec F S128x64 .bf16)  :
    iprop(Comm (held I) K c 18 24 18 0 3 0) ⊢ iprop((Comm (held I) K c 19 24 18 0 3 0 -∗ Kt (k0_pay53 v379 v799 v801 v803 v805 v833 v834 v835 v836 v837))
      -∗ wp frame (wpE (defs₀ (F := F)) 𝒱₀ (c : Thread nD τ) none) Set.univ (k0_part35 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v257 v379 v799 v801 v803 v805 v833 v834 v835 v836 v837) Kt) := by
  rw [k0_part35_eq_skeleton]; unfold k0_part35_skel
  simp only [semSignalWord, semWaitWord, Prog.lift, Prog.bind_op, Prog.bind_ret, Prog.pure_eq_ret, wp_deviceId]
  iintro HC Hk
  iapply (kv_back (held I) K c (1, 1, 0, 0) (w := 18) (i := 24) rfl (by decide) rfl (credT _) _) $$ HC
  iintro HC
  rw [wp_ret]; imodintro
  iapply Hk $$ HC

end Cert.KernelIdealRun

end
-- ==== Proof.Parts6.lean ====
/-
# The program, parts 36 to 41

What each part of the kernel takes and gives back, operation by operation.
-/
module

public import proofs.«01_k».proof.Proof.Ops

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

theorem part36_wp {Kt : (PUnit) → sProp (MT nD τ sig Unit (Elt F) ℕ UU ℕ)} (v257 : BitVec 32)  :
    iprop(Comm (held I) K c 19 24 18 0 3 0) ⊢ iprop((Comm (held I) K c 20 24 20 0 3 0 -∗ Kt PUnit.unit)
      -∗ wp frame (wpE (defs₀ (F := F)) 𝒱₀ (c : Thread nD τ) none) Set.univ (k0_part36 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v257) Kt) := by
  rw [k0_part36_eq_skeleton]; unfold k0_part36_skel
  simp only [semSignalWord, semWaitWord, Prog.lift, Prog.bind_op, Prog.bind_ret, Prog.pure_eq_ret, wp_deviceId]
  iintro HC Hk
  iapply (kv_land (held I) K c (1, 1, 0, 0) (r := 18) rfl rfl (credT _) _) $$ HC
  iintro HC
  iapply (kv_back (held I) K c (1, 1, 0, 1) (w := 19) (i := 24) rfl (by decide) rfl (credT _) _) $$ HC
  iintro HC
  iapply (kv_land (held I) K c (1, 1, 0, 1) (r := 19) rfl rfl (credT _) _) $$ HC
  iintro HC
  rw [wp_ret]; imodintro
  iapply Hk $$ HC

theorem part37_wp {Kt : (BitVec 32) → sProp (MT nD τ sig Unit (Elt F) ℕ UU ℕ)} (v281 : BitVec 32)  :
    iprop(Comm (held I) K c 20 24 20 0 3 0) ⊢ iprop((Comm (held I) K c 22 24 21 0 3 0 -∗ ∀ r, Kt r)
      -∗ wp frame (wpE (defs₀ (F := F)) 𝒱₀ (c : Thread nD τ) none) Set.univ (k0_part37 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v281) Kt) := by
  rw [k0_part37_eq_skeleton]; unfold k0_part37_skel
  simp only [semSignalWord, semWaitWord, Prog.lift, Prog.bind_op, Prog.bind_ret, Prog.pure_eq_ret, wp_deviceId]
  iintro HC Hk
  iapply (kv_back (held I) K c (1, 1, 1, 0) (w := 20) (i := 24) rfl (by decide) rfl (credT _) _) $$ HC
  iintro HC
  iapply (kv_land (held I) K c (1, 1, 1, 0) (r := 20) rfl rfl (credT _) _) $$ HC
  iintro HC
  iapply (kv_back (held I) K c (1, 1, 1, 1) (w := 21) (i := 24) rfl (by decide) rfl (credT _) _) $$ HC
  iintro HC
  rw [wp_ret]; imodintro
  iapply Hk $$ HC

theorem part38_wp {Kt : (PUnit) → sProp (MT nD τ sig Unit (Elt F) ℕ UU ℕ)} (v281 : BitVec 32) (v305 : BitVec 32) (c1_i32_1219 : BitVec 32)  :
    iprop(Comm (held I) K c 22 24 21 0 3 0) ⊢ iprop((Comm (held I) K c 23 24 23 0 3 0 -∗ Kt PUnit.unit)
      -∗ wp frame (wpE (defs₀ (F := F)) 𝒱₀ (c : Thread nD τ) none) Set.univ (k0_part38 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v281 v305 c1_i32_1219) Kt) := by
  rw [k0_part38_eq_skeleton]; unfold k0_part38_skel
  simp only [semSignalWord, semWaitWord, Prog.lift, Prog.bind_op, Prog.bind_ret, Prog.pure_eq_ret, wp_deviceId]
  iintro HC Hk
  iapply (kv_land (held I) K c (1, 1, 1, 1) (r := 21) rfl rfl (credT _) _) $$ HC
  iintro HC
  iapply (kv_back (held I) K c (1, 1, 2, 0) (w := 22) (i := 24) rfl (by decide) rfl (credT _) _) $$ HC
  iintro HC
  iapply (kv_land (held I) K c (1, 1, 2, 0) (r := 22) rfl rfl (credT _) _) $$ HC
  iintro HC
  rw [wp_ret]; imodintro
  iapply Hk $$ HC

theorem part39_wp {Kt : (Σ' (v933 : FVec F S128x128 .bf16) (v935 : FVec F S128x128 .bf16) (v937 : FVec F S128x128 .bf16) (v939 : FVec F S128x128 .bf16), FVec F S128x128 .bf16) → sProp (MT nD τ sig Unit (Elt F) ℕ UU ℕ)} (v305 : BitVec 32)  :
    iprop(Comm (held I) K c 23 24 23 0 3 0 ∗ locDone (held I) c 0 ∗ locDone (held I) c 1) ⊢ iprop((locDone (held I) c 0 ∗ Comm (held I) K c 24 24 24 0 3 0 ∗ locDone (held I) c 1 -∗ Kt ⟨k0_pay54 (ldT (gath (held I).k16 c) 0 128 128 inb_S4x256x256_S1x128x128_0_128_128), k0_pay55 (ldT (gath (held I).k16 c) 1 128 128 inb_S4x256x256_S1x128x128_1_128_128), k0_pay56 (ldT (gath (held I).k16 c) 2 128 128 inb_S4x256x256_S1x128x128_2_128_128), k0_pay57 (ldT (gath (held I).k16 c) 3 128 128 inb_S4x256x256_S1x128x128_3_128_128), k0_pay58 (ldT (gath (held I).v16 c) 0 128 128 inb_S4x256x256_S1x128x128_0_128_128)⟩)
      -∗ wp frame (wpE (defs₀ (F := F)) 𝒱₀ (c : Thread nD τ) none) Set.univ (k0_part39 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v305) Kt) := by
  rw [k0_part39_eq_skeleton]; unfold k0_part39_skel
  simp only [semSignalWord, semWaitWord, Prog.lift, Prog.bind_op, Prog.bind_ret, Prog.pure_eq_ret, wp_deviceId]
  iintro ⟨HC, HD0, HD1⟩ Hk
  iapply (kv_back (held I) K c (1, 1, 2, 1) (w := 23) (i := 24) rfl (by decide) rfl (credT _) _) $$ HC
  iintro HC
  iapply (kv_land (held I) K c (1, 1, 2, 1) (r := 23) rfl rfl (credT _) _) $$ HC
  iintro HC
  iapply (loadG0 (held I) c (o1 := 128) (o2 := 128) _) $$ HD0
  iintro HD0
  iapply (loadG (held I) K c 1 1 2 (r := 24) (s := 1) (o1 := 128) (o2 := 128) (by decide) rfl rfl rfl _) $$ HC
  iintro HC
  iapply (loadG (held I) K c 1 1 1 (r := 24) (s := 2) (o1 := 128) (o2 := 128) (by decide) rfl rfl rfl _) $$ HC
  iintro HC
  iapply (loadG (held I) K c 1 1 0 (r := 24) (s := 3) (o1 := 128) (o2 := 128) (by decide) rfl rfl rfl _) $$ HC
  iintro HC
  iapply (loadW0 (held I) c (o1 := 128) (o2 := 128) _) $$ HD1
  iintro HD1
  rw [wp_ret]; imodintro
  iapply Hk $$ [HD0 HC HD1]
  · isplitl [HD0]; · iexact HD0
    isplitl [HC]; · iexact HC
    iexact HD1

theorem part40_wp {Kt : (Σ' (v974 : FVec F S128x64 .f32) (v985 : FVec F S512x64 .bf16), FVec F S128x512 .f32) → sProp (MT nD τ sig Unit (Elt F) ℕ UU ℕ)} (v346 : FVec F S256x256 .bf16) (v379 : IVec S128x512 1) (v933 : FVec F S128x128 .bf16) (v935 : FVec F S128x128 .bf16) (v937 : FVec F S128x128 .bf16) (v939 : FVec F S128x128 .bf16) (v941 : FVec F S128x128 .bf16)  :
    iprop(Comm (held I) K c 24 24 24 0 3 0) ⊢ iprop((Comm (held I) K c 24 24 24 0 3 0 -∗ Kt ⟨k0_pay62 v346 v379 v933 v935 v937 v939 v941 (ldT (gath (held I).v16 c) 1 128 128 inb_S4x256x256_S1x128x128_1_128_128) (ldT (gath (held I).v16 c) 2 128 128 inb_S4x256x256_S1x128x128_2_128_128) (ldT (gath (held I).v16 c) 3 128 128 inb_S4x256x256_S1x128x128_3_128_128), k0_pay63 v941 (ldT (gath (held I).v16 c) 1 128 128 inb_S4x256x256_S1x128x128_1_128_128) (ldT (gath (held I).v16 c) 2 128 128 inb_S4x256x256_S1x128x128_2_128_128) (ldT (gath (held I).v16 c) 3 128 128 inb_S4x256x256_S1x128x128_3_128_128), k0_pay64 v346 v933 v935 v937 v939⟩)
      -∗ wp frame (wpE (defs₀ (F := F)) 𝒱₀ (c : Thread nD τ) none) Set.univ (k0_part40 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v346 v379 v933 v935 v937 v939 v941) Kt) := by
  rw [k0_part40_eq_skeleton]; unfold k0_part40_skel
  simp only [semSignalWord, semWaitWord, Prog.lift, Prog.bind_op, Prog.bind_ret, Prog.pure_eq_ret, wp_deviceId]
  iintro HC Hk
  iapply (loadW (held I) K c 1 1 2 (r := 24) (s := 1) (o1 := 128) (o2 := 128) (by decide) rfl rfl rfl _) $$ HC
  iintro HC
  iapply (loadW (held I) K c 1 1 1 (r := 24) (s := 2) (o1 := 128) (o2 := 128) (by decide) rfl rfl rfl _) $$ HC
  iintro HC
  iapply (loadW (held I) K c 1 1 0 (r := 24) (s := 3) (o1 := 128) (o2 := 128) (by decide) rfl rfl rfl _) $$ HC
  iintro HC
  rw [wp_ret]; imodintro
  iapply Hk $$ HC

theorem part41_wp {Kt : (BitVec 32) → sProp (MT nD τ sig Unit (Elt F) ℕ UU ℕ)} (v2 : BitVec 32) (v379 : IVec S128x512 1) (v832 : FVec F S128x64 .f32) (v859 : FVec F S128x64 .f32) (v974 : FVec F S128x64 .f32) (v985 : FVec F S512x64 .bf16) (v986 : FVec F S128x512 .f32) (hv : ∀ y, k0_pay65 v379 v832 v859 v974 v985 v986 (ldO (I.wo c)) y = partF I c ((Rect.unit (s := S2x128x512) ![1, 0, 0] S1x128x512.size inb_S2x128x512_S1x128x512_1_0_0).emb y)) :
    iprop(((c : Thread nD τ).loc cc0_stg4_0 ↦{fullShare} I.wo c) ∗ (∃ f, ((c : Thread nD τ).loc cc0_scratch4 ↦[partSet 1]{fullShare} f))) ⊢ iprop((((c : Thread nD τ).loc cc0_stg4_0 ↦{fullShare} I.wo c) ∗ arSrc (held I) c (1, 0) ∗ arSrc (held I) c (1, 1) ∗ arSrc (held I) c (1, 2) -∗ ∀ r, Kt r)
      -∗ wp frame (wpE (defs₀ (F := F)) 𝒱₀ (c : Thread nD τ) none) Set.univ (k0_part41 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v2 v379 v832 v859 v974 v985 v986) Kt) := by
  rw [k0_part41_eq_skeleton]; unfold k0_part41_skel
  simp only [semSignalWord, semWaitWord, Prog.lift, Prog.bind_op, Prog.bind_ret, Prog.pure_eq_ret, wp_deviceId]
  iintro ⟨HO, HP1⟩ Hk
  iapply (loadO c _) $$ HO
  iintro HO
  iapply (deadP c 1 rfl _) $$ HP1
  iintro HP1 %v1007
  iapply (storeP c 1 rfl ((held I).part c) hv _) $$ HP1
  iintro HPs1
  ihave HA := (Entails.of_eq (part_shares (held I) c 1)) $$ HPs1
  icases HA with ⟨HA10, HA11, HA12⟩
  rw [wp_ret]; imodintro
  iapply Hk $$ [HO HA10 HA11 HA12]
  · isplitl [HO]; · iexact HO
    isplitl [HA10]; · iexact HA10
    isplitl [HA11]; · iexact HA11
    iexact HA12

end Cert.KernelIdealRun

end
-- ==== Proof.Parts7.lean ====
/-
# The program, parts 42 to 47

What each part of the kernel takes and gives back, operation by operation.
-/
module

public import proofs.«01_k».proof.Proof.Ops

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

theorem part42_wp {Kt : (Σ' (v1023 : BitVec 32), BitVec 32) → sProp (MT nD τ sig Unit (Elt F) ℕ UU ℕ)} (v2 : BitVec 32)  :
    iprop(Comm (held I) K c 24 24 24 0 3 0 ∗ arSrc (held I) c (1, 0) ∗ arSrc (held I) c (1, 1) ∗ arSrc (held I) c (1, 2)) ⊢ iprop((Comm (held I) K c 24 24 24 0 6 0 -∗ ∀ r, Kt r)
      -∗ wp frame (wpE (defs₀ (F := F)) 𝒱₀ (c : Thread nD τ) none) Set.univ (k0_part42 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 c v2) Kt) := by
  rw [k0_part42_eq_skeleton]; unfold k0_part42_skel
  simp only [semSignalWord, semWaitWord, Prog.lift, Prog.bind_op, Prog.bind_ret, Prog.pure_eq_ret, wp_deviceId]
  iintro ⟨HC, HA10, HA11, HA12⟩ Hk
  iapply (startA (held I) K c 1 0 (u := 0) (m := 3) rfl (by decide) (dev31 c) rfl rfl rfl rfl _) $$ [HC HA10]
  · isplitl [HC]; · iexact HC
    iexact HA10
  iintro HC
  iapply (startA (held I) K c 1 1 (u := 0) (m := 4) rfl (by decide) (dev32 c) rfl rfl rfl rfl _) $$ [HC HA11]
  · isplitl [HC]; · iexact HC
    iexact HA11
  iintro HC
  iapply (startA (held I) K c 1 2 (u := 0) (m := 5) rfl (by decide) (dev33 c) rfl rfl rfl rfl _) $$ [HC HA12]
  · isplitl [HC]; · iexact HC
    iexact HA12
  iintro HC
  rw [wp_ret]; imodintro
  iapply Hk $$ HC

theorem part43_wp {Kt : (PUnit) → sProp (MT nD τ sig Unit (Elt F) ℕ UU ℕ)} (v683 : BitVec 32)  :
    iprop(Comm (held I) K c 24 24 24 0 6 0) ⊢ iprop((Comm (held I) K c 24 24 24 2 6 1 -∗ Kt PUnit.unit)
      -∗ wp frame (wpE (defs₀ (F := F)) 𝒱₀ (c : Thread nD τ) none) Set.univ (k0_part43 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v683) Kt) := by
  rw [k0_part43_eq_skeleton]; unfold k0_part43_skel
  simp only [semSignalWord, semWaitWord, Prog.lift, Prog.bind_op, Prog.bind_ret, Prog.pure_eq_ret, wp_deviceId]
  iintro HC Hk
  iapply (ar_back (held I) K c (0, 0) (w := 0) (m := 6) rfl (by decide) rfl (credA _) _) $$ HC
  iintro HC
  iapply (ar_land (held I) K c (0, 0) (r := 0) rfl rfl (credA _) _) $$ HC
  iintro HC
  iapply (ar_back (held I) K c (0, 1) (w := 1) (m := 6) rfl (by decide) rfl (credA _) _) $$ HC
  iintro HC
  rw [wp_ret]; imodintro
  iapply Hk $$ HC

theorem part44_wp {Kt : (PUnit) → sProp (MT nD τ sig Unit (Elt F) ℕ UU ℕ)} (v695 : BitVec 32) (v707 : BitVec 32)  :
    iprop(Comm (held I) K c 24 24 24 2 6 1) ⊢ iprop((Comm (held I) K c 24 24 24 3 6 2 -∗ Kt PUnit.unit)
      -∗ wp frame (wpE (defs₀ (F := F)) 𝒱₀ (c : Thread nD τ) none) Set.univ (k0_part44 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v695 v707) Kt) := by
  rw [k0_part44_eq_skeleton]; unfold k0_part44_skel
  simp only [semSignalWord, semWaitWord, Prog.lift, Prog.bind_op, Prog.bind_ret, Prog.pure_eq_ret, wp_deviceId]
  iintro HC Hk
  iapply (ar_land (held I) K c (0, 1) (r := 1) rfl rfl (credA _) _) $$ HC
  iintro HC
  iapply (ar_back (held I) K c (0, 2) (w := 2) (m := 6) rfl (by decide) rfl (credA _) _) $$ HC
  iintro HC
  rw [wp_ret]; imodintro
  iapply Hk $$ HC

theorem part45_wp {Kt : (PUnit) → sProp (MT nD τ sig Unit (Elt F) ℕ UU ℕ)}   :
    iprop(Comm (held I) K c 24 24 24 3 6 2 ∗ (∃ f, ((c : Thread nD τ).loc cc0_stg5_0 ↦[partSet 0]{fullShare} f))) ⊢ iprop((((c : Thread nD τ).loc cc0_stg5_0 ↦[partSet 0]{fullShare} outF I c) ∗ Comm (held I) K c 24 24 24 4 6 3 -∗ Kt PUnit.unit)
      -∗ wp frame (wpE (defs₀ (F := F)) 𝒱₀ (c : Thread nD τ) none) Set.univ (k0_part45 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 ) Kt) := by
  rw [k0_part45_eq_skeleton]; unfold k0_part45_skel
  simp only [semSignalWord, semWaitWord, Prog.lift, Prog.bind_op, Prog.bind_ret, Prog.pure_eq_ret, wp_deviceId]
  iintro ⟨HC, HY0⟩ Hk
  iapply (ar_land (held I) K c (0, 2) (r := 2) rfl rfl (credA _) _) $$ HC
  iintro HC
  iapply (loadP (held I) K c 0 (u := 3) (o1 := 0) (by decide) rfl _) $$ HC
  iintro HC
  iapply (loadA (held I) K c 0 2 (v := 3) (s := 0) (o1 := 0) (by decide) rfl rfl _) $$ HC
  iintro HC
  iapply (loadA (held I) K c 0 1 (v := 3) (s := 1) (o1 := 0) (by decide) rfl rfl _) $$ HC
  iintro HC
  iapply (loadA (held I) K c 0 0 (v := 3) (s := 2) (o1 := 0) (by decide) rfl rfl _) $$ HC
  iintro HC
  iapply (deadY c 0 rfl _) $$ HY0
  iintro HY0 %v1103
  iapply (storeY c 0 rfl (outF I c) (fun y => out0_eq I c y) _) $$ HY0
  iintro HYs0
  iapply (ar_back (held I) K c (1, 0) (w := 3) (m := 6) rfl (by decide) rfl (credA _) _) $$ HC
  iintro HC
  rw [wp_ret]; imodintro
  iapply Hk $$ [HYs0 HC]
  · isplitl [HYs0]; · iexact HYs0
    iexact HC

theorem part46_wp {Kt : (PUnit) → sProp (MT nD τ sig Unit (Elt F) ℕ UU ℕ)} (v1011 : BitVec 32) (v1023 : BitVec 32)  :
    iprop(Comm (held I) K c 24 24 24 4 6 3) ⊢ iprop((Comm (held I) K c 24 24 24 5 6 4 -∗ Kt PUnit.unit)
      -∗ wp frame (wpE (defs₀ (F := F)) 𝒱₀ (c : Thread nD τ) none) Set.univ (k0_part46 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v1011 v1023) Kt) := by
  rw [k0_part46_eq_skeleton]; unfold k0_part46_skel
  simp only [semSignalWord, semWaitWord, Prog.lift, Prog.bind_op, Prog.bind_ret, Prog.pure_eq_ret, wp_deviceId]
  iintro HC Hk
  iapply (ar_land (held I) K c (1, 0) (r := 3) rfl rfl (credA _) _) $$ HC
  iintro HC
  iapply (ar_back (held I) K c (1, 1) (w := 4) (m := 6) rfl (by decide) rfl (credA _) _) $$ HC
  iintro HC
  rw [wp_ret]; imodintro
  iapply Hk $$ HC

theorem part47_wp {Kt : (FVec F S128x512 .f32) → sProp (MT nD τ sig Unit (Elt F) ℕ UU ℕ)} (v1035 : BitVec 32)  :
    iprop(Comm (held I) K c 24 24 24 5 6 4) ⊢ iprop((Comm (held I) K c 24 24 24 6 6 6 -∗ Kt (k0_pay67 (ldP ((held I).part c) 1 inb_S2x128x512_S1x128x512_1_0_0) (ldA (accOf (held I).part c) 0 1 inb_S3x2x128x512_S1x1x128x512_0_1_0_0)))
      -∗ wp frame (wpE (defs₀ (F := F)) 𝒱₀ (c : Thread nD τ) none) Set.univ (k0_part47 xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10 v1035) Kt) := by
  rw [k0_part47_eq_skeleton]; unfold k0_part47_skel
  simp only [semSignalWord, semWaitWord, Prog.lift, Prog.bind_op, Prog.bind_ret, Prog.pure_eq_ret, wp_deviceId]
  iintro HC Hk
  iapply (ar_land (held I) K c (1, 1) (r := 4) rfl rfl (credA _) _) $$ HC
  iintro HC
  iapply (ar_back (held I) K c (1, 2) (w := 5) (m := 6) rfl (by decide) rfl (credA _) _) $$ HC
  iintro HC
  iapply (ar_land (held I) K c (1, 2) (r := 5) rfl rfl (credA _) _) $$ HC
  iintro HC
  iapply (loadP (held I) K c 1 (u := 6) (o1 := 1) (by decide) rfl _) $$ HC
  iintro HC
  iapply (loadA (held I) K c 1 2 (v := 6) (s := 0) (o1 := 1) (by decide) rfl rfl _) $$ HC
  iintro HC
  rw [wp_ret]; imodintro
  iapply Hk $$ HC

end Cert.KernelIdealRun

end
-- ==== Proof.Body.lean ====
/-
# The program

The parts, one after another: what the whole kernel takes and gives back.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (I : Ins F) (K : GSem nD τ sig → ℕ) (c : Dev nD)

/-- What a device's program starts from. -/
def Start : sProp (MT nD τ sig Unit (Elt F) ℕ UU ℕ) := iprop(levAts L lv ∗ invs (held I) K ∗ (∃ W, owes (c : Thread nD τ) (owed c 0 0 0) W) ∗ (dutyTok ER (bcell (peer c 0)) 0 (back 0) ∗ barPay (F := F) (peer c 0) (back 0) ∗ reached ER (bcell (peer c 0)) 0) ∗ (dutyTok ER (bcell (peer c 1)) 0 (back 1) ∗ barPay (F := F) (peer c 1) (back 1) ∗ reached ER (bcell (peer c 1)) 0) ∗ (dutyTok ER (bcell (peer c 2)) 0 (back 2) ∗ barPay (F := F) (peer c 2) (back 2) ∗ reached ER (bcell (peer c 2)) 0) ∗ cred (tallyAt (bcell c) () 3) ∗ atPos ER (bcell c) 0 ∅ 0 ∗ Pre c ∗ ((c : Thread nD τ).loc cc0_stg2_0 ↦{fullShare} I.k c) ∗ ((c : Thread nD τ).loc cc0_stg3_0 ↦{fullShare} I.v c) ∗ ((c : Thread nD τ).loc cc0_stg0_0 ↦{fullShare} I.x c) ∗ ((c : Thread nD τ).loc cc0_stg1_0 ↦{fullShare} I.wq c) ∗ ((c : Thread nD τ).loc cc0_stg4_0 ↦{fullShare} I.wo c) ∗ (∃ f, ((c : Thread nD τ).loc cc0_scratch0 ↦[rows 0]{fullShare} f)) ∗ (∃ f, ((c : Thread nD τ).loc cc0_scratch0 ↦[rows 1]{fullShare} f)) ∗ (∃ f, ((c : Thread nD τ).loc cc0_scratch1 ↦[rows 0]{fullShare} f)) ∗ (∃ f, ((c : Thread nD τ).loc cc0_scratch1 ↦[rows 1]{fullShare} f)) ∗ locNew c 0 ∗ locNew c 1 ∗ (∃ f, ((c : Thread nD τ).loc cc0_scratch2 ↦[slot0]{fullShare} f)) ∗ (∃ f, ((c : Thread nD τ).loc cc0_scratch3 ↦[slot0]{fullShare} f)) ∗ (∃ f, ((c : Thread nD τ).loc cc0_scratch4 ↦[partSet 0]{fullShare} f)) ∗ (∃ f, ((c : Thread nD τ).loc cc0_scratch4 ↦[partSet 1]{fullShare} f)) ∗ (∃ f, ((c : Thread nD τ).loc cc0_stg5_0 ↦[partSet 0]{fullShare} f)) ∗ (∃ f, ((c : Thread nD τ).loc cc0_stg5_0 ↦[partSet 1]{fullShare} f)))
/-- What it leaves. -/
def Done : sProp (MT nD τ sig Unit (Elt F) ℕ UU ℕ) := iprop(Comm (held I) K c 24 24 24 6 6 6 ∗ ((c : Thread nD τ).loc cc0_stg2_0 ↦{fullShare} I.k c) ∗ ((c : Thread nD τ).loc cc0_stg3_0 ↦{fullShare} I.v c) ∗ ((c : Thread nD τ).loc cc0_stg0_0 ↦{fullShare} I.x c) ∗ ((c : Thread nD τ).loc cc0_stg1_0 ↦{fullShare} I.wq c) ∗ ((c : Thread nD τ).loc cc0_stg4_0 ↦{fullShare} I.wo c) ∗ locDone (held I) c 0 ∗ locDone (held I) c 1 ∗ ((c : Thread nD τ).loc cc0_stg5_0 ↦[partSet 0]{fullShare} outF I c) ∗ ((c : Thread nD τ).loc cc0_stg5_0 ↦[partSet 1]{fullShare} outF I c) ∗ semVal (bcell c) 0)

set_option maxRecDepth 65536 in
set_option maxHeartbeats 4000000 in
theorem body_wp {Kt : PUnit → sProp (MT nD τ sig Unit (Elt F) ℕ UU ℕ)} :
    Start I K c ⊢ iprop((Done I K c -∗ Kt PUnit.unit)
      -∗ wp frame (wpE (defs₀ (F := F)) 𝒱₀ (c : Thread nD τ) none) Set.univ (cc0_body xM (Memref.isWhole_whole _) wqM (Memref.isWhole_whole _) kinM (Memref.isWhole_whole _) vinM (Memref.isWhole_whole _) woM (Memref.isWhole_whole _) outM (Memref.isWhole_whole _) k16M (Memref.isWhole_whole _) v16M (Memref.isWhole_whole _) kallM (Memref.isWhole_whole _) vallM (Memref.isWhole_whole _) partM (Memref.isWhole_whole _) accM (Memref.isWhole_whole _) cc0_scratch6 cc0_scratch7 cc0_scratch8 cc0_scratch9 cc0_scratch10) Kt) := by
  unfold Start Done
  rw [cc0_body_eq_skeleton]; unfold cc0_body_skel
  iintro ⟨#Hlev, #HI, HW, Hsg0, Hsg1, Hsg2, Hcr, Hat, Hpre, HKi, HVi, HX, HQ, HO, HK0, HK1, HV0, HV1, HN0, HN1, HZ0, HZ1, HP0, HP1, HY0, HY1⟩ Hk
  simp only [Prog.lift, Prog.bind_op, Prog.bind_ret, Prog.pure_eq_ret]
  rw [wp_bind, k0_part48_eq_skeleton]; unfold k0_part48_skel
  rw [wp_bind]
  iapply (part1_wp I K c ) $$ [HW Hsg0 Hsg1 Hsg2 HKi HK0 HVi HV0]
  · isplitr; · iexact HI
    isplitl [HW]; · iexact HW
    isplitl [Hsg0]; · iexact Hsg0
    isplitl [Hsg1]; · iexact Hsg1
    isplitl [Hsg2]; · iexact Hsg2
    isplitl [HKi]; · iexact HKi
    isplitl [HK0]; · iexact HK0
    isplitl [HVi]; · iexact HVi
    iexact HV0
  iintro ⟨HW, HKi, HVi, HKo0, HVo0, HS⟩
  dsimp only
  rw [wp_bind]
  iapply (part2_wp I K c _) $$ [HW Hcr Hat Hpre HS]
  · isplitr; · iexact Hlev
    isplitr; · iexact HI
    isplitl [HW]; · iexact HW
    isplitl [Hcr]; · iexact Hcr
    isplitl [Hat]; · iexact Hat
    isplitl [Hpre]; · iexact Hpre
    iexact HS
  iintro ⟨HBz, HC, HS⟩ %r
  rw [wp_bind]
  iapply (part3_wp I K c _) $$ [HC HS]
  · isplitl [HC]; · iexact HC
    iexact HS
  iintro ⟨HC, HS⟩ %r
  rw [wp_bind]
  iapply (part4_wp I K c _) $$ [HC HS]
  · isplitl [HC]; · iexact HC
    iexact HS
  iintro ⟨HC, HS⟩ %r
  rw [wp_bind]
  iapply (part5_wp I K c _) $$ [HC HS]
  · isplitl [HC]; · iexact HC
    iexact HS
  iintro ⟨HC, HS⟩ %r
  rw [wp_bind]
  iapply (part6_wp I K c _) $$ [HC HS]
  · isplitl [HC]; · iexact HC
    iexact HS
  iintro ⟨HC, HS⟩ %r
  rw [wp_bind]
  iapply (part7_wp I K c _) $$ [HC HS]
  · isplitl [HC]; · iexact HC
    iexact HS
  iintro ⟨HC, HS⟩ %r
  rw [wp_bind]
  iapply (part8_wp I K c _) $$ [HC HS HKi HK1 HVi HV1]
  · isplitl [HC]; · iexact HC
    isplitl [HS]; · iexact HS
    isplitl [HKi]; · iexact HKi
    isplitl [HK1]; · iexact HK1
    isplitl [HVi]; · iexact HVi
    iexact HV1
  iintro ⟨HKi, HVi, HKo1, HVo1, HC, HS⟩ %r
  rw [wp_bind]
  iapply (part9_wp I K c _ _) $$ [HC HS]
  · isplitl [HC]; · iexact HC
    iexact HS
  iintro ⟨HC, HS⟩ %r
  rw [wp_bind]
  iapply (part10_wp I K c _ _) $$ [HC HS]
  · isplitl [HC]; · iexact HC
    iexact HS
  iintro ⟨HC, HS⟩ %r
  rw [wp_bind]
  iapply (part11_wp I K c _ _) $$ [HC HS]
  · isplitl [HC]; · iexact HC
    iexact HS
  iintro ⟨HC, HS⟩ %r
  rw [wp_bind]
  iapply (part12_wp I K c _ _) $$ [HC HS]
  · isplitl [HC]; · iexact HC
    iexact HS
  iintro ⟨HC, HS⟩ %r
  rw [wp_bind]
  iapply (part13_wp I K c _ _) $$ [HC HS]
  · isplitl [HC]; · iexact HC
    iexact HS
  iintro ⟨HC, HS⟩ %r
  rw [wp_bind]
  iapply (part14_wp I K c _ _) $$ [HC HS HKo0 HKo1 HN0 HZ0 HVo0 HVo1 HN1 HZ1 HX HQ]
  · isplitl [HC]; · iexact HC
    isplitl [HS]; · iexact HS
    isplitl [HKo0]; · iexact HKo0
    isplitl [HKo1]; · iexact HKo1
    isplitl [HN0]; · iexact HN0
    isplitl [HZ0]; · iexact HZ0
    isplitl [HVo0]; · iexact HVo0
    isplitl [HVo1]; · iexact HVo1
    isplitl [HN1]; · iexact HN1
    isplitl [HZ1]; · iexact HZ1
    isplitl [HX]; · iexact HX
    iexact HQ
  iintro ⟨HS, HL0, HL1, HC, HX, HQ⟩
  dsimp only
  rw [wp_bind]
  iapply (part15_wp c _ _ _) $$ []
  · iempintro
  dsimp only
  rw [wp_bind]
  iapply (part16_wp I K c _) $$ [HC HL0 HL1]
  · isplitl [HC]; · iexact HC
    isplitl [HL0]; · iexact HL0
    iexact HL1
  iintro ⟨HD0, HD1, HC⟩
  rw [wp_bind]
  iapply (part17_wp I K c _) $$ HC
  iintro HC
  rw [wp_bind]
  iapply (part18_wp I K c _) $$ HC
  iintro HC
  rw [wp_bind]
  iapply (part19_wp I K c _) $$ HC
  iintro HC
  rw [wp_bind]
  iapply (part20_wp I K c _ _) $$ [HC HD0 HD1]
  · isplitl [HC]; · iexact HC
    isplitl [HD0]; · iexact HD0
    iexact HD1
  iintro ⟨HD0, HD1, HC⟩
  dsimp only
  rw [wp_bind]
  iapply (part21_wp c _ _ _ _ _ _ _ _ _ _ _) $$ []
  · iempintro
  dsimp only
  rw [wp_bind]
  iapply (part22_wp I K c _ _ _ _) $$ HC
  iintro HC
  rw [wp_bind]
  iapply (part23_wp I K c _ _) $$ HC
  iintro HC
  rw [wp_bind]
  iapply (part24_wp I K c _) $$ HC
  iintro HC
  rw [wp_bind]
  iapply (part25_wp I K c _) $$ HC
  iintro HC %r
  rw [wp_bind]
  iapply (part26_wp I K c _ _) $$ [HC HD0 HD1]
  · isplitl [HC]; · iexact HC
    isplitl [HD0]; · iexact HD0
    iexact HD1
  iintro ⟨HD0, HD1, HC⟩
  dsimp only
  rw [wp_bind]
  iapply (part27_wp c _ _ _ _ _ _ _ _ _ _ _ _ _ _ _ _ _) $$ []
  · iempintro
  rw [wp_bind]
  iapply (part28_wp I K c _ _ (fun y => row0_eq I c y)) $$ [HO HP0 HC]
  · isplitl [HO]; · iexact HO
    isplitl [HP0]; · iexact HP0
    iexact HC
  iintro ⟨HO, HA01, HA02, HC⟩ %r
  obtain ⟨r1, r2⟩ := r
  dsimp only
  rw [wp_bind]
  iapply (part29_wp I K c _) $$ [HC HA01 HA02]
  · isplitl [HC]; · iexact HC
    isplitl [HA01]; · iexact HA01
    iexact HA02
  iintro HC %r
  rw [wp_bind]
  iapply (part30_wp I K c _) $$ HC
  iintro HC
  rw [wp_bind]
  iapply (part31_wp I K c _) $$ HC
  iintro HC
  rw [wp_bind]
  iapply (part32_wp I K c _ _) $$ HC
  iintro HC
  rw [wp_bind]
  iapply (part33_wp I K c _) $$ [HC HD0]
  · isplitl [HC]; · iexact HC
    iexact HD0
  iintro ⟨HD0, HC⟩
  dsimp only
  rw [wp_bind]
  iapply (part34_wp I K c _ _ _ _ _) $$ [HC HD1]
  · isplitl [HC]; · iexact HC
    iexact HD1
  iintro ⟨HD1, HC⟩
  dsimp only
  rw [wp_bind]
  iapply (part35_wp I K c _ _ _ _ _ _ _ _ _ _ _) $$ HC
  iintro HC
  rw [wp_bind]
  iapply (part36_wp I K c _) $$ HC
  iintro HC
  rw [wp_bind]
  iapply (part37_wp I K c _) $$ HC
  iintro HC %r
  rw [wp_bind]
  iapply (part38_wp I K c _ _ _) $$ HC
  iintro HC
  rw [wp_bind]
  iapply (part39_wp I K c _) $$ [HC HD0 HD1]
  · isplitl [HC]; · iexact HC
    isplitl [HD0]; · iexact HD0
    iexact HD1
  iintro ⟨HD0, HC, HD1⟩
  dsimp only
  rw [wp_bind]
  iapply (part40_wp I K c _ _ _ _ _ _ _) $$ HC
  iintro HC
  dsimp only
  rw [wp_bind]
  iapply (part41_wp I c _ _ _ _ _ _ _ (fun y => row1_eq I c y)) $$ [HO HP1]
  · isplitl [HO]; · iexact HO
    iexact HP1
  iintro ⟨HO, HA10, HA11, HA12⟩ %r
  rw [wp_bind]
  iapply (part42_wp I K c _) $$ [HC HA10 HA11 HA12]
  · isplitl [HC]; · iexact HC
    isplitl [HA10]; · iexact HA10
    isplitl [HA11]; · iexact HA11
    iexact HA12
  iintro HC %r
  obtain ⟨r1, r2⟩ := r
  dsimp only
  rw [wp_bind]
  iapply (part43_wp I K c _) $$ HC
  iintro HC
  rw [wp_bind]
  iapply (part44_wp I K c _ _) $$ HC
  iintro HC
  rw [wp_bind]
  iapply (part45_wp I K c ) $$ [HC HY0]
  · isplitl [HC]; · iexact HC
    iexact HY0
  iintro ⟨HYs0, HC⟩
  rw [wp_bind]
  iapply (part46_wp I K c _ _) $$ HC
  iintro HC
  rw [wp_bind]
  iapply (part47_wp I K c _) $$ HC
  iintro HC
  simp only [Prog.lift, Prog.bind_op, Prog.bind_ret, Prog.pure_eq_ret]
  iapply (loadA (held I) K c 1 1 (v := 6) (s := 1) (o1 := 1) (by decide) rfl rfl _) $$ HC
  iintro HC
  iapply (loadA (held I) K c 1 0 (v := 6) (s := 2) (o1 := 1) (by decide) rfl rfl _) $$ HC
  iintro HC
  rw [wp_ret]; imodintro
  iapply (deadY c 1 rfl _) $$ HY1
  iintro HY1 %v
  iapply (storeY c 1 rfl (outF I c) (fun y => out1_eq I c y) _) $$ HY1
  iintro HYs1
  rw [wp_ret]; imodintro
  iapply Hk $$ [HC HKi HVi HX HQ HO HD0 HD1 HYs0 HYs1 HBz]
  · isplitl [HC]; · iexact HC
    isplitl [HKi]; · iexact HKi
    isplitl [HVi]; · iexact HVi
    isplitl [HX]; · iexact HX
    isplitl [HQ]; · iexact HQ
    isplitl [HO]; · iexact HO
    isplitl [HD0]; · iexact HD0
    isplitl [HD1]; · iexact HD1
    isplitl [HYs0]; · iexact HYs0
    isplitl [HYs1]; · iexact HYs1
    iexact HBz

end Cert.KernelIdealRun

end
-- ==== Proof.Open.lean ====
/-
# A device before its program and after it

The whole buffers and the semaphores a device is launched with, cut into what its program starts from; and what the
program leaves, joined into whole buffers and semaphores at zero.
-/
module

public import proofs.«01_k».proof.Proof.Body

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (T : Held F) (K : GSem nD τ sig → ℕ) (c : Dev nD)

/-! ## The kernel's own semaphores, by what they are for -/

/-- Sending and receiving keys and values, the copies within a device, sending and receiving output parts. -/
abbrev QJ : Type := (KV ⊕ KV) ⊕ (Fin 2 ⊕ (AR ⊕ AR))
instance : DecidableEq QJ := Classical.decEq _
def semOf : QJ → DmaSem sig
  | .inl (.inl j) => kvSnd j
  | .inl (.inr j) => kvRcv j
  | .inr (.inl e) => locS e
  | .inr (.inr (.inl a)) => arSnd a
  | .inr (.inr (.inr a)) => arRcv a
theorem semOf_inj : Function.Injective semOf := by
  have h : ∀ j, role (semOf j) = (match j with
      | .inl (.inl j) => Role.snd j | .inl (.inr j) => .rcv j | .inr (.inl e) => .loc e
      | .inr (.inr (.inl a)) => .asnd a | .inr (.inr (.inr a)) => .arcv a) := by
    rintro ((j | j) | e | a | a)
    · exact role_snd j
    · exact role_rcv j
    · exact role_loc e
    · exact role_asnd a
    · exact role_arcv a
  intro x y e
  have e := congrArg role e
  rw [h, h] at e
  rcases x with ((x | x) | x | x | x) <;> rcases y with ((y | y) | y | y | y) <;> cases e <;> rfl
def semEmb : QJ ↪ DmaSem sig := ⟨semOf, semOf_inj⟩
theorem six_semOf (j : QJ) : 6 ≤ (semOf j).val := by
  rcases j with ((j | j) | e | a | a)
  · exact six_snd j
  · exact six_rcv j
  · exact six_loc e
  · exact six_asnd a
  · exact six_arcv a
theorem ownQ_eq : ownQ = Finset.univ.map semEmb := by
  symm
  apply Finset.eq_of_subset_of_card_le
  · intro q hq
    obtain ⟨j, -, rfl⟩ := Finset.mem_map.mp hq
    exact Finset.mem_filter.mpr ⟨Finset.mem_univ _, six_semOf j⟩
  · rw [Finset.card_map]
    exact (by decide : (Finset.univ.filter fun q : Fin 68 => 6 ≤ q.val).card ≤ 62)

/-- Two families, together. -/
theorem zip {A : Type} {S : Finset A} {Φ Ψ : A → sProp 𝕄} :
    iprop(bigSep S Φ ∗ bigSep S Ψ) ⊢ bigSep S fun x => iprop(Φ x ∗ Ψ x) := Entails.of_eq (bigSep_sep _ _ _).symm
/-- A family turned member by member. -/
theorem each {A : Type} {S : Finset A} {Φ Ψ : A → sProp 𝕄} (h : ∀ x, Φ x ⊢ Ψ x) : (bigSep S Φ ⊢ bigSep S Ψ : Prop) :=
  bigSep_mono fun x _ => h x
/-- The same by means of knowledge that stays. -/
theorem each_knowing {A : Type} [DecidableEq A] {S : Finset A} {R : sProp 𝕄} [BI.Persistent R] {Φ Ψ : A → sProp 𝕄}
    (h : ∀ x, iprop(R ∗ Φ x) ⊢ Ψ x) : iprop(R ∗ bigSep S Φ) ⊢ bigSep S Ψ := by
  iintro ⟨#HR, H⟩
  ihave HS := (BI.bigSep_of_persistent S R) $$ HR
  iapply (each h)
  iapply zip
  isplitl [HS]; · iexact HS
  iexact H

/-- A family over the kernel's own semaphores, kind by kind. -/
theorem bigSep_QJ (Φ : DmaSem sig → sProp 𝕄) : (bigSep Finset.univ fun j : QJ => Φ (semOf j))
    = iprop(((bigSep Finset.univ fun j : KV => Φ (kvSnd j)) ∗ bigSep Finset.univ fun j : KV => Φ (kvRcv j))
      ∗ (Φ (locS 0) ∗ Φ (locS 1)) ∗ (bigSep Finset.univ fun a : AR => Φ (arSnd a)) ∗ bigSep Finset.univ fun a : AR => Φ (arRcv a)) := by
  rw [bigSep_univ_sum, bigSep_univ_sum, bigSep_univ_sum, bigSep_univ_sum, bigSep_fin_two]; rfl

/-! ## Before the program -/

/-- The tokens of the units a device pays. -/
def Toks : sProp 𝕄 :=
  iprop((bigSep Finset.univ fun d : Fin 3 => dutyTok ER (bcell (peer c d)) 0 (back d))
    ∗ (bigSep Finset.univ fun j : KV => iprop(dutyTok ER (dcell c (kvSnd j)) 0 0 ∗ dutyTok ER (dcell (peer c j.2.2.1) (kvRcv j)) 0 0))
    ∗ (dutyTok ER (dcell c (locS 0)) 0 0 ∗ dutyTok ER (dcell c (locS 1)) 0 0)
    ∗ bigSep Finset.univ fun a : AR => iprop(dutyTok ER (dcell c (arSnd a)) 0 0 ∗ dutyTok ER (dcell (peer c a.2) (arRcv a)) 0 0))
/-- The credit a device waits on. -/
def Creds : sProp 𝕄 :=
  iprop(cred (tallyAt (bcell c) () 3) ∗ (bigSep Finset.univ fun j : KV => cred (tallyAt (dcell c (kvRcv j)) () NT))
    ∗ bigSep Finset.univ fun a : AR => cred (tallyAt (dcell c (arRcv a)) () NA))
/-- The barrier's rounds are open, and this device's place on its own. -/
def Bars : sProp 𝕄 := iprop((bigSep Finset.univ fun d : Fin 3 => reached ER (bcell (peer c d)) 0) ∗ atPos ER (bcell c) 0 ∅ 0)
/-- What a device holds of the protocol at launch. -/
def Tk : sProp 𝕄 :=
  iprop((∃ K, invs T K ∗ Bars c ∗ (bigSep Finset.univ fun j : QJ => openTok ER (dcell c (semOf j))) ∗ Toks c) ∗ Creds c)
/-- The same once its own semaphores' rounds are open. -/
def Xk : sProp 𝕄 :=
  iprop(levAts L lv ∗ (∃ K, invs T K ∗ Bars c ∗ (bigSep Finset.univ fun j : QJ => iprop(atPos ER (dcell c (semOf j)) 0 ∅ 0 ∗ reached ER (dcell c (semOf j)) 0)) ∗ Toks c) ∗ Creds c)

def osem : QJ → SemLoc sig := fun j => .dma (semOf j)

/-- With its own counters at zero a device opens its semaphores' rounds. -/
theorem open_all : iprop(Tk T c ∗ Pipeline.ownSems0 osem c ∗ levAts L lv) ⊢ (|={Set.univ}=> Xk T c : sProp 𝕄) := by
  unfold Tk Xk Pipeline.ownSems0
  iintro ⟨⟨⟨%K, #HI, HB, HO, HT⟩, HC⟩, HS, #HL⟩
  imod (show iprop(invs T K ∗ (bigSep Finset.univ fun j : QJ => openTok ER (dcell c (semOf j))) ∗ bigSep Finset.univ fun j : QJ => semVal ((c.tc : Thread nD τ), osem j) 0)
      ⊢ (|={Set.univ}=> bigSep Finset.univ fun j : QJ => iprop(atPos ER (dcell c (semOf j)) 0 ∅ 0 ∗ reached ER (dcell c (semOf j)) 0) : sProp 𝕄) from by
    refine BIBase.Entails.trans ?_ (bigSep_fupd _ _)
    iintro ⟨#HI, HO, HS⟩
    have h : ∀ j : QJ, iprop(invs T K ∗ (openTok ER (dcell c (semOf j)) ∗ semVal ((c.tc : Thread nD τ), osem j) 0))
        ⊢ (|={Set.univ}=> iprop(atPos ER (dcell c (semOf j)) 0 ∅ 0 ∗ reached ER (dcell c (semOf j)) 0) : sProp 𝕄) := fun j => by
      iintro ⟨#HI, HO, HS⟩
      ihave HI1 := (invs_dma T K c (semOf j) (six_semOf j)) $$ HI
      iapply (Rounds.cell_open ER (rd T) (g := dcell c (semOf j)) (Set.mem_univ (K (dcell c (semOf j)))))
      isplitl [HI1]; · iexact HI1
      isplitl [HO]; · iexact HO
      iexact HS
    iapply (each_knowing h)
    isplitr; · iexact HI
    iapply zip
    isplitl [HO]; · iexact HO
    iexact HS
    ) $$ [HO HS] with HA
  · isplitr; · iexact HI
    isplitl [HO] <;> iassumption
  imodintro
  isplitr; · iexact HL
  isplitr [HC]
  · iexists K
    isplitr; · iexact HI
    isplitl [HB]; · iexact HB
    isplitl [HA] <;> iassumption
  iexact HC

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

def lastEquiv : Fin 2 × (Fin 2 × Fin 2 × Fin 3) ≃ KV :=
  ⟨fun x => (x.2.1, x.2.2.1, x.2.2.2, x.1), fun j => (j.2.2.2, j.1, j.2.1, j.2.2.1), fun _ => rfl, fun _ => rfl⟩

/-- A family of transfers: those of keys, then those of values. -/
theorem keys_values (Φ : KV → sProp 𝕄) : bigSep Finset.univ Φ
    = iprop((bigSep Finset.univ fun x : Fin 2 × Fin 2 × Fin 3 => Φ (x.1, x.2.1, x.2.2, 0)) ∗ bigSep Finset.univ fun x : Fin 2 × Fin 2 × Fin 3 => Φ (x.1, x.2.1, x.2.2, 1)) := by
  rw [bigSep_univ_equiv lastEquiv, split2]; rfl

theorem land_k_all : (∃ f, (c : Thread nD τ).loc cc0_scratch2 ↦{fullShare} f : sProp 𝕄)
    ⊢ iprop((bigSep Finset.univ fun x : Fin 2 × Fin 2 × Fin 3 => kvLand (F := F) c (x.1, x.2.1, x.2.2, 0)) ∗ ∃ f, (c : Thread nD τ).loc cc0_scratch2 ↦[slot0]{fullShare} f) := by
  iintro ⟨%f, H⟩
  ihave H' := (Entails.of_eq (kall_whole c f)) $$ H
  icases H' with ⟨H1, H2⟩
  isplitl [H1]
  · have h : ∀ x : Fin 2 × Fin 2 × Fin 3, ((c : Thread nD τ).loc cc0_scratch2 ↦[dstSet x.1 x.2.1 x.2.2]{fullShare} f : sProp 𝕄) ⊢ kvLand c (x.1, x.2.1, x.2.2, 0) := fun x => by
      unfold kvLand
      refine BIBase.Entails.trans ?_ (Entails.of_eq (if_pos rfl).symm)
      iintro H; iexists f; iexact H
    iapply (each h) $$ H1
  iexists f; iexact H2
theorem land_v_all : (∃ f, (c : Thread nD τ).loc cc0_scratch3 ↦{fullShare} f : sProp 𝕄)
    ⊢ iprop((bigSep Finset.univ fun x : Fin 2 × Fin 2 × Fin 3 => kvLand (F := F) c (x.1, x.2.1, x.2.2, 1)) ∗ ∃ f, (c : Thread nD τ).loc cc0_scratch3 ↦[slot0]{fullShare} f) := by
  iintro ⟨%f, H⟩
  ihave H' := (Entails.of_eq (vall_whole c f)) $$ H
  icases H' with ⟨H1, H2⟩
  isplitl [H1]
  · have h : ∀ x : Fin 2 × Fin 2 × Fin 3, ((c : Thread nD τ).loc cc0_scratch3 ↦[dstSet x.1 x.2.1 x.2.2]{fullShare} f : sProp 𝕄) ⊢ kvLand c (x.1, x.2.1, x.2.2, 1) := fun x => by
      unfold kvLand
      refine BIBase.Entails.trans ?_ (Entails.of_eq (if_neg (show ¬ (1 : Fin 2) = 0 by decide)).symm)
      iintro H; iexists f; iexact H
    iapply (each h) $$ H1
  iexists f; iexact H2
theorem land_a_all : (∃ f, (c : Thread nD τ).loc cc0_scratch5 ↦{fullShare} f : sProp 𝕄) ⊢ bigSep Finset.univ fun a : AR => arLand (F := F) c a := by
  iintro ⟨%f, H⟩
  ihave H' := (Entails.of_eq (acc_whole c f)) $$ H
  have h : ∀ x : AR, ((c : Thread nD τ).loc cc0_scratch5 ↦[accSet x.1 x.2]{fullShare} f : sProp 𝕄) ⊢ arLand c x := fun x => by
    unfold arLand
    iintro H; iexists f; iexact H
  iapply (each h) $$ H'

/-- What the signals of a device hand over, from its landing tiles and its receiving cells' open rounds. -/
theorem gifts : iprop((bigSep Finset.univ fun x : Fin 2 × Fin 2 × Fin 3 => kvLand (F := F) c (x.1, x.2.1, x.2.2, 0))
      ∗ (bigSep Finset.univ fun x : Fin 2 × Fin 2 × Fin 3 => kvLand (F := F) c (x.1, x.2.1, x.2.2, 1))
      ∗ (bigSep Finset.univ fun a : AR => arLand (F := F) c a)
      ∗ (bigSep Finset.univ fun j : KV => reached ER (dcell c (kvRcv j)) 0) ∗ bigSep Finset.univ fun a : AR => reached ER (dcell c (arRcv a)) 0)
    ⊢ iprop(barPay (F := F) (peer c 0) (back 0) ∗ barPay (F := F) (peer c 1) (back 1) ∗ barPay (F := F) (peer c 2) (back 2)) := by
  refine BIBase.Entails.trans ?_ (Entails.of_eq ((barPay_mine (F := F) c).symm.trans (bigSep_three _)))
  unfold kvGift arGift
  rw [bigSep_sep', bigSep_sep', keys_values (fun j => kvLand (F := F) c j)]
  iintro ⟨H0, H1, HA, HR, HS⟩
  isplitl [H0 H1 HR]
  · isplitl [H0 H1]
    · isplitl [H0]; · iexact H0
      iexact H1
    iexact HR
  isplitl [HA]; · iexact HA
  iexact HS

/-- The whole scratch buffers at any contents. -/
def Scratch : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f))
/-- The staged inputs. -/
def Staged : sProp 𝕄 :=
  iprop(((c : Thread nD τ).loc cc0_stg0_0 ↦{fullShare} I.x c) ∗ ((c : Thread nD τ).loc cc0_stg1_0 ↦{fullShare} I.wq c)
    ∗ ((c : Thread nD τ).loc cc0_stg2_0 ↦{fullShare} I.k c) ∗ ((c : Thread nD τ).loc cc0_stg3_0 ↦{fullShare} I.v c)
    ∗ ((c : Thread nD τ).loc cc0_stg4_0 ↦{fullShare} I.wo c))

theorem out_whole (f) : ((c : Thread nD τ).loc cc0_stg5_0 ↦{fullShare} f : sProp 𝕄)
    = iprop(((c : Thread nD τ).loc cc0_stg5_0 ↦[partSet 0]{fullShare} f) ∗ (c : Thread nD τ).loc cc0_stg5_0 ↦[partSet 1]{fullShare} f) := by
  refine (?_ : _ = ((c : Thread nD τ).loc cc0_stg5_0 ↦[partSet 0 ∪ partSet 1]{fullShare} f : sProp 𝕄)).trans (sep_eq (pointsTo_union part_disj))
  rw [part_all]

theorem split_k : (∃ f, (c : Thread nD τ).loc cc0_scratch0 ↦{fullShare} f : sProp 𝕄)
    ⊢ iprop((∃ f, (c : Thread nD τ).loc cc0_scratch0 ↦[rows 0]{fullShare} f) ∗ ∃ f, (c : Thread nD τ).loc cc0_scratch0 ↦[rows 1]{fullShare} f) := by
  iintro ⟨%f, H⟩
  ihave H' := (Entails.of_eq (k_whole c f)) $$ H
  icases H' with ⟨H1, H2⟩
  isplitl [H1] <;> (iexists f; iassumption)
theorem split_v : (∃ f, (c : Thread nD τ).loc cc0_scratch1 ↦{fullShare} f : sProp 𝕄)
    ⊢ iprop((∃ f, (c : Thread nD τ).loc cc0_scratch1 ↦[rows 0]{fullShare} f) ∗ ∃ f, (c : Thread nD τ).loc cc0_scratch1 ↦[rows 1]{fullShare} f) := by
  iintro ⟨%f, H⟩
  ihave H' := (Entails.of_eq (v_whole c f)) $$ H
  icases H' with ⟨H1, H2⟩
  isplitl [H1] <;> (iexists f; iassumption)
theorem split_p : (∃ f, (c : Thread nD τ).loc cc0_scratch4 ↦{fullShare} f : sProp 𝕄)
    ⊢ iprop((∃ f, (c : Thread nD τ).loc cc0_scratch4 ↦[partSet 0]{fullShare} f) ∗ ∃ f, (c : Thread nD τ).loc cc0_scratch4 ↦[partSet 1]{fullShare} f) := by
  iintro ⟨%f, H⟩
  ihave H' := (Entails.of_eq (part_whole c f)) $$ H
  icases H' with ⟨H1, H2⟩
  isplitl [H1] <;> (iexists f; iassumption)
theorem split_o : (∃ f, (c : Thread nD τ).loc cc0_stg5_0 ↦{fullShare} f : sProp 𝕄)
    ⊢ iprop((∃ f, (c : Thread nD τ).loc cc0_stg5_0 ↦[partSet 0]{fullShare} f) ∗ ∃ f, (c : Thread nD τ).loc cc0_stg5_0 ↦[partSet 1]{fullShare} f) := by
  iintro ⟨%f, H⟩
  ihave H' := (Entails.of_eq (out_whole c f)) $$ H
  icases H' with ⟨H1, H2⟩
  isplitl [H1] <;> (iexists f; iassumption)

/-- Tokens, credit and places make up the transfers before the barrier. -/
theorem pre_intro : iprop((bigSep Finset.univ fun j : KV => iprop(dutyTok ER (dcell c (kvSnd j)) 0 0 ∗ dutyTok ER (dcell (peer c j.2.2.1) (kvRcv j)) 0 0))
      ∗ (bigSep Finset.univ fun a : AR => iprop(dutyTok ER (dcell c (arSnd a)) 0 0 ∗ dutyTok ER (dcell (peer c a.2) (arRcv a)) 0 0))
      ∗ (bigSep Finset.univ fun j : KV => iprop(atPos ER (dcell c (kvSnd j)) 0 ∅ 0 ∗ reached ER (dcell c (kvSnd j)) 0))
      ∗ (bigSep Finset.univ fun j : KV => atPos ER (dcell c (kvRcv j)) 0 ∅ 0)
      ∗ (bigSep Finset.univ fun a : AR => iprop(atPos ER (dcell c (arSnd a)) 0 ∅ 0 ∗ reached ER (dcell c (arSnd a)) 0))
      ∗ (bigSep Finset.univ fun a : AR => atPos ER (dcell c (arRcv a)) 0 ∅ 0)
      ∗ (bigSep Finset.univ fun j : KV => cred (tallyAt (dcell c (kvRcv j)) () NT))
      ∗ bigSep Finset.univ fun a : AR => cred (tallyAt (dcell c (arRcv a)) () NA))
    ⊢ Pre (F := F) c := by
  have h1 : ∀ j : KV, iprop((dutyTok ER (dcell c (kvSnd j)) 0 0 ∗ dutyTok ER (dcell (peer c j.2.2.1) (kvRcv j)) 0 0)
      ∗ (atPos ER (dcell c (kvSnd j)) 0 ∅ 0 ∗ reached ER (dcell c (kvSnd j)) 0)) ⊢ kvPre (F := F) c j := fun j => by
    unfold kvPre
    iintro ⟨⟨H1, H2⟩, H3, H4⟩
    isplitl [H1]; · iexact H1
    isplitl [H2]; · iexact H2
    isplitl [H4]; · iexact H4
    iexact H3
  have h2 : ∀ a : AR, iprop((dutyTok ER (dcell c (arSnd a)) 0 0 ∗ dutyTok ER (dcell (peer c a.2) (arRcv a)) 0 0)
      ∗ (atPos ER (dcell c (arSnd a)) 0 ∅ 0 ∗ reached ER (dcell c (arSnd a)) 0)) ⊢ arPre (F := F) c a := fun a => by
    unfold arPre
    iintro ⟨⟨H1, H2⟩, H3, H4⟩
    isplitl [H1]; · iexact H1
    isplitl [H2]; · iexact H2
    isplitl [H4]; · iexact H4
    iexact H3
  unfold Pre
  iintro ⟨HT, HU, HS, HR, HV, HW, HC, HD⟩
  isplitl [HT HS]
  · iapply (each h1)
    iapply zip
    isplitl [HT] <;> iassumption
  isplitl [HR HC]
  · unfold kvDue
    iapply zip
    isplitl [HR] <;> iassumption
  isplitl [HU HV]
  · iapply (each h2)
    iapply zip
    isplitl [HU] <;> iassumption
  unfold arDue
  iapply zip
  isplitl [HW] <;> iassumption

/-- What a device's program starts from. -/
theorem start_intro : iprop(Xk (held I) c ∗ Scratch c ∗ Staged I c ∗ (∃ f, (c : Thread nD τ).loc cc0_stg5_0 ↦{fullShare} f)
      ∗ ∃ W, owes (c : Thread nD τ) (owed c 0 0 0) W) ⊢ (∃ K, Start I K c : sProp 𝕄) := by
  unfold Xk Bars Toks Creds Scratch Staged Start
  rw [bigSep_QJ (fun q => iprop(atPos ER (dcell c q) 0 ∅ 0 ∗ reached ER (dcell c q) 0)),
    bigSep_three (fun d => reached ER (bcell (peer c d)) 0), bigSep_three (fun d => dutyTok ER (bcell (peer c d)) 0 (back d)),
    bigSep_sep' (s := Finset.univ) (Φ := fun j : KV => atPos ER (dcell c (kvRcv j)) 0 ∅ 0) (Ψ := fun j : KV => reached ER (dcell c (kvRcv j)) 0),
    bigSep_sep' (s := Finset.univ) (Φ := fun a : AR => atPos ER (dcell c (arRcv a)) 0 ∅ 0) (Ψ := fun a : AR => reached ER (dcell c (arRcv a)) 0)]
  iintro ⟨⟨#HL, ⟨%K, #HI, ⟨⟨HR0, HR1, HR2⟩, HB⟩, ⟨⟨HS, HRa, HRr⟩, ⟨⟨HLa, HLr⟩, HMa, HMr⟩, HAs, HAa, HAr⟩, ⟨HT0, HT1, HT2⟩, HTk, ⟨HTl, HTm⟩, HTa⟩, HC, HCk, HCa⟩,
    ⟨H0, H1, H2, H3, H4, H5⟩, ⟨HX, HQ, HK, HV, HO⟩, HY, HW⟩
  ihave H0 := (split_k (F := F) c) $$ H0
  icases H0 with ⟨H00, H01⟩
  ihave H1 := (split_v (F := F) c) $$ H1
  icases H1 with ⟨H10, H11⟩
  ihave H2 := (land_k_all (F := F) c) $$ H2
  icases H2 with ⟨H2l, H20⟩
  ihave H3 := (land_v_all (F := F) c) $$ H3
  icases H3 with ⟨H3l, H30⟩
  ihave H4 := (split_p (F := F) c) $$ H4
  icases H4 with ⟨H40, H41⟩
  ihave H5 := (land_a_all (F := F) c) $$ H5
  ihave HY := (split_o (F := F) c) $$ HY
  icases HY with ⟨HY0, HY1⟩
  ihave HG := (gifts (F := F) c) $$ [H2l H3l H5 HRr HAr]
  · isplitl [H2l]; · iexact H2l
    isplitl [H3l]; · iexact H3l
    isplitl [H5]; · iexact H5
    isplitl [HRr]; · iexact HRr
    iexact HAr
  icases HG with ⟨HG0, HG1, HG2⟩
  ihave HP := (pre_intro (F := F) c) $$ [HTk HTa HS HRa HAs HAa HCk HCa]
  · isplitl [HTk]; · iexact HTk
    isplitl [HTa]; · iexact HTa
    isplitl [HS]; · iexact HS
    isplitl [HRa]; · iexact HRa
    isplitl [HAs]; · iexact HAs
    isplitl [HAa]; · iexact HAa
    isplitl [HCk]; · iexact HCk
    iexact HCa
  iexists K
  isplitr; · iexact HL
  isplitr; · iexact HI
  isplitl [HW]; · iexact HW
  isplitl [HT0 HG0 HR0]
  · isplitl [HT0]; · iexact HT0
    isplitl [HG0]; · iexact HG0
    iexact HR0
  isplitl [HT1 HG1 HR1]
  · isplitl [HT1]; · iexact HT1
    isplitl [HG1]; · iexact HG1
    iexact HR1
  isplitl [HT2 HG2 HR2]
  · isplitl [HT2]; · iexact HT2
    isplitl [HG2]; · iexact HG2
    iexact HR2
  isplitl [HC]; · iexact HC
  isplitl [HB]; · iexact HB
  isplitl [HP]; · iexact HP
  isplitl [HK]; · iexact HK
  isplitl [HV]; · iexact HV
  isplitl [HX]; · iexact HX
  isplitl [HQ]; · iexact HQ
  isplitl [HO]; · iexact HO
  isplitl [H00]; · iexact H00
  isplitl [H01]; · iexact H01
  isplitl [H10]; · iexact H10
  isplitl [H11]; · iexact H11
  unfold locNew
  isplitl [HTl HLa HLr]
  · isplitl [HTl]; · iexact HTl
    isplitl [HLr]; · iexact HLr
    iexact HLa
  isplitl [HTm HMa HMr]
  · isplitl [HTm]; · iexact HTm
    isplitl [HMr]; · iexact HMr
    iexact HMa
  isplitl [H20]; · iexact H20
  isplitl [H30]; · iexact H30
  isplitl [H40]; · iexact H40
  isplitl [H41]; · iexact H41
  isplitl [HY0]; · iexact HY0
  iexact HY1

/-! ## After the program -/

/-- The keys and the values, whole again. -/
theorem srcs_join : iprop((bigSep Finset.univ fun j : KV => kvSrc T c j)
      ∗ ((c : Thread nD τ).loc cc0_scratch0 ↦[ownSet c]{fullShare} T.k16 c) ∗ (c : Thread nD τ).loc cc0_scratch1 ↦[ownSet c]{fullShare} T.v16 c)
    ⊢ iprop(((c : Thread nD τ).loc cc0_scratch0 ↦{fullShare} T.k16 c) ∗ (c : Thread nD τ).loc cc0_scratch1 ↦{fullShare} T.v16 c) := by
  rw [split2, k_whole, v_whole, k_own, v_own, k_rows c 0, k_rows c 1, v_rows c 0, v_rows c 1, ← batch_srcs T c 0, ← batch_srcs T c 1]
  iintro ⟨⟨⟨H1, H2⟩, H3, H4⟩, ⟨HA, HB⟩, HC, HD⟩
  isplitl [H1 H3 HA HB]
  · isplitl [H1 HA]
    · isplitl [H1]; · iexact H1
      iexact HA
    isplitl [H3]; · iexact H3
    iexact HB
  isplitl [H2 HC]
  · isplitl [H2]; · iexact H2
    iexact HC
  isplitl [H4]; · iexact H4
  iexact HD

/-- The gathered keys and values, whole again. -/
theorem got_join : iprop((bigSep Finset.univ fun j : KV => kvGot T c j)
      ∗ ((c : Thread nD τ).loc cc0_scratch2 ↦[slot0]{fullShare} gath T.k16 c) ∗ (c : Thread nD τ).loc cc0_scratch3 ↦[slot0]{fullShare} gath T.v16 c)
    ⊢ iprop(((c : Thread nD τ).loc cc0_scratch2 ↦{fullShare} gath T.k16 c) ∗ (c : Thread nD τ).loc cc0_scratch3 ↦{fullShare} gath T.v16 c) := by
  have hk : (bigSep Finset.univ fun x : Fin 2 × Fin 2 × Fin 3 => kvGot T c (x.1, x.2.1, x.2.2, 0))
      = (bigSep Finset.univ fun x : Fin 2 × Fin 2 × Fin 3 => ((c : Thread nD τ).loc cc0_scratch2 ↦[dstSet x.1 x.2.1 x.2.2]{fullShare} gath T.k16 c) : sProp 𝕄) :=
    bigSep_congr fun x _ => if_pos rfl
  have hv : (bigSep Finset.univ fun x : Fin 2 × Fin 2 × Fin 3 => kvGot T c (x.1, x.2.1, x.2.2, 1))
      = (bigSep Finset.univ fun x : Fin 2 × Fin 2 × Fin 3 => ((c : Thread nD τ).loc cc0_scratch3 ↦[dstSet x.1 x.2.1 x.2.2]{fullShare} gath T.v16 c) : sProp 𝕄) :=
    bigSep_congr fun x _ => if_neg (show ¬ (1 : Fin 2) = 0 by decide)
  rw [keys_values, hk, hv, kall_whole, vall_whole]
  iintro ⟨⟨H1, H2⟩, H3, H4⟩
  isplitl [H1 H3]
  · isplitl [H1]; · iexact H1
    iexact H3
  isplitl [H2]; · iexact H2
  iexact H4

/-- The output parts, whole again. -/
theorem part_join : (bigSep Finset.univ fun a : AR => arSrc T c a) ⊢ ((c : Thread nD τ).loc cc0_scratch4 ↦{fullShare} T.part c : sProp 𝕄) := by
  rw [split2, bigSep_three, bigSep_three, part_whole, part_shares, part_shares]
theorem acc_join : (bigSep Finset.univ fun a : AR => arGot T c a) ⊢ ((c : Thread nD τ).loc cc0_scratch5 ↦{fullShare} accOf T.part c : sProp 𝕄) := by
  rw [acc_whole]; exact Entails.of_eq rfl

/-- The transfers all done. -/
theorem comm_done : Comm T K c 24 24 24 6 6 6 ⊢ iprop(
    ((bigSep Finset.univ fun j : KV => semVal (dcell c (kvSnd j)) 0) ∗ bigSep Finset.univ fun j : KV => kvSrc T c j)
    ∗ ((bigSep Finset.univ fun j : KV => semVal (dcell c (kvRcv j)) 0) ∗ bigSep Finset.univ fun j : KV => kvGot T c j)
    ∗ ((bigSep Finset.univ fun a : AR => semVal (dcell c (arSnd a)) 0) ∗ bigSep Finset.univ fun a : AR => arSrc T c a)
    ∗ ((bigSep Finset.univ fun a : AR => semVal (dcell c (arRcv a)) 0) ∗ bigSep Finset.univ fun a : AR => arGot T c a)
    ∗ ∃ W, owes (c : Thread nD τ) (0 : CellTallies nD τ sig Unit) W) := by
  unfold Comm
  rw [stage3_all _ _ _ _ kvOrd_lt, stage2_all _ _ _ kvOrd_lt, stage3_all _ _ _ _ arOrd_lt, stage2_all _ _ _ arOrd_lt]
  unfold kvBack kvIn arBack arIn
  rw [bigSep_sep', bigSep_sep', bigSep_sep', bigSep_sep',
    show owed c 3 24 6 = 0 by unfold owed; rw [owedKV_done, owedAR_done, owedB_done, add_zero, add_zero]]
  iintro ⟨-, -, H1, H2, H3, H4, H5⟩
  isplitl [H1]; · iexact H1
  isplitl [H2]; · iexact H2
  isplitl [H3]; · iexact H3
  isplitl [H4]; · iexact H4
  iexact H5

/-- What a device's program leaves: its buffers whole, its own counters at zero, nothing owed. -/
theorem done_elim : Done I K c ⊢ iprop(Scratch c ∗ Staged I c ∗ ((c : Thread nD τ).loc cc0_stg5_0 ↦{fullShare} outF I c)
      ∗ Pipeline.ownSems0 osem c ∗ semVal (bcell c) 0 ∗ ∃ W, owes (c : Thread nD τ) (0 : CellTallies nD τ sig Unit) W) := by
  have hs : (Pipeline.ownSems0 osem c : sProp 𝕄) = _ := bigSep_QJ (fun q => (semVal (dcell c q) 0 : sProp 𝕄))
  have e0 : locPay (held I) c 0 = iprop(((c : Thread nD τ).loc cc0_scratch2 ↦[slot0]{fullShare} gath (held I).k16 c)
      ∗ (c : Thread nD τ).loc cc0_scratch0 ↦[ownSet c]{fullShare} (held I).k16 c) := if_pos rfl
  have e1 : locPay (held I) c 1 = iprop(((c : Thread nD τ).loc cc0_scratch3 ↦[slot0]{fullShare} gath (held I).v16 c)
      ∗ (c : Thread nD τ).loc cc0_scratch1 ↦[ownSet c]{fullShare} (held I).v16 c) := if_neg (show ¬ (1 : Fin 2) = 0 by decide)
  unfold Done Scratch Staged locDone
  rw [hs, e0, e1, out_whole c (outF I c)]
  iintro ⟨HC, HK, HV, HX, HQ, HO, ⟨HL0, HZ0, HW0⟩, ⟨HL1, HZ1, HW1⟩, HY0, HY1, HB⟩
  ihave HC := (comm_done (held I) K c) $$ HC
  icases HC with ⟨⟨S1, H1⟩, ⟨S2, H2⟩, ⟨S3, H3⟩, ⟨S4, H4⟩, HE⟩
  ihave H1 := (srcs_join (held I) c) $$ [H1 HW0 HW1]
  · isplitl [H1]; · iexact H1
    isplitl [HW0] <;> iassumption
  icases H1 with ⟨G0, G1⟩
  ihave H2 := (got_join (held I) c) $$ [H2 HZ0 HZ1]
  · isplitl [H2]; · iexact H2
    isplitl [HZ0] <;> iassumption
  icases H2 with ⟨G2, G3⟩
  ihave G4 := (part_join (held I) c) $$ H3
  ihave G5 := (acc_join (held I) c) $$ H4
  isplitl [G0 G1 G2 G3 G4 G5]
  · isplitl [G0]; · iexists _; iexact G0
    isplitl [G1]; · iexists _; iexact G1
    isplitl [G2]; · iexists _; iexact G2
    isplitl [G3]; · iexists _; iexact G3
    isplitl [G4]; · iexists _; iexact G4
    iexists _; iexact G5
  isplitl [HK HV HX HQ HO]
  · isplitl [HX]; · iexact HX
    isplitl [HQ]; · iexact HQ
    isplitl [HK]; · iexact HK
    isplitl [HV]; · iexact HV
    iexact HO
  isplitl [HY0 HY1]
  · isplitl [HY0] <;> iassumption
  isplitl [S1 S2 S3 S4 HL0 HL1]
  · isplitl [S1 S2]
    · isplitl [S1] <;> iassumption
    isplitl [HL0 HL1]
    · isplitl [HL0] <;> iassumption
    isplitl [S3] <;> iassumption
  isplitl [HB]; · iexact HB
  iexact HE

end Cert.KernelIdealRun

end
-- ==== Proof.Region.lean ====
/-
# The kernel's program as the one region of the main program

The staged windows, the invariant before and after the body, the body's obligation, and the region itself with what a
device brings to it and takes from it.
-/
module

public import proofs.«01_k».proof.Proof.Open
public import proofs.«01_k».proof.Proof.Gen.KernelIdeal.Frame
public import proofs.«01_k».proof.Proof.Gen.KernelIdeal.Points
public import Idealize.ShloMosaic.Lib.Pipeline.RegionTalk
public import Idealize.ShloMosaic.Lib.Pipeline.Regions
public import Idealize.ShloMosaic.Lib.Pipeline.Kit

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-! ## The proof data -/

/-- The inputs, as the windows' blocks hold them. -/
def ins : Ins F := ⟨fun c => iblk m c 0 t0_0, fun c => iblk m c 1 t0_0, fun c => iblk m c 2 t0_0, fun c => iblk m c 3 t0_0, fun c => iblk m c 4 t0_0⟩

/-- Before the body; after it. -/
def PhiA (c : Dev nD) : sProp 𝕄 := iprop(Scratch c ∗ (∃ r, prngReg c r) ∗ Xk (held (ins m)) c)
def PhiB (c : Dev nD) : sProp 𝕄 := iprop(Scratch c ∗ (∃ r, prngReg c r) ∗ Pipeline.ownSems0 osem c ∗ semVal (bcell c) 0)

def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outF (ins m) c
  Φ t := if t.val = 0 then PhiA m c else PhiB c
  q _ := fullShare
  owed t := if t.val = 0 then owed c 0 0 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem lastN : (Fin.last cfg0.N : Fin (cfg0.N + 1)).val = 1 := by rw [Fin.val_last]; exact N_0
theorem phi_first (c : Dev nD) : (pdats m 0 c).Φ 0 = PhiA m c :=
  show (if (0 : Fin (cfg0.N + 1)).val = 0 then PhiA m c else PhiB c) = PhiA m c from if_pos rfl
theorem phi_last (c : Dev nD) : (pdats m 0 c).Φ (Fin.last _) = PhiB c :=
  show (if (Fin.last cfg0.N : Fin (cfg0.N + 1)).val = 0 then PhiA m c else PhiB c) = PhiB c from if_neg (by rw [lastN]; decide)
theorem owed_first (c : Dev nD) : (pdats m 0 c).owed 0 = owed c 0 0 0 :=
  show (if (0 : Fin (cfg0.N + 1)).val = 0 then owed c 0 0 0 else 0) = owed c 0 0 0 from if_pos rfl
theorem owed_last (c : Dev nD) : (pdats m 0 c).owed (Fin.last _) = 0 :=
  show (if (Fin.last cfg0.N : Fin (cfg0.N + 1)).val = 0 then owed c 0 0 0 else 0) = 0 from if_neg (by rw [lastN]; decide)
theorem phi_cast (c : Dev nD) : (dat0 m c).Φ t0_0.castSucc = PhiA m c :=
  show (if t0_0.castSucc.val = 0 then PhiA m c else PhiB c) = PhiA m c from if_pos rfl
theorem phi_succ (c : Dev nD) : (dat0 m c).Φ t0_0.succ = PhiB c :=
  show (if t0_0.succ.val = 0 then PhiA m c else PhiB c) = PhiB c from if_neg (Nat.succ_ne_zero _)
theorem owed_cast (c : Dev nD) : (dat0 m c).owed t0_0.castSucc = owed c 0 0 0 :=
  show (if t0_0.castSucc.val = 0 then owed c 0 0 0 else 0) = owed c 0 0 0 from if_pos rfl
theorem owed_succ (c : Dev nD) : (dat0 m c).owed t0_0.succ = 0 :=
  show (if t0_0.succ.val = 0 then owed c 0 0 0 else 0) = 0 from if_neg (Nat.succ_ne_zero _)

/-! ## The body -/

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owes_out (c : Dev nD) : ((dat0 m c).owesAt () t0_0.castSucc : sProp 𝕄) ⊢ iprop(∃ W, owes (c : Thread nD τ) (owed c 0 0 0) W) := by
  unfold Dat.owesAt Pipeline.owesWithin
  rw [owed_cast]
  iintro ⟨%W, -, H⟩; iexists W; iexact H
theorem owes_in (c : Dev nD) : iprop(∃ W, owes (c : Thread nD τ) (0 : CellTallies nD τ sig Unit) W) ⊢ ((dat0 m c).owesAt () t0_0.succ : sProp 𝕄) := by
  unfold Dat.owesAt Pipeline.owesWithin
  rw [owed_succ]
  iintro ⟨%W, H⟩; iexists W; isplitr; · ipureintro; exact fun _ _ => Or.inl trivial
  iexact H

def Before (c : Dev nD) : sProp 𝕄 :=
  iprop(PhiA m c ∗ (dat0 m c).owesAt () t0_0.castSucc
    ∗ (∃ d, stg c cc0_stg0_0 ((dat0 m c).before (0 : Fin 6) t0_0 d)) ∗ (∃ d, stg c cc0_stg1_0 ((dat0 m c).before (1 : Fin 6) t0_0 d))
    ∗ (∃ d, stg c cc0_stg2_0 ((dat0 m c).before (2 : Fin 6) t0_0 d)) ∗ (∃ d, stg c cc0_stg3_0 ((dat0 m c).before (3 : Fin 6) t0_0 d))
    ∗ (∃ d, stg c cc0_stg4_0 ((dat0 m c).before (4 : Fin 6) t0_0 d)) ∗ (∃ d, stg c cc0_stg5_0 ((dat0 m c).before (5 : Fin 6) t0_0 d)))
def After (c : Dev nD) : sProp 𝕄 :=
  iprop(PhiB c ∗ (dat0 m c).owesAt () t0_0.succ
    ∗ stg c cc0_stg0_0 ((ins m).x c) ∗ stg c cc0_stg1_0 ((ins m).wq c) ∗ stg c cc0_stg2_0 ((ins m).k c) ∗ stg c cc0_stg3_0 ((ins m).v c)
    ∗ stg c cc0_stg4_0 ((ins m).wo c) ∗ stg c cc0_stg5_0 (outF (ins m) c))

theorem body_run (c : Dev nD) : Before m c ⊢ wp frame (wpE (defs₀ (F := F)) 𝒱₀ (c : Thread nD τ) none) Set.univ (bodyAt0 t0_0) (fun _ => After m c) := by
  unfold Before PhiA
  iintro ⟨⟨HS, HP, HX⟩, HO, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = (ins m).x c := by rw [h0]; unfold Dat.before; rw [if_pos (fetch0_0 t0_0)]; rfl
  have e1 : g1 = (ins m).wq c := by rw [h1]; unfold Dat.before; rw [if_pos (fetch0_1 t0_0)]; rfl
  have e2 : g2 = (ins m).k c := by rw [h2]; unfold Dat.before; rw [if_pos (fetch0_2 t0_0)]; rfl
  have e3 : g3 = (ins m).v c := by rw [h3]; unfold Dat.before; rw [if_pos (fetch0_3 t0_0)]; rfl
  have e4 : g4 = (ins m).wo c := by rw [h4]; unfold Dat.before; rw [if_pos (fetch0_4 t0_0)]; rfl
  subst e0 e1 e2 e3 e4
  ihave HO := (owes_out m c) $$ HO
  ihave HK := (start_intro (ins m) c) $$ [HS HX HO H0 H1 H2 H3 H4 H5]
  · isplitl [HX]; · iexact HX
    isplitl [HS]; · iexact HS
    isplitl [H0 H1 H2 H3 H4]
    · unfold Staged
      isplitl [H0]; · iexact H0
      isplitl [H1]; · iexact H1
      isplitl [H2]; · iexact H2
      isplitl [H3]; · iexact H3
      iexact H4
    isplitl [H5]; · iexists g5; iexact H5
    iexact HO
  icases HK with ⟨%K, HK⟩
  iapply (body_wp (ins m) K c) $$ HK
  iintro HD
  ihave HD := (done_elim (ins m) K c) $$ HD
  unfold Staged
  icases HD with ⟨HS, ⟨H0, H1, H2, H3, H4⟩, H5, HZ, HB, HO⟩
  unfold After PhiB
  isplitl [HS HP HZ HB]
  · isplitl [HS]; · iexact HS
    isplitl [HP]; · iexact HP
    isplitl [HZ] <;> iassumption
  isplitl [HO]; · iapply (owes_in m c); iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option backward.isDefEq.respectTransparency.types false in
theorem body_obligation (c : Dev nD) : BodyObligation (dat0 m c) (defs₀ (F := F)) 𝒱₀ () Set.univ := fun t => by
  obtain rfl := fin_N0 t
  rw [bigSep_W0, bigSep_W0, phi_cast, phi_succ]
  simp only [owns_buf]
  exact body_run m c

/-! ## The region -/

/-- A device's buffers when the region is entered; when it is left. -/
abbrev V1 (c : Dev nD) : Valuation τ sig (Elt F) := StableHlo.after hostOps0 (fun b => m (c, b))
def V2 (c : Dev nD) : Valuation τ sig (Elt F) := Function.update (V1 m c) (Proc.devRef .tc main_v3) (outF (ins m) c)

/-- The two argument arrays no window stages. -/
def restS : Finset (DevRef τ sig) := {Proc.devRef .tc main_arg2, Proc.devRef .tc main_arg3}

theorem V2_rest (c : Dev nD) (b : DevRef τ sig) (hb : b ∈ restS) : V2 m c b = V1 m c b := by
  refine Function.update_of_ne ?_ _ _
  rintro rfl
  exact absurd hb (by decide)

theorem blk5_read (c : Dev nD) (t : Fin cfg0.N) (y) : ((cfg0.win 5).blk t).view.emb y = y := by
  obtain rfl := fin_N0 t
  funext a
  fin_cases a
  · exact Fin.ext (by show 0 * 2 + 1 * (y 0).val = (y 0).val; omega)
  · exact Fin.ext (by show 0 * 128 + 1 * (y 1).val = (y 1).val; omega)
  · exact Fin.ext (by show 0 * 512 + 1 * (y 2).val = (y 2).val; omega)

theorem arr_out (c : Dev nD) : (dat0 m c).arrAt 5 cfg0.N = outF (ins m) c := by
  refine (dat0 m c).arrAt_eq_of_cover 5 (outF (ins m) c) (fun t _ => ?_) fun i => ⟨t0_0, flush0_5 _, ?_⟩
  · obtain rfl := fin_N0 t
    funext y
    show outF (ins m) c y = outF (ins m) c (((cfg0.win 5).blk t0_0).view.emb y)
    rw [blk5_read c]
  · exact Finset.mem_map.mpr ⟨i, Finset.mem_univ _, blk5_read c t0_0 i⟩

theorem arr_in (c : Dev nD) (w : Fin cfg0.W) : (pdats m 0 c).arrAt w (Pipeline.pin (pcfgs (F := F)) adm 0).N = V2 m c (Proc.devRef .tc (Pipeline.arrRef spec0 w)) := by
  show (dat0 m c).arrAt w cfg0.N = _
  have hne : ∀ w : Fin 6, w ≠ 5 → (Proc.devRef .tc (Pipeline.arrRef spec0 w) : DevRef τ sig) ≠ Proc.devRef .tc main_v3 := by decide
  rcases w with ⟨_ | _ | _ | _ | _ | _ | n, hw⟩
  · exact ((dat0 m c).arrAt_in 0 rfl _).trans (Function.update_of_ne (hne 0 (by decide)) (outF (ins m) c) (V1 m c)).symm
  · exact ((dat0 m c).arrAt_in 1 rfl _).trans (Function.update_of_ne (hne 1 (by decide)) (outF (ins m) c) (V1 m c)).symm
  · exact ((dat0 m c).arrAt_in 2 rfl _).trans (Function.update_of_ne (hne 2 (by decide)) (outF (ins m) c) (V1 m c)).symm
  · exact ((dat0 m c).arrAt_in 3 rfl _).trans (Function.update_of_ne (hne 3 (by decide)) (outF (ins m) c) (V1 m c)).symm
  · exact ((dat0 m c).arrAt_in 4 rfl _).trans (Function.update_of_ne (hne 4 (by decide)) (outF (ins m) c) (V1 m c)).symm
  · exact (arr_out m c).trans (Function.update_self (Proc.devRef .tc main_v3) (outF (ins m) c) (V1 m c)).symm
  · exact absurd hw (Nat.not_lt.mpr (Nat.le_add_left 6 n))

theorem ownSemFacts : Pipeline.OwnSemFacts spec0 osem where
  isScoped := by
    rintro ((j | j) | e | a | a)
    · revert j; decide +kernel
    · revert j; decide +kernel
    · revert e; decide +kernel
    · revert a; decide +kernel
    · revert a; decide +kernel
  inj x y h := semOf_inj (SemLoc.dma.inj h)
  disj k w s h := by
    have h6 : ∀ w : Fin 6, ∀ s : Fin (spec0 w).nbuf, ((spec0 w).sem s).val < 6 := by decide +kernel
    have e : semOf k = (spec0 w).sem s := SemLoc.dma.inj h
    have := six_semOf k
    rw [e] at this
    exact absurd this (Nat.not_le.mpr (h6 w s))

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owed c 0 0 0 else 0 := rfl
  rw [e] at h
  split at h
  · obtain ⟨h1, h2⟩ := owed_pos h
    refine ⟨?_, by omega⟩
    unfold L; rw [if_pos h1]; exact Finset.mem_singleton_self _
  · exact absurd h (Nat.lt_irrefl 0)

theorem scoped_eq (c : Dev nD) : (Pipeline.scopedRest (Ix := Unit) (Name := ℕ) (U := UU) (Lvl := ℕ) (Val := Elt F) (Pipeline.pin (pcfgs (F := F)) adm 0).spec c : sProp 𝕄) = Scratch c :=
  scopedRest0_eq c

theorem region_in (c : Dev nD) : iprop(Pipeline.scopedRest (Pipeline.pin (pcfgs (F := F)) adm 0).spec c ∗ (∃ r, prngReg c r) ∗ StableHlo.held (c.tc : Thread nD τ) ∅ (V1 m c) ∗ Xk (held (ins m)) c)
    ⊢ (pdats m 0 c).Φ 0 := by
  rw [phi_first, scoped_eq]
  unfold PhiA
  iintro ⟨HS, HP, -, HX⟩
  isplitl [HS]; · iexact HS
  isplitl [HP] <;> iassumption
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m c) ∗ Pipeline.ownSems0 osem c ∗ semVal (bcell c) 0) := by
  rw [phi_last, scoped_eq]
  unfold PhiB StableHlo.held
  rw [BI.bigSep_empty]
  iintro ⟨HS, HP, HZ, HB⟩
  isplitl [HS]; · iexact HS
  isplitl [HP]; · iexact HP
  isplitr; · iempintro
  isplitl [HZ] <;> iassumption

theorem lv_stage (c : Dev nD) (w : Fin 6) (s : Fin (spec0 w).nbuf) : lv ((c : Thread nD τ), .dma ((cfg0.win w).sem s)) () ≤ 0 := by
  have h : ∀ w : Fin 6, ∀ s : Fin (spec0 w).nbuf, lvl (.dma ((cfg0.win w).sem s)) ≤ 0 := by decide +kernel
  exact h w s

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ restS (Finset.empty_subset _) kit rfl (fun c => (body_obligation m c).loose)
    (fun _ => 0) (fun c => owed c 0 0 0) (fun c => (owed_first m c).trans (zero_add _).symm) (owed_last m) (fun _ => rfl)
    (fun c w => by unfold Dat.share; split <;> rfl)
    (V1 m) (V2 m) (fun c b hb => V2_rest m c b (Finset.mem_sdiff.mp hb).1)
    (Tk (held (ins m))) (fun c => semVal (bcell c) 0) (Xk (held (ins m))) (fun c => semVal (bcell c) 0) (open_all (held (ins m))) (region_in m) (region_out m)
    (fun c => by iintro H; imodintro; iexact H)
    (fun _ => 0)
    ⟨fun c w s => by rw [L_tc]; exact Finset.mem_singleton_self _, fun c w s => lv_stage c w s, fun c t g i h => cut m c t g i h⟩
    (fun _ => iprop(emp))
    (fun c w => rfl) (fun c w => arr_in m c w)

end Cert.KernelIdealRun

end
-- ==== Proof.Launch.lean ====
/-
# The launch

Every cell's invariant is set up before the program starts; the tokens of the units paid are dealt to the devices that
pay them, the credit to the devices that wait on it. Then the main program runs: its two reshapes, and the region.
-/
module

public import proofs.«01_k».proof.Proof.Region

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Cells and tokens -/

theorem dma_ne_reg {q : DmaSem sig} (h : (SemLoc.dma q : SemLoc sig) = SemLoc.reg barS) : False := by cases h

theorem disjoint_cells : Disjoint (cellsB : Finset (GSem nD τ sig)) cellsD := by
  rw [Finset.disjoint_left]
  rintro g h₁ h₂
  obtain ⟨c, -, rfl⟩ := Finset.mem_map.mp h₁
  obtain ⟨x, -, h⟩ := Finset.mem_map.mp h₂
  exact dma_ne_reg (congrArg Prod.snd h : SemLoc.dma x.2 = SemLoc.reg barS)

/-- Every unit that is paid, as cell, round and duty. -/
def tokOf : Dev nD × (Fin 3 ⊕ QJ) → GSem nD τ sig × ℕ × Fin 3
  | (c, .inl d) => (bcell c, 0, d)
  | (c, .inr j) => (dcell c (semOf j), 0, 0)
theorem tokOf_inj : Function.Injective tokOf := by
  rintro ⟨c, d | j⟩ ⟨c', d' | j'⟩ h
  · have h1 : c = c' := congrArg (fun t : GSem nD τ sig × ℕ × Fin 3 => t.1.1.1) h
    have h2 : d = d' := congrArg (fun t : GSem nD τ sig × ℕ × Fin 3 => t.2.2) h
    rw [h1, h2]
  · exact (dma_ne_reg (congrArg (fun t : GSem nD τ sig × ℕ × Fin 3 => t.1.2) h : SemLoc.reg barS = SemLoc.dma (semOf j')).symm).elim
  · exact (dma_ne_reg (congrArg (fun t : GSem nD τ sig × ℕ × Fin 3 => t.1.2) h : SemLoc.dma (semOf j) = SemLoc.reg barS)).elim
  · have h1 : c = c' := congrArg (fun t : GSem nD τ sig × ℕ × Fin 3 => t.1.1.1) h
    have h2 : SemLoc.dma (semOf j) = SemLoc.dma (semOf j') := congrArg (fun t : GSem nD τ sig × ℕ × Fin 3 => t.1.2) h
    rw [h1, semOf_inj (SemLoc.dma.inj h2)]
def allToks : Finset (GSem nD τ sig × ℕ × Fin 3) := Finset.univ.map ⟨tokOf, tokOf_inj⟩

/-- The tokens at a device's own cells. -/
def homeToks (c : Dev nD) : sProp 𝕄 :=
  iprop((bigSep Finset.univ fun d : Fin 3 => dutyTok ER (bcell c) 0 d)
    ∗ (((bigSep Finset.univ fun j : KV => dutyTok ER (dcell c (kvSnd j)) 0 0) ∗ bigSep Finset.univ fun j : KV => dutyTok ER (dcell c (kvRcv j)) 0 0)
      ∗ (dutyTok ER (dcell c (locS 0)) 0 0 ∗ dutyTok ER (dcell c (locS 1)) 0 0)
      ∗ (bigSep Finset.univ fun a : AR => dutyTok ER (dcell c (arSnd a)) 0 0) ∗ bigSep Finset.univ fun a : AR => dutyTok ER (dcell c (arRcv a)) 0 0))

theorem allToks_eq : (bigSep allToks fun x => (dutyTok ER x.1 x.2.1 x.2.2 : sProp 𝕄)) = bigSep Finset.univ fun c : Dev nD => homeToks c := by
  unfold allToks
  rw [bigSep_map, bigSep_univ_prod]
  refine bigSep_congr fun c _ => ?_
  rw [bigSep_univ_sum]
  unfold homeToks
  have h := bigSep_QJ (F := F) (fun q => dutyTok ER (dcell c q) 0 (0 : Fin 3))
  rw [← h]
  rfl

def dealB : Dev nD × Fin 3 ≃ Dev nD × Fin 3 where
  toFun x := (peer x.1 x.2, back x.2)
  invFun x := (peer x.1 x.2, back x.2)
  left_inv x := Prod.ext (peer_back x.1 x.2) (back_back x.2)
  right_inv x := Prod.ext (peer_back x.1 x.2) (back_back x.2)
/-- A family over devices and something that fixes a distance, dealt to the devices at that distance. -/
def dealAt {J : Type} (f : J → Fin 3) : Dev nD × J ≃ Dev nD × J where
  toFun x := (peer x.1 (f x.2), x.2)
  invFun x := (orig x.1 (f x.2), x.2)
  left_inv x := Prod.ext (orig_peer x.1 (f x.2)) rfl
  right_inv x := Prod.ext (peer_orig x.1 (f x.2)) rfl

theorem deal_bar (Φ : Dev nD → Fin 3 → sProp 𝕄) : (bigSep Finset.univ fun c => bigSep Finset.univ fun d => Φ c d)
    = bigSep Finset.univ fun c => bigSep Finset.univ fun d => Φ (peer c d) (back d) := by
  rw [← bigSep_univ_prod (fun x : Dev nD × Fin 3 => Φ x.1 x.2), bigSep_univ_equiv dealB, bigSep_univ_prod]; rfl
theorem deal_at {J : Type} [Fintype J] (f : J → Fin 3) (Φ : Dev nD → J → sProp 𝕄) : (bigSep Finset.univ fun c => bigSep Finset.univ fun j => Φ c j)
    = bigSep Finset.univ fun c => bigSep Finset.univ fun j => Φ (peer c (f j)) j := by
  rw [← bigSep_univ_prod (fun x : Dev nD × J => Φ x.1 x.2), bigSep_univ_equiv (dealAt f), bigSep_univ_prod]; rfl

/-- Every token with the device that pays its unit. -/
theorem deal : (bigSep Finset.univ fun c : Dev nD => (homeToks c : sProp 𝕄)) ⊢ bigSep Finset.univ fun c : Dev nD => Toks c := by
  unfold homeToks Toks
  simp only [bigSep_sep']
  rw [deal_bar (fun c d => dutyTok ER (bcell c) 0 d), deal_at (fun j : KV => j.2.2.1) (fun c j => dutyTok ER (dcell c (kvRcv j)) 0 0),
    deal_at (fun a : AR => a.2) (fun c a => dutyTok ER (dcell c (arRcv a)) 0 0)]

/-! ## Credit -/

theorem sum_at {J : Type} (S : Finset J) (cell : J → GSem nD τ sig) (n : ℕ) (g : GSem nD τ sig) :
    (∑ j ∈ S, tallyAt (cell j) () n : CellTallies nD τ sig Unit) g () = ∑ j ∈ S, if g = cell j then n else 0 := by
  classical
  rw [Finset.sum_apply, Finsupp.finset_sum_apply]
  refine Finset.sum_congr rfl fun j _ => ?_
  rw [tallyAt_apply]
  by_cases h : g = cell j
  · rw [if_pos ⟨h, rfl⟩, if_pos h]
  · rw [if_neg (fun e => h e.1), if_neg h]

theorem dcell_eq {c c' : Dev nD} {q q' : DmaSem sig} : dcell c q = dcell c' q' ↔ c = c' ∧ q = q' :=
  ⟨fun h => ⟨congrArg (fun g : GSem nD τ sig => g.1.1) h, SemLoc.dma.inj (congrArg Prod.snd h)⟩, fun h => by rw [h.1, h.2]⟩
theorem bcell_eq {c c' : Dev nD} : bcell c = bcell c' ↔ c = c' :=
  ⟨fun h => congrArg (fun g : GSem nD τ sig => g.1.1) h, fun h => by rw [h]⟩
theorem bcell_ne {c c' : Dev nD} {q : DmaSem sig} : bcell c ≠ dcell c' q := fun h => dma_ne_reg (congrArg Prod.snd h : SemLoc.reg barS = SemLoc.dma q).symm
theorem kvRcv_inj {j j' : KV} (h : kvRcv j = kvRcv j') : j = j' := by
  have e := congrArg role h; rw [role_rcv, role_rcv] at e; exact Role.rcv.inj e
theorem arRcv_inj {j j' : AR} (h : arRcv j = arRcv j') : j = j' := by
  have e := congrArg role h; rw [role_arcv, role_arcv] at e; exact Role.arcv.inj e
theorem kv_ne_ar (j : KV) (a : AR) : kvRcv j ≠ arRcv a := fun h => by
  have e := congrArg role h; rw [role_rcv, role_arcv] at e; exact Role.noConfusion e
theorem peer_iff (c c' : Dev nD) (d : Fin 3) : c = peer c' d ↔ c' = orig c d := by revert c c' d; decide

theorem owed_at (c' : Dev nD) (g : GSem nD τ sig) : owed c' 0 0 0 g () = (∑ j : KV, if g = dcell (peer c' j.2.2.1) (kvRcv j) then NT else 0)
    + (∑ a : AR, if g = dcell (peer c' a.2) (arRcv a) then NA else 0) + ∑ d : Fin 3, if g = bcell (peer c' d) then 1 else 0 := by
  unfold owed owedKV owedAR owedB
  rw [Pi.add_apply, Pi.add_apply, Finsupp.add_apply, Finsupp.add_apply, sum_at, sum_at, sum_at,
    Finset.filter_true_of_mem (fun _ _ => Nat.zero_le _), Finset.filter_true_of_mem (fun _ _ => Nat.zero_le _), Finset.filter_true_of_mem (fun _ _ => Nat.zero_le _)]

theorem owed_kv (c c' : Dev nD) (j : KV) : owed c' 0 0 0 (dcell c (kvRcv j)) () = if c' = orig c j.2.2.1 then NT else 0 := by
  rw [owed_at, Finset.sum_eq_single_of_mem j (Finset.mem_univ _) (fun j' _ h => if_neg fun e => h (kvRcv_inj (dcell_eq.mp e).2).symm),
    Finset.sum_eq_zero (fun a _ => if_neg fun e => kv_ne_ar _ _ (dcell_eq.mp e).2), Finset.sum_eq_zero (fun d _ => if_neg fun e => bcell_ne e.symm), Nat.add_zero, Nat.add_zero]
  by_cases h : c' = orig c j.2.2.1
  · rw [if_pos h, if_pos (dcell_eq.mpr ⟨(peer_iff _ _ _).mpr h, rfl⟩)]
  · rw [if_neg h, if_neg (fun e => h ((peer_iff _ _ _).mp (dcell_eq.mp e).1))]
theorem owed_ar (c c' : Dev nD) (a : AR) : owed c' 0 0 0 (dcell c (arRcv a)) () = if c' = orig c a.2 then NA else 0 := by
  rw [owed_at, Finset.sum_eq_zero (fun j _ => if_neg fun e => kv_ne_ar _ _ (dcell_eq.mp e).2.symm),
    Finset.sum_eq_single_of_mem a (Finset.mem_univ _) (fun a' _ h => if_neg fun e => h (arRcv_inj (dcell_eq.mp e).2).symm),
    Finset.sum_eq_zero (fun d _ => if_neg fun e => bcell_ne e.symm), Nat.add_zero, Nat.zero_add]
  by_cases h : c' = orig c a.2
  · rw [if_pos h, if_pos (dcell_eq.mpr ⟨(peer_iff _ _ _).mpr h, rfl⟩)]
  · rw [if_neg h, if_neg (fun e => h ((peer_iff _ _ _).mp (dcell_eq.mp e).1))]
theorem owed_bar (c c' : Dev nD) : owed c' 0 0 0 (bcell c) () = ∑ d : Fin 3, if c' = orig c d then 1 else 0 := by
  rw [owed_at, Finset.sum_eq_zero (fun j _ => if_neg fun e => bcell_ne e), Finset.sum_eq_zero (fun j _ => if_neg fun e => bcell_ne e), Nat.zero_add]
  rw [Nat.zero_add]
  refine Finset.sum_congr rfl fun d _ => ?_
  by_cases h : c' = orig c d
  · rw [if_pos h, if_pos (bcell_eq.mpr ((peer_iff _ _ _).mpr h))]
  · rw [if_neg h, if_neg (fun e => h ((peer_iff _ _ _).mp (bcell_eq.mp e)))]

abbrev O₀ (c : Dev nD) : CellTallies nD τ sig Unit := owed c 0 0 0

theorem launch_kv (c : Dev nD) (j : KV) :
    tallyOn (dcell c (kvRcv j)) (launchCredit (Pipeline.owing O₀) 0 (dcell c (kvRcv j))) = (tallyAt (dcell c (kvRcv j)) () NT : CellTallies nD τ sig Unit) := by
  unfold tallyAt; refine congrArg _ (Finsupp.ext fun u => ?_); cases u
  rw [Pipeline.launchCredit_owing, Finsupp.single_eq_same, Finset.sum_congr rfl fun d _ => owed_kv c d j, Finset.sum_ite_eq' Finset.univ (orig c j.2.2.1) fun _ => NT,
    if_pos (Finset.mem_univ _)]
theorem launch_ar (c : Dev nD) (a : AR) :
    tallyOn (dcell c (arRcv a)) (launchCredit (Pipeline.owing O₀) 0 (dcell c (arRcv a))) = (tallyAt (dcell c (arRcv a)) () NA : CellTallies nD τ sig Unit) := by
  unfold tallyAt; refine congrArg _ (Finsupp.ext fun u => ?_); cases u
  rw [Pipeline.launchCredit_owing, Finsupp.single_eq_same, Finset.sum_congr rfl fun d _ => owed_ar c d a, Finset.sum_ite_eq' Finset.univ (orig c a.2) fun _ => NA,
    if_pos (Finset.mem_univ _)]
theorem launch_bar (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide

def credSem : KV ⊕ AR ↪ SemLoc sig where
  toFun | .inl j => .dma (kvRcv j) | .inr a => .dma (arRcv a)
  inj' := by
    rintro (j | a) (j' | a') h
    · rw [kvRcv_inj (SemLoc.dma.inj h)]
    · exact absurd (SemLoc.dma.inj h) (kv_ne_ar _ _)
    · exact absurd (SemLoc.dma.inj h).symm (kv_ne_ar _ _)
    · rw [arRcv_inj (SemLoc.dma.inj h)]

theorem creds (c : Dev nD) : (Pipeline.launchCred O₀ c : sProp 𝕄) ⊢ Creds c := by
  unfold Pipeline.launchCred Creds
  rw [bigSep_univ_at _ (SemLoc.reg barS)]
  have hb : (cred (tallyOn ((c : Thread nD τ), SemLoc.reg barS) (launchCredit (Pipeline.owing O₀) 0 ((c : Thread nD τ), SemLoc.reg barS))) : sProp 𝕄)
      = cred (tallyAt (bcell c) () 3) := congrArg cred (launch_bar c)
  rw [hb]
  refine sep_mono_right ?_
  have hsub : Finset.univ.map credSem ⊆ Finset.univ.erase (SemLoc.reg barS : SemLoc sig) := fun x hx => by
    obtain ⟨j, -, rfl⟩ := Finset.mem_map.mp hx
    refine Finset.mem_erase.mpr ⟨?_, Finset.mem_univ _⟩
    rcases j with j | a <;> exact fun h => dma_ne_reg h
  refine BIBase.Entails.trans (bigSep_subset hsub) (Entails.of_eq ?_)
  rw [bigSep_map, bigSep_univ_sum]
  have h1 : ∀ j : KV, (cred (tallyOn ((c : Thread nD τ), credSem (.inl j)) (launchCredit (Pipeline.owing O₀) 0 ((c : Thread nD τ), credSem (.inl j)))) : sProp 𝕄)
      = cred (tallyAt (dcell c (kvRcv j)) () NT) := fun j => congrArg cred (launch_kv c j)
  have h2 : ∀ a : AR, (cred (tallyOn ((c : Thread nD τ), credSem (.inr a)) (launchCredit (Pipeline.owing O₀) 0 ((c : Thread nD τ), credSem (.inr a)))) : sProp 𝕄)
      = cred (tallyAt (dcell c (arRcv a)) () NA) := fun a => congrArg cred (launch_ar c a)
  rw [bigSep_congr (s := Finset.univ) (fun j _ => h1 j), bigSep_congr (s := Finset.univ) (fun a _ => h2 a)]
  rfl

/-! ## The set-up -/

/-- The launch element, and what is parked of it until the set-up. -/
def u₀ : UU :=
  (initOf (Pipeline.cells (Pipeline.pin (pcfgs (F := F)) adm) cellOf_inj) (Pipeline.launchToks (Pipeline.pin (pcfgs (F := F)) adm) cellOf_inj),
    launchOf cellsB cellsD allToks)
def G (c : Dev nD) : sProp 𝕄 := if c = 0 then BI.own (ER (launchOf cellsB cellsD allToks)) else iprop(emp)
theorem bigSep_G : bigSep Finset.univ (G (F := F)) = (BI.own (ER (launchOf cellsB cellsD allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

def records (κ : GSem nD τ sig → ℕ) : sProp 𝕄 := iprop(invs (held (ins m)) κ ∗ bigSep cellsB fun g => reached ER g 0)
instance records_persistent (κ : GSem nD τ sig → ℕ) : BI.Persistent (records m κ) := by unfold records; infer_instance

/-- What stays with a device: its place on its barrier, the right to open its semaphores, the tokens of what it pays. -/
def linear (c : Dev nD) : sProp 𝕄 :=
  iprop(atPos ER (bcell c) 0 ∅ 0 ∗ (bigSep Finset.univ fun j : QJ => openTok ER (dcell c (semOf j))) ∗ Toks c)

theorem reached_peers (c : Dev nD) : (bigSep cellsB fun g => (reached ER g 0 : sProp 𝕄)) ⊢ bigSep Finset.univ fun d : Fin 3 => reached ER (bcell (peer c d)) 0 := by
  iintro #H
  rw [bigSep_three]
  isplitr; · iapply (show (bigSep cellsB fun g => (reached ER g 0 : sProp 𝕄)) ⊢ reached ER (bcell (peer c 0)) 0 from bigSep_elim (Finset.mem_map_of_mem barEmb (Finset.mem_univ (peer c 0)))); iexact H
  isplitr; · iapply (show (bigSep cellsB fun g => (reached ER g 0 : sProp 𝕄)) ⊢ reached ER (bcell (peer c 1)) 0 from bigSep_elim (Finset.mem_map_of_mem barEmb (Finset.mem_univ (peer c 1)))); iexact H
  iapply (show (bigSep cellsB fun g => (reached ER g 0 : sProp 𝕄)) ⊢ reached ER (bcell (peer c 2)) 0 from bigSep_elim (Finset.mem_map_of_mem barEmb (Finset.mem_univ (peer c 2)))); iexact H

/-- What a device brings to the main program besides its buffers. -/
def R (c : Dev nD) : sProp 𝕄 := iprop((∃ r, prngReg c r) ∗ Tk (held (ins m)) c ∗ ∃ W, owes (c : Thread nD τ) (owed c 0 0 0) W)
abbrev V₀ (c : Dev nD) : Valuation τ sig (Elt F) := fun b => m (c, b)
abbrev T₀ (c : Dev nD) : sProp 𝕄 := iprop(StableHlo.held (c : Thread nD τ) (Pipeline.ucRefs τ sig) (V₀ m c) ∗ R m c)

def bundle (c : Dev nD) : sProp 𝕄 :=
  iprop(StableHlo.held (c : Thread nD τ) (Pipeline.ucRefs τ sig) (V₀ m c) ∗ Creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R Tk linear records Bars
  iintro ⟨⟨#HI, #HR⟩, ⟨HA, HO, HT⟩, Hh, HC, HW, Hp⟩
  isplitl [Hh]; · iexact Hh
  isplitl [Hp]; · iexact Hp
  isplitr [HW]
  · isplitr [HC]
    · iexists κ
      isplitr; · iexact HI
      isplitl [HA]
      · isplitr; · iapply (reached_peers (F := F) c); iexact HR
        iexact HA
      isplitl [HO] <;> iassumption
    iexact HC
  iexists ∅; iexact HW

theorem unscopedSems0_eq (c : Dev nD) : (unscopedSems0 c : sProp 𝕄) = semVal (bcell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

theorem open_cells : bigSep cellsD (fun g => (openTok ER g : sProp 𝕄))
    = bigSep Finset.univ fun c : Dev nD => bigSep Finset.univ fun j : QJ => openTok ER (dcell c (semOf j)) := by
  have h : cellsD = Finset.univ.map ((Function.Embedding.prodMap (Function.Embedding.refl (Dev nD)) semEmb).trans dmaEmb) := by
    unfold cellsD
    rw [ownQ_eq, ← Finset.map_map]
    refine congrArg (fun S => Finset.map dmaEmb S) ?_
    ext x
    simp only [Finset.mem_product, Finset.mem_map, Finset.mem_univ, true_and, Function.Embedding.prodMap]
    constructor
    · rintro ⟨j, hj⟩; exact ⟨(x.1, j), Prod.ext rfl hj⟩
    · rintro ⟨y, rfl⟩; exact ⟨y.2, rfl⟩
  rw [h, bigSep_map, bigSep_univ_prod]
  rfl

theorem set_up :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (bcell c) 0 ∗ G c)) : sProp 𝕄) := by
    rw [show unscopedBufs c (fun b => m ((c : Thread nD τ).loc b)) = StableHlo.held (c : Thread nD τ) (Pipeline.ucRefs τ sig) (V₀ m c) from Pipeline.unscopedBufs_held c (V₀ m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (bcell c) 0 : sProp 𝕄)) ⊢ bigSep cellsB (fun g => (semVal g 0 : sProp 𝕄)) :=
    Entails.of_eq (bigSep_map (s := Finset.univ) barEmb (Φ := fun g : GSem nD τ sig => (semVal g 0 : sProp 𝕄))).symm
  have hat : bigSep cellsB (fun g => (atPos ER g 0 ∅ 0 : sProp 𝕄)) ⊢ bigSep Finset.univ (fun c : Dev nD => (atPos ER (bcell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (bcell c) 0 ∗ G c)) : sProp 𝕄) from bigSep_mono fun c _ => hcore c) $$ H
  ihave H2 := (Entails.of_eq (bigSep_sep' (M := 𝕄) Finset.univ (fun c : Dev nD => bundle m c) (fun c => iprop(semVal (bcell c) 0 ∗ G c)))) $$ H'
  icases H2 with ⟨HB, H3⟩
  ihave H4 := (Entails.of_eq (bigSep_sep' (M := 𝕄) Finset.univ (fun c : Dev nD => semVal (bcell c) 0) G)) $$ H3
  icases H4 with ⟨Hv, HG⟩
  ihave Hu := (Entails.of_eq (bigSep_G (F := F))) $$ HG
  imod (Rounds.fund_launch ER (rd (held (ins m))) disjoint_cells (fun g _ h => h) allToks) $$ [Hv Hu] with ⟨%κ, -, #Hinv, #Hr, Hat, Hopen, Htok⟩
  · isplitl [Hv]
    · iapply hv $$ Hv
    · iexact Hu
  imodintro
  have hT : ∀ c, iprop(records m κ ∗ (linear c ∗ bundle m c)) ⊢ T₀ m c := T₀_intro m κ
  iapply (each_knowing hT)
  isplitr
  · unfold records invs
    isplitr; · iexact Hinv
    iexact Hr
  iapply zip
  isplitr [HB]
  · unfold linear
    iapply zip; isplitl [Hat]; · iapply hat $$ Hat
    iapply zip; isplitl [Hopen]; · iapply (Entails.of_eq (open_cells (F := F))) $$ Hopen
    iapply (deal (F := F))
    iapply (Entails.of_eq (allToks_eq (F := F))) $$ Htok
  · iexact HB

/-! ## The main program -/

set_option backward.isDefEq.respectTransparency.types false in
def host0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (V₀ m) (R m)

/-- The arrays the claims speak of. -/
def ends : Finset (DevRef τ sig) := {Proc.devRef .tc main_arg0, Proc.devRef .tc main_arg1, Proc.devRef .tc main_arg2, Proc.devRef .tc main_arg3, Proc.devRef .tc main_arg4, Proc.devRef .tc main_v3}
abbrev Tₙ (c : Dev nD) : sProp 𝕄 := iprop(StableHlo.held (c : Thread nD τ) ends (V2 m c) ∗ semVal (bcell c) 0)

theorem arr_sub : Pipeline.arrRefs (τ := τ) spec0 ⊆ Pipeline.ucRefs τ sig := by decide +kernel
theorem rest_sub : restS ⊆ Pipeline.ucRefs τ sig \ Pipeline.arrRefs (τ := τ) spec0 := by decide +kernel
theorem ends_sub : ends ⊆ Pipeline.arrRefs (τ := τ) spec0 ∪ restS := by decide +kernel
theorem arr_rest : Disjoint (Pipeline.arrRefs (τ := τ) spec0) restS := by decide +kernel

theorem region_pre (c : Dev nD) : (host0 m).post c ⊢ (region m).pre c := by
  show iprop(StableHlo.held (c.tc : Thread nD τ) (Pipeline.ucRefs τ sig) (V1 m c) ∗ R m c)
    ⊢ iprop(StableHlo.held (c.tc : Thread nD τ) (Pipeline.arrRefs (τ := τ) spec0) (V1 m c) ∗ (∃ r, prngReg c r)
    ∗ (StableHlo.held (c.tc : Thread nD τ) restS (V1 m c) ∗ emp) ∗ Tk (held (ins m)) c ∗ ∃ Wd, owes (c : Thread nD τ) (0 + owed c 0 0 0) Wd)
  rw [zero_add, StableHlo.held_sub_split (c.tc : Thread nD τ) arr_sub, StableHlo.held_sub_split (c.tc : Thread nD τ) rest_sub]
  unfold R
  iintro ⟨⟨Ha, Hr, -⟩, Hp, HT, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c ⊢ iprop(Tₙ m c ∗ ∃ W, owes (c : Thread nD τ) (0 : CellTallies nD τ sig Unit) W) := by
  show iprop(StableHlo.held (c.tc : Thread nD τ) (Pipeline.arrRefs (τ := τ) spec0) (V2 m c) ∗ (∃ r, prngReg c r)
    ∗ (StableHlo.held (c.tc : Thread nD τ) restS (V2 m c) ∗ emp) ∗ semVal (bcell c) 0 ∗ ∃ Wd, owes (c : Thread nD τ) (0 : CellTallies nD τ sig Unit) Wd) ⊢ _
  have h : iprop(StableHlo.held (c.tc : Thread nD τ) (Pipeline.arrRefs (τ := τ) spec0) (V2 m c) ∗ StableHlo.held (c.tc : Thread nD τ) restS (V2 m c))
      ⊢ (StableHlo.held (c.tc : Thread nD τ) ends (V2 m c) : sProp 𝕄) := by
    unfold StableHlo.held
    exact BIBase.Entails.trans (Entails.of_eq (bigSep_union arr_rest).symm) (bigSep_subset ends_sub)
  iintro ⟨Ha, -, ⟨Hr, -⟩, Hb, HO⟩
  isplitr [HO]
  · isplitl [Ha Hr]
    · iapply h
      isplitl [Ha] <;> iassumption
    iexact Hb
  iexact HO

def segs : List (Pipeline.Seg (pcfgs (F := F)) adm (pdats m) () defs₀ 𝒱₀ L lv) := [.host (host0 m), .region (region m)]

theorem V2_of (c : Dev nD) (b : Ref sig .tc) (h : b ≠ main_v3) : V2 m c (Proc.devRef .tc b) = V m c b :=
  Function.update_of_ne (StableHlo.devRef_ne_of_ne h) _ _
theorem V2_out (c : Dev nD) : V2 m c (Proc.devRef .tc main_v3) = outF (ins m) c := by
  unfold V2
  exact Function.update_self (Proc.devRef .tc main_v3) (outF (ins m) c) (V1 m c)

abbrev pt (c : Dev nD) (b : Ref sig .tc) (f : Buf (Elt F) ((c : Thread nD τ).loc b)) : sProp 𝕄 := (((c : Thread nD τ).loc b) ↦{fullShare} f)
theorem ends_eq (c : Dev nD) (W : Valuation τ sig (Elt F)) : (StableHlo.held (c : Thread nD τ) ends W : sProp 𝕄)
    = iprop(pt c main_arg0 (W main_arg0) ∗ pt c main_arg1 (W main_arg1) ∗ pt c main_arg2 (W main_arg2) ∗ pt c main_arg3 (W main_arg3) ∗ pt c main_arg4 (W main_arg4) ∗ pt c main_v3 (W main_v3)) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v3] (by decide) (by decide)]
  rfl

/-- What a final memory holds on device `c`: the arguments as launched, the result the program's. -/
def Ended (c : Dev nD) (mem : (ℓ : Loc nD τ sig) → Buf (Elt F) ℓ) : Prop :=
  mem ((c : Thread nD τ).loc main_arg0) = m ((c : Thread nD τ).loc main_arg0)
  ∧ mem ((c : Thread nD τ).loc main_arg1) = m ((c : Thread nD τ).loc main_arg1)
  ∧ mem ((c : Thread nD τ).loc main_arg2) = m ((c : Thread nD τ).loc main_arg2)
  ∧ mem ((c : Thread nD τ).loc main_arg3) = m ((c : Thread nD τ).loc main_arg3)
  ∧ mem ((c : Thread nD τ).loc main_arg4) = m ((c : Thread nD τ).loc main_arg4)
  ∧ mem ((c : Thread nD τ).loc main_v3) = outF (ins m) c

theorem final (c : Dev nD) (s' : Phys nD τ sig (Elt F)) : iprop(Tₙ m c ∗ SI s') ⊢ (|={Set.univ}=> iprop(⌜Ended m c s'.mem.mem ∧ s'.mem.sem (bcell c) = 0⌝ ∗ SI s') : sProp 𝕄) := by
  dsimp only [Tₙ]; rw [ends_eq]
  iintro ⟨⟨⟨H0, H1, H2, H3, H4, H5⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    refine ⟨⟨?_, ?_, ?_, ?_, ?_, ?_⟩, by simpa using hb⟩
    · exact ((Buf.eq_of_forall_mem_univ h0).trans (V2_of m c main_arg0 (by decide))).trans (V_main_arg0 m c)
    · exact ((Buf.eq_of_forall_mem_univ h1).trans (V2_of m c main_arg1 (by decide))).trans (V_main_arg1 m c)
    · exact ((Buf.eq_of_forall_mem_univ h2).trans (V2_of m c main_arg2 (by decide))).trans (V_main_arg2 m c)
    · exact ((Buf.eq_of_forall_mem_univ h3).trans (V2_of m c main_arg3 (by decide))).trans (V_main_arg3 m c)
    · exact ((Buf.eq_of_forall_mem_univ h4).trans (V2_of m c main_arg4 (by decide))).trans (V_main_arg4 m c)
    · exact (Buf.eq_of_forall_mem_univ h5).trans (V2_out m c)
  iexact HSI

set_option backward.isDefEq.respectTransparency.types false in
/-- From any memory with every counter zero, every execution of the main program on the four devices ends, with the
    arguments unchanged, the result as computed by the program's equations, and every counter zero. -/
theorem run_main : θ_run defs (onTc (τ := τ) (main (F := F))) ⟨m, fun _ => 0, ρ⟩
    (fun r => (∀ c : Dev nD, Ended m c r.2.mem) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host0 m) (region m) rfl c]; exact .rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => region_pre m c, fun c => region_post m c⟩)
    (hinit := set_up m ρ)
    (QY := fun c s => Ended m c s.mem ∧ s.sem (bcell c) = 0)
    (hfin := fun c s' => final m c s')
    (hQ := fun s h hs => ⟨fun c => (h c).1, sem_eq_zero hs fun c sm hsm => by
        obtain rfl := unscoped_eq sm hsm
        exact (h c).2⟩)

end Cert.KernelIdealRun

end
-- ==== Proof.Frames.lean ====
/-
# The frame of the kernel

Both the printed program and its ideal reading end with their arguments unchanged and every counter at zero. The two
texts agree, so the run proved for any float operations serves both.
-/
module

public import proofs.«01_k».proof.Defs
public import proofs.«01_k».proof.Proof.Launch
public import proofs.«01_k».proof.Proof.Gen.Kernel

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
omit [FloatOps F] in
theorem ended_frame [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_main m ρ)

theorem frame_ideal : quiescent_KernelIdeal (hKernelIdeal := Cert.KernelIdeal.Gen.facts) := fun m g _ => ended_frame m g

/-- The statement about the printed program is, by unfolding its text, the statement about the ideal program's text
at the same floats. -/
theorem same_text : quiescent_Kernel (hKernel := Cert.Kernel.Gen.facts)
    = (∀ (m : (ℓ : Loc nD τ sig) → Buf (Elt Bits) ℓ) (g : Dev nD → PrngReg), Cert.Pre_Kernel m →
      θ_run defs (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0)) := by
  chain_rfl

theorem frame_printed : quiescent_Kernel (hKernel := Cert.Kernel.Gen.facts) := by
  rw [same_text]
  exact fun m g _ => ended_frame m g

end Cert.KernelIdealRun

end
-- ==== Proof.Ref.lean ====
/-
# The run of the reference

The reference is a straight line of host operations on one device. Its result is named step by step: the projected
queries, the mask, the masked scores, the weights, the context and the output projection.
-/
module

public import proofs.«01_k».proof.Defs
public import Idealize.ShloMosaic.Lib.StableHlo.Run
public import Idealize.ShloMosaic.Lib.Pipeline.Regions
public import Idealize.ShloMosaic.Lib.QuiescentFlight
public import proofs.«01_k».proof.Proof.Gen.ReferenceIdeal

@[expose] public section

set_option maxRecDepth 16384

noncomputable section

namespace Cert.ReferenceRun

open Cert.ReferenceIdeal Cert.ReferenceIdeal.Gen
open Idealize.ShloMosaic Idealize.ShloMosaic.TcCoe Idealize.ShloMosaic.StableHlo Idealize.SL.Sem

variable {F : FTy → Type} [FloatOps F]

section Values
variable (x : FVec F S2x128x512 .f32) (wq : FVec F S512x1024 .f32) (k v : FVec F S2x512x16x64 .f32) (wo : FVec F S1024x512 .f32)

/-- The queries, by head. -/
def rq : FVec F S2x128x16x64 .f32 :=
  shapeCast S2x128x16x64 (Host.dotGeneral dot_S2x128x512_S512x1024_S2x128x1024_2_0_01_1_n_n none x wq) shapeCasts_S2x128x1024_S2x128x16x64
def rowNo : IVec S128x1 32 := broadcastInDim S128x1 ![0] bcast_S128_S128x1_0 (iotaInDim S128 32 0)
def keyNo : IVec S1x512 32 := broadcastInDim S1x512 ![1] bcast_S512_S1x512_1 (iotaInDim S512 32 0)
/-- Which keys a query sees. -/
def rmask : IVec S128x512 1 :=
  ori (cmpi .sle (absi (subi (broadcastInDim S128x512 ![0, 1] bcast_S128x1_S128x512_0_1 rowNo) (broadcastInDim S128x512 ![0, 1] bcast_S1x512_S128x512_0_1 keyNo)))
      (broadcastInDim S128x512 ![] bcast_S_S128x512 (constantI S_ 32 128#32)))
    (ori (broadcastInDim S128x512 ![0, 1] bcast_S1x512_S128x512_0_1 (cmpi .slt keyNo (broadcastInDim S1x512 ![] bcast_S_S1x512 (constantI S_ 32 32#32))))
      (broadcastInDim S128x512 ![0, 1] bcast_S128x1_S128x512_0_1 (cmpi .slt rowNo (broadcastInDim S128x1 ![] bcast_S_S128x1 (constantI S_ 32 32#32)))))
/-- The masked scores. -/
def rscore : FVec F S2x16x128x512 .f32 :=
  select (broadcastInDim S2x16x128x512 ![0, 1, 2, 3] bcast_S1x1x128x512_S2x16x128x512_0_1_2_3 (broadcastInDim S1x1x128x512 ![2, 3] bcast_S128x512_S1x1x128x512_2_3 rmask))
    (mulf (Host.dotGeneral dot_S2x128x16x64_S2x512x16x64_S2x16x128x512_3_3_1_1_02_02 none (rq x wq) k)
      (broadcastInDim S2x16x128x512 ![] bcast_S_S2x16x128x512 (constant S_ .f32 0x3E000000#32)))
    (broadcastInDim S2x16x128x512 ![] bcast_S_S2x16x128x512 (constant S_ .f32 0xCE6E6B28#32))
/-- Their maximum over the keys. -/
def rmax : FVec F S2x16x128 .f32 :=
  Host.reduce FloatOps.maximumf (rscore x wq k) (constant S_ .f32 0xFF800000#32) reducesTo_S2x16x128x512_S2x16x128_d3 h_S_
/-- The exponentials. -/
def rexp : FVec F S2x16x128x512 .f32 :=
  Host.exp (subf (rscore x wq k) (broadcastInDim S2x16x128x512 ![0, 1, 2, 3] bcast_S2x16x128x1_S2x16x128x512_0_1_2_3
    (broadcastInDim S2x16x128x1 ![0, 1, 2] bcast_S2x16x128_S2x16x128x1_0_1_2 (rmax x wq k))))
/-- The queries that see some key. -/
def rkeep : IVec S128 1 := Host.reduce IntOp.ori rmask (constantI S_ 1 0#1) reducesTo_S128x512_S128_d1 h_S_
/-- The sums of the exponentials. -/
def rsum : FVec F S2x16x128 .f32 :=
  Host.reduceAdd (rexp x wq k) (constant S_ .f32 0x00000000#32) reducesTo_S2x16x128x512_S2x16x128_d3 h_S_
def rden : FVec F S2x16x128x1 .f32 :=
  select (broadcastInDim S2x16x128x1 ![0, 1, 2, 3] bcast_S1x1x128x1_S2x16x128x1_0_1_2_3 (broadcastInDim S1x1x128x1 ![2] bcast_S128_S1x1x128x1_2 rkeep))
    (broadcastInDim S2x16x128x1 ![0, 1, 2] bcast_S2x16x128_S2x16x128x1_0_1_2 (rsum x wq k))
    (broadcastInDim S2x16x128x1 ![] bcast_S_S2x16x128x1 (constant S_ .f32 0x3F800000#32))
/-- The attention weights. -/
def rweight : FVec F S2x16x128x512 .f32 :=
  select (broadcastInDim S2x16x128x512 ![0, 1, 2, 3] bcast_S1x1x128x1_S2x16x128x512_0_1_2_3 (broadcastInDim S1x1x128x1 ![2] bcast_S128_S1x1x128x1_2 rkeep))
    (Host.divf (rexp x wq k) (broadcastInDim S2x16x128x512 ![0, 1, 2, 3] bcast_S2x16x128x1_S2x16x128x512_0_1_2_3 (rden x wq k)))
    (broadcastInDim S2x16x128x512 ![] bcast_S_S2x16x128x512 (constant S_ .f32 0x00000000#32))
/-- The context. -/
def rctx : FVec F S2x128x1024 .f32 :=
  shapeCast S2x128x1024 (transpose S2x128x16x64 [0, 3, 1, 2]
    (Host.dotGeneral dot_S2x512x16x64_S2x16x128x512_S2x16x64x128_1_3_3_2_02_01 none v (rweight x wq k))
    transposes_S2x16x64x128_S2x128x16x64_0_3_1_2) shapeCasts_S2x128x16x64_S2x128x1024
/-- The result. -/
def rout : FVec F S2x128x512 .f32 :=
  Host.dotGeneral dot_S2x128x1024_S1024x512_S2x128x512_2_0_01_1_n_n none (rctx x wq k v) wo
end Values

/-- The operations, in order. -/
abbrev ops : List (HloOp τ sig (Elt F)) :=
  [ binary main_arg0 main_arg1 main_v0 ((fun l r => Host.dotGeneral dot_S2x128x512_S512x1024_S2x128x1024_2_0_01_1_n_n none l r) : (⟨S2x128x512, .f32⟩ : BufTy).Contents (Elt F) → (⟨S512x1024, .f32⟩ : BufTy).Contents (Elt F) → (⟨S2x128x1024, .f32⟩ : BufTy).Contents (Elt F)),
    reshape main_v0 main_v1 (rfl : (.f32 : EltTy) = .f32) shapeCasts_S2x128x1024_S2x128x16x64,
    nullary main_v2 (iotaInDim S128 32 0),
    unary main_v2 main_v3 (broadcastInDim S128x1 ![0] bcast_S128_S128x1_0 : (⟨S128, .i32⟩ : BufTy).Contents (Elt F) → (⟨S128x1, .i32⟩ : BufTy).Contents (Elt F)),
    nullary main_v4 (iotaInDim S512 32 0),
    unary main_v4 main_v5 (broadcastInDim S1x512 ![1] bcast_S512_S1x512_1 : (⟨S512, .i32⟩ : BufTy).Contents (Elt F) → (⟨S1x512, .i32⟩ : BufTy).Contents (Elt F)),
    unary main_v3 main_v6 (broadcastInDim S128x512 ![0, 1] bcast_S128x1_S128x512_0_1 : (⟨S128x1, .i32⟩ : BufTy).Contents (Elt F) → (⟨S128x512, .i32⟩ : BufTy).Contents (Elt F)),
    unary main_v5 main_v7 (broadcastInDim S128x512 ![0, 1] bcast_S1x512_S128x512_0_1 : (⟨S1x512, .i32⟩ : BufTy).Contents (Elt F) → (⟨S128x512, .i32⟩ : BufTy).Contents (Elt F)),
    binary main_v6 main_v7 main_v8 (subi : (⟨S128x512, .i32⟩ : BufTy).Contents (Elt F) → (⟨S128x512, .i32⟩ : BufTy).Contents (Elt F) → (⟨S128x512, .i32⟩ : BufTy).Contents (Elt F)),
    unary main_v8 main_v9 (absi : (⟨S128x512, .i32⟩ : BufTy).Contents (Elt F) → (⟨S128x512, .i32⟩ : BufTy).Contents (Elt F)),
    nullary main_c (constantI S_ 32 128#32),
    unary main_c main_v10 (broadcastInDim S128x512 ![] bcast_S_S128x512 : (⟨S_, .i32⟩ : BufTy).Contents (Elt F) → (⟨S128x512, .i32⟩ : BufTy).Contents (Elt F)),
    binary main_v9 main_v10 main_v11 (cmpi .sle : (⟨S128x512, .i32⟩ : BufTy).Contents (Elt F) → (⟨S128x512, .i32⟩ : BufTy).Contents (Elt F) → (⟨S128x512, .i1⟩ : BufTy).Contents (Elt F)),
    nullary main_c_0 (constantI S_ 32 32#32),
    unary main_c_0 main_v12 (broadcastInDim S1x512 ![] bcast_S_S1x512 : (⟨S_, .i32⟩ : BufTy).Contents (Elt F) → (⟨S1x512, .i32⟩ : BufTy).Contents (Elt F)),
    binary main_v5 main_v12 main_v13 (cmpi .slt : (⟨S1x512, .i32⟩ : BufTy).Contents (Elt F) → (⟨S1x512, .i32⟩ : BufTy).Contents (Elt F) → (⟨S1x512, .i1⟩ : BufTy).Contents (Elt F)),
    nullary main_c_1 (constantI S_ 32 32#32),
    unary main_c_1 main_v14 (broadcastInDim S128x1 ![] bcast_S_S128x1 : (⟨S_, .i32⟩ : BufTy).Contents (Elt F) → (⟨S128x1, .i32⟩ : BufTy).Contents (Elt F)),
    binary main_v3 main_v14 main_v15 (cmpi .slt : (⟨S128x1, .i32⟩ : BufTy).Contents (Elt F) → (⟨S128x1, .i32⟩ : BufTy).Contents (Elt F) → (⟨S128x1, .i1⟩ : BufTy).Contents (Elt F)),
    unary main_v13 main_v16 (broadcastInDim S128x512 ![0, 1] bcast_S1x512_S128x512_0_1 : (⟨S1x512, .i1⟩ : BufTy).Contents (Elt F) → (⟨S128x512, .i1⟩ : BufTy).Contents (Elt F)),
    unary main_v15 main_v17 (broadcastInDim S128x512 ![0, 1] bcast_S128x1_S128x512_0_1 : (⟨S128x1, .i1⟩ : BufTy).Contents (Elt F) → (⟨S128x512, .i1⟩ : BufTy).Contents (Elt F)),
    binary main_v16 main_v17 main_v18 (ori : (⟨S128x512, .i1⟩ : BufTy).Contents (Elt F) → (⟨S128x512, .i1⟩ : BufTy).Contents (Elt F) → (⟨S128x512, .i1⟩ : BufTy).Contents (Elt F)),
    binary main_v11 main_v18 main_v19 (ori : (⟨S128x512, .i1⟩ : BufTy).Contents (Elt F) → (⟨S128x512, .i1⟩ : BufTy).Contents (Elt F) → (⟨S128x512, .i1⟩ : BufTy).Contents (Elt F)),
    binary main_v1 main_arg2 main_v20 ((fun l r => Host.dotGeneral dot_S2x128x16x64_S2x512x16x64_S2x16x128x512_3_3_1_1_02_02 none l r) : (⟨S2x128x16x64, .f32⟩ : BufTy).Contents (Elt F) → (⟨S2x512x16x64, .f32⟩ : BufTy).Contents (Elt F) → (⟨S2x16x128x512, .f32⟩ : BufTy).Contents (Elt F)),
    nullary main_cst (constant S_ .f32 0x3E000000#32),
    unary main_cst main_v21 (broadcastInDim S2x16x128x512 ![] bcast_S_S2x16x128x512 : (⟨S_, .f32⟩ : BufTy).Contents (Elt F) → (⟨S2x16x128x512, .f32⟩ : BufTy).Contents (Elt F)),
    binary main_v20 main_v21 main_v22 (mulf : (⟨S2x16x128x512, .f32⟩ : BufTy).Contents (Elt F) → (⟨S2x16x128x512, .f32⟩ : BufTy).Contents (Elt F) → (⟨S2x16x128x512, .f32⟩ : BufTy).Contents (Elt F)),
    unary main_v19 main_v23 (broadcastInDim S1x1x128x512 ![2, 3] bcast_S128x512_S1x1x128x512_2_3 : (⟨S128x512, .i1⟩ : BufTy).Contents (Elt F) → (⟨S1x1x128x512, .i1⟩ : BufTy).Contents (Elt F)),
    nullary main_cst_2 (constant S_ .f32 0xCE6E6B28#32),
    unary main_cst_2 main_call0_v0 (id : (⟨S_, .f32⟩ : BufTy).Contents (Elt F) → (⟨S_, .f32⟩ : BufTy).Contents (Elt F)),
    unary main_v23 main_call0_v1 (broadcastInDim S2x16x128x512 ![0, 1, 2, 3] bcast_S1x1x128x512_S2x16x128x512_0_1_2_3 : (⟨S1x1x128x512, .i1⟩ : BufTy).Contents (Elt F) → (⟨S2x16x128x512, .i1⟩ : BufTy).Contents (Elt F)),
    unary main_call0_v0 main_call0_v2 (broadcastInDim S2x16x128x512 ![] bcast_S_S2x16x128x512 : (⟨S_, .f32⟩ : BufTy).Contents (Elt F) → (⟨S2x16x128x512, .f32⟩ : BufTy).Contents (Elt F)),
    ternary main_call0_v1 main_v22 main_call0_v2 main_v24 (select : (⟨S2x16x128x512, .i1⟩ : BufTy).Contents (Elt F) → (⟨S2x16x128x512, .f32⟩ : BufTy).Contents (Elt F) → (⟨S2x16x128x512, .f32⟩ : BufTy).Contents (Elt F) → (⟨S2x16x128x512, .f32⟩ : BufTy).Contents (Elt F)),
    nullary main_cst_3 (constant S_ .f32 0xFF800000#32),
    binary main_v24 main_cst_3 main_v25 ((fun x v => Host.reduce FloatOps.maximumf x v reducesTo_S2x16x128x512_S2x16x128_d3 h_S_) : (⟨S2x16x128x512, .f32⟩ : BufTy).Contents (Elt F) → (⟨S_, .f32⟩ : BufTy).Contents (Elt F) → (⟨S2x16x128, .f32⟩ : BufTy).Contents (Elt F)),
    unary main_v25 main_v26 (broadcastInDim S2x16x128x1 ![0, 1, 2] bcast_S2x16x128_S2x16x128x1_0_1_2 : (⟨S2x16x128, .f32⟩ : BufTy).Contents (Elt F) → (⟨S2x16x128x1, .f32⟩ : BufTy).Contents (Elt F)),
    unary main_v26 main_v27 (broadcastInDim S2x16x128x512 ![0, 1, 2, 3] bcast_S2x16x128x1_S2x16x128x512_0_1_2_3 : (⟨S2x16x128x1, .f32⟩ : BufTy).Contents (Elt F) → (⟨S2x16x128x512, .f32⟩ : BufTy).Contents (Elt F)),
    binary main_v24 main_v27 main_v28 (subf : (⟨S2x16x128x512, .f32⟩ : BufTy).Contents (Elt F) → (⟨S2x16x128x512, .f32⟩ : BufTy).Contents (Elt F) → (⟨S2x16x128x512, .f32⟩ : BufTy).Contents (Elt F)),
    unary main_v28 main_v29 (Host.exp : (⟨S2x16x128x512, .f32⟩ : BufTy).Contents (Elt F) → (⟨S2x16x128x512, .f32⟩ : BufTy).Contents (Elt F)),
    nullary main_c_4 (constantI S_ 1 0#1),
    binary main_v19 main_c_4 main_v30 ((fun x v => Host.reduce IntOp.ori x v reducesTo_S128x512_S128_d1 h_S_) : (⟨S128x512, .i1⟩ : BufTy).Contents (Elt F) → (⟨S_, .i1⟩ : BufTy).Contents (Elt F) → (⟨S128, .i1⟩ : BufTy).Contents (Elt F)),
    unary main_v30 main_v31 (broadcastInDim S1x1x128x1 ![2] bcast_S128_S1x1x128x1_2 : (⟨S128, .i1⟩ : BufTy).Contents (Elt F) → (⟨S1x1x128x1, .i1⟩ : BufTy).Contents (Elt F)),
    nullary main_cst_5 (constant S_ .f32 0x00000000#32),
    binary main_v29 main_cst_5 main_v32 ((fun x v => Host.reduceAdd x v reducesTo_S2x16x128x512_S2x16x128_d3 h_S_) : (⟨S2x16x128x512, .f32⟩ : BufTy).Contents (Elt F) → (⟨S_, .f32⟩ : BufTy).Contents (Elt F) → (⟨S2x16x128, .f32⟩ : BufTy).Contents (Elt F)),
    unary main_v32 main_v33 (broadcastInDim S2x16x128x1 ![0, 1, 2] bcast_S2x16x128_S2x16x128x1_0_1_2 : (⟨S2x16x128, .f32⟩ : BufTy).Contents (Elt F) → (⟨S2x16x128x1, .f32⟩ : BufTy).Contents (Elt F)),
    nullary main_cst_6 (constant S_ .f32 0x3F800000#32),
    unary main_cst_6 main_call1_v0 (id : (⟨S_, .f32⟩ : BufTy).Contents (Elt F) → (⟨S_, .f32⟩ : BufTy).Contents (Elt F)),
    unary main_v31 main_call1_v1 (broadcastInDim S2x16x128x1 ![0, 1, 2, 3] bcast_S1x1x128x1_S2x16x128x1_0_1_2_3 : (⟨S1x1x128x1, .i1⟩ : BufTy).Contents (Elt F) → (⟨S2x16x128x1, .i1⟩ : BufTy).Contents (Elt F)),
    unary main_call1_v0 main_call1_v2 (broadcastInDim S2x16x128x1 ![] bcast_S_S2x16x128x1 : (⟨S_, .f32⟩ : BufTy).Contents (Elt F) → (⟨S2x16x128x1, .f32⟩ : BufTy).Contents (Elt F)),
    ternary main_call1_v1 main_v33 main_call1_v2 main_v34 (select : (⟨S2x16x128x1, .i1⟩ : BufTy).Contents (Elt F) → (⟨S2x16x128x1, .f32⟩ : BufTy).Contents (Elt F) → (⟨S2x16x128x1, .f32⟩ : BufTy).Contents (Elt F) → (⟨S2x16x128x1, .f32⟩ : BufTy).Contents (Elt F)),
    unary main_v34 main_v35 (broadcastInDim S2x16x128x512 ![0, 1, 2, 3] bcast_S2x16x128x1_S2x16x128x512_0_1_2_3 : (⟨S2x16x128x1, .f32⟩ : BufTy).Contents (Elt F) → (⟨S2x16x128x512, .f32⟩ : BufTy).Contents (Elt F)),
    binary main_v29 main_v35 main_v36 (Host.divf : (⟨S2x16x128x512, .f32⟩ : BufTy).Contents (Elt F) → (⟨S2x16x128x512, .f32⟩ : BufTy).Contents (Elt F) → (⟨S2x16x128x512, .f32⟩ : BufTy).Contents (Elt F)),
    unary main_v30 main_v37 (broadcastInDim S1x1x128x1 ![2] bcast_S128_S1x1x128x1_2 : (⟨S128, .i1⟩ : BufTy).Contents (Elt F) → (⟨S1x1x128x1, .i1⟩ : BufTy).Contents (Elt F)),
    nullary main_cst_7 (constant S_ .f32 0x00000000#32),
    unary main_cst_7 main_call2_v0 (id : (⟨S_, .f32⟩ : BufTy).Contents (Elt F) → (⟨S_, .f32⟩ : BufTy).Contents (Elt F)),
    unary main_v37 main_call2_v1 (broadcastInDim S2x16x128x512 ![0, 1, 2, 3] bcast_S1x1x128x1_S2x16x128x512_0_1_2_3 : (⟨S1x1x128x1, .i1⟩ : BufTy).Contents (Elt F) → (⟨S2x16x128x512, .i1⟩ : BufTy).Contents (Elt F)),
    unary main_call2_v0 main_call2_v2 (broadcastInDim S2x16x128x512 ![] bcast_S_S2x16x128x512 : (⟨S_, .f32⟩ : BufTy).Contents (Elt F) → (⟨S2x16x128x512, .f32⟩ : BufTy).Contents (Elt F)),
    ternary main_call2_v1 main_v36 main_call2_v2 main_v38 (select : (⟨S2x16x128x512, .i1⟩ : BufTy).Contents (Elt F) → (⟨S2x16x128x512, .f32⟩ : BufTy).Contents (Elt F) → (⟨S2x16x128x512, .f32⟩ : BufTy).Contents (Elt F) → (⟨S2x16x128x512, .f32⟩ : BufTy).Contents (Elt F)),
    binary main_arg3 main_v38 main_v39 ((fun l r => Host.dotGeneral dot_S2x512x16x64_S2x16x128x512_S2x16x64x128_1_3_3_2_02_01 none l r) : (⟨S2x512x16x64, .f32⟩ : BufTy).Contents (Elt F) → (⟨S2x16x128x512, .f32⟩ : BufTy).Contents (Elt F) → (⟨S2x16x64x128, .f32⟩ : BufTy).Contents (Elt F)),
    unary main_v39 main_v40 ((transpose S2x128x16x64 [0, 3, 1, 2] · transposes_S2x16x64x128_S2x128x16x64_0_3_1_2) : (⟨S2x16x64x128, .f32⟩ : BufTy).Contents (Elt F) → (⟨S2x128x16x64, .f32⟩ : BufTy).Contents (Elt F)),
    reshape main_v40 main_v41 (rfl : (.f32 : EltTy) = .f32) shapeCasts_S2x128x16x64_S2x128x1024,
    binary main_v41 main_arg4 main_v42 ((fun l r => Host.dotGeneral dot_S2x128x1024_S1024x512_S2x128x512_2_0_01_1_n_n none l r) : (⟨S2x128x1024, .f32⟩ : BufTy).Contents (Elt F) → (⟨S1024x512, .f32⟩ : BufTy).Contents (Elt F) → (⟨S2x128x512, .f32⟩ : BufTy).Contents (Elt F)) ]

theorem main_eq (c : Dev nD) : main (F := F) c = seq ops := by chain_rfl

variable (V : Valuation τ sig (Elt F))

theorem out_eq : after ops V (main_v42 : DevRef τ sig)
    = rout (V (main_arg0 : DevRef τ sig)) (V (main_arg1 : DevRef τ sig)) (V (main_arg2 : DevRef τ sig)) (V (main_arg3 : DevRef τ sig)) (V (main_arg4 : DevRef τ sig)) := by
  after_results_simp
  rfl
theorem arg0_eq : after ops V (main_arg0 : DevRef τ sig) = V (main_arg0 : DevRef τ sig) := by
  after_results_simp
theorem arg1_eq : after ops V (main_arg1 : DevRef τ sig) = V (main_arg1 : DevRef τ sig) := by
  after_results_simp
theorem arg2_eq : after ops V (main_arg2 : DevRef τ sig) = V (main_arg2 : DevRef τ sig) := by
  after_results_simp
theorem arg3_eq : after ops V (main_arg3 : DevRef τ sig) = V (main_arg3 : DevRef τ sig) := by
  after_results_simp
theorem arg4_eq : after ops V (main_arg4 : DevRef τ sig) = V (main_arg4 : DevRef τ sig) := by
  after_results_simp

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., reshape_bufs_sub .., nullary_bufs_sub .., unary_bufs_sub .., nullary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., nullary_bufs_sub .., binary_bufs_sub .., unary_bufs_sub .., nullary_bufs_sub .., unary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub .., binary_bufs_sub .., unary_bufs_sub .., reshape_bufs_sub .., binary_bufs_sub ..⟩

/-- Every execution ends with the result named above, the arguments unchanged and the counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v42)
          = rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run defs _ _).mono (fun r h => ⟨fun c => ⟨(h c main_v42).trans (out_eq _), (h c main_arg0).trans (arg0_eq _), (h c main_arg1).trans (arg1_eq _),
      (h c main_arg2).trans (arg2_eq _), (h c main_arg3).trans (arg3_eq _), (h c main_arg4).trans (arg4_eq _)⟩, sem_eq_zero_of_no_sems (by decide) r.2⟩)
    (run_seq scopedRefs_eq scopedSems_eq defs main (fun _ => ops) main_eq (fun _ => ops_sub) m ρ)

theorem frame : Cert.quiescent_ReferenceIdeal (hReferenceIdeal := Cert.ReferenceIdeal.Gen.facts) := fun m ρ _ =>
  (θ_run defs _ _).mono (fun r h => ⟨fun c => (h.1 c).2, h.2⟩) (run_main (F := Ideal) m ρ)

end Cert.ReferenceRun

end
-- ==== Proof.RefVals.lean ====
/-
# The reference's values

What the reference computes over the extended reals, entry by entry: the scores, the weights of a row of scores, and
the context as sums over the keys.
-/
module

public import proofs.«01_k».proof.Proof.Ref
public import Idealize.ShloMosaic.Lib.Pointwise

@[expose] public section

set_option maxRecDepth 16384

noncomputable section

namespace Cert.ReferenceRun

open Cert.ReferenceIdeal Cert.ReferenceIdeal.Gen
open Idealize.ShloMosaic Idealize.ShloMosaic.TcCoe

/-! ## The weights of a row of scores -/

/-- The maximum of a row of scores. -/
def maxOf (s : Fin 512 → EReal) : EReal := Finset.univ.fold max (Ideal.ofBits .f32 0xFF800000#32) s
/-- The weights: exponentials of the distances to the maximum, divided by their sum. -/
def wt (s : Fin 512 → EReal) (j : Fin 512) : EReal :=
  Ideal.div (Ideal.exp (s j - maxOf s)) (∑ l, Ideal.exp (s l - maxOf s))

theorem maxOf_perm (σ : Fin 512 ≃ Fin 512) (s : Fin 512 → EReal) : maxOf (fun j => s (σ j)) = maxOf s := by
  unfold maxOf
  conv_rhs => rw [← Finset.map_univ_equiv σ, Finset.fold_map]
  rfl

theorem wt_perm (σ : Fin 512 ≃ Fin 512) (s : Fin 512 → EReal) (j : Fin 512) : wt (fun j => s (σ j)) j = wt s (σ j) := by
  unfold wt
  rw [maxOf_perm, Equiv.sum_comp σ (fun l => Ideal.exp (s l - maxOf s))]

/-- Keys taken in another order give the same weighted sum. -/
theorem weighted_perm (σ : Fin 512 ≃ Fin 512) (s v : Fin 512 → EReal) :
    ∑ j, wt (fun j => s (σ j)) j * v (σ j) = ∑ j, v j * wt s j := by
  simp only [wt_perm]
  rw [Equiv.sum_comp σ (fun j => wt s j * v j)]
  exact Finset.sum_congr rfl fun j _ => mul_comm _ _

/-! ## The reference, entry by entry -/

variable (x : FVec Ideal S2x128x512 .f32) (wq : FVec Ideal S512x1024 .f32) (k v : FVec Ideal S2x512x16x64 .f32) (wo : FVec Ideal S1024x512 .f32)
variable (b : Fin 2) (h : Fin 16) (i : Fin 128) (j : Fin 512) (d : Fin 64)

theorem rq_apply : rq x wq (ix4 b i h d) = ∑ l : Fin 512, x (ix3 b i l) * wq (ix2 l ⟨h.val * 64 + d.val, by omega⟩) := by
  unfold rq
  pointwise

/-- The mask, from the words of a query's and a key's positions. -/
def maskBit (a b : BitVec 32) : BitVec 1 :=
  IntOp.ori (IntOp.cmpi .sle (IntOp.absi (IntOp.subi a b)) 128#32) (IntOp.ori (IntOp.cmpi .slt b 32#32) (IntOp.cmpi .slt a 32#32))

theorem maskBit_self (a : BitVec 32) : maskBit a a = 1#1 := by
  have e : IntOp.subi a a = 0#32 := BitVec.sub_self a
  unfold maskBit
  rw [e]
  generalize IntOp.ori (IntOp.cmpi .slt a 32#32) (IntOp.cmpi .slt a 32#32) = y
  revert y; decide

theorem rmask_apply : rmask (ix2 i j) = maskBit (BitVec.ofNat 32 i.val) (BitVec.ofNat 32 j.val) := by
  unfold rmask rowNo keyNo maskBit
  pointwise

theorem rscore_apply : rscore x wq k (ix4 b h i j)
    = Scalar.select (rmask (ix2 i j)) ((∑ l : Fin 64, rq x wq (ix4 b i h l) * k (ix4 b j h l)) * Ideal.ofBits .f32 0x3E000000#32)
      (Ideal.ofBits .f32 0xCE6E6B28#32) := by
  unfold rscore
  pointwise

/-- The scores of one query of one head. -/
def srow (j : Fin 512) : EReal := rscore x wq k (ix4 b h i j)

theorem rmax_apply : rmax x wq k (ix3 b h i) = maxOf (srow x wq k b h i) := by
  unfold rmax
  pointwise
  rfl

theorem rexp_apply : rexp x wq k (ix4 b h i j) = Ideal.exp (srow x wq k b h i j - maxOf (srow x wq k b h i)) := by
  rw [← rmax_apply]
  unfold rexp
  pointwise
  rfl

theorem fold_or {n : ℕ} (f : Fin n → BitVec 1) (j : Fin n) (h : f j = 1#1) : Finset.fold IntOp.ori (0#1) f Finset.univ = 1#1 := by
  rw [← Finset.insert_erase (Finset.mem_univ j), Finset.fold_insert (Finset.notMem_erase _ _), h]
  generalize Finset.fold IntOp.ori (0#1) f _ = y
  revert y; decide

/-- Every query sees the key at its own position. -/
theorem rkeep_apply : rkeep (ix1 i) = 1#1 := by
  unfold rkeep
  pointwise
  refine fold_or _ ⟨i.val, by omega⟩ ?_
  rw [rmask_apply]
  exact maskBit_self _

theorem rsum_apply : rsum x wq k (ix3 b h i) = ∑ l, Ideal.exp (srow x wq k b h i l - maxOf (srow x wq k b h i)) := by
  simp only [← rexp_apply]
  unfold rsum
  pointwise

theorem rden_apply : rden x wq k (ix4 b h i 0) = ∑ l, Ideal.exp (srow x wq k b h i l - maxOf (srow x wq k b h i)) := by
  rw [← rsum_apply]
  unfold rden
  pointwise
  rw [rkeep_apply]
  rfl

theorem rweight_apply : rweight x wq k (ix4 b h i j) = wt (srow x wq k b h i) j := by
  unfold wt
  rw [← rden_apply, ← rexp_apply]
  unfold rweight
  pointwise
  rw [rkeep_apply]
  generalize Ideal.div _ _ = y
  rfl

/-- The context, by head. -/
def ctxAt : EReal := ∑ l : Fin 512, v (ix4 b l h d) * wt (srow x wq k b h i) l

theorem rctx_apply (y : Fin 1024) : rctx x wq k v (ix3 b i y) = ctxAt x wq k v b ⟨y.val / 64, by omega⟩ i ⟨y.val % 64, by omega⟩ := by
  unfold ctxAt
  simp only [← rweight_apply]
  unfold rctx
  pointwise

theorem rout_apply (n : Fin 512) : rout x wq k v wo (ix3 b i n)
    = ∑ y : Fin 1024, ctxAt x wq k v b ⟨y.val / 64, by omega⟩ i ⟨y.val % 64, by omega⟩ * wo (ix2 y n) := by
  simp only [← rctx_apply]
  unfold rout
  pointwise

end Cert.ReferenceRun

end
-- ==== Proof.Heads.lean ====
/-
# The heads

Every head of the kernel is one function of its queries, the keys and the values it sees. Here is that function, what
it is over the extended reals, and the eight heads as its instances.
-/
module

public import proofs.«01_k».proof.Proof.Vals
public import proofs.«01_k».proof.Proof.RefVals
public import Idealize.ShloMosaic.Lib.Pointwise
public import Idealize.ShloMosaic.Lib.Pipeline.Regions

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The weights of a head from its masked scores. -/
def weightOf (s : FVec F S128x512 .f32) : FVec F S128x512 .f32 :=
  have e : FVec F S128x512 .f32 := exp (subf s (broadcastTo S128x512 (shapeCast S128x1 (multiReduction .maximumf [1] S128 s 0xFF800000#32 reduces_S128x512_S128 (.inl rfl) rfl) shapeCasts_S128_S128x1) broadcasts_S128x1_S128x512))
  divf e (broadcastTo S128x512 (shapeCast S128x1 (multiReduction .add [1] S128 e 0x00000000#32 reduces_S128x512_S128 (.inl rfl) rfl) shapeCasts_S128_S128x1) broadcasts_S128x1_S128x512)
/-- The masked scores of a head. -/
def scoreOf (m : IVec S128x512 1) (q : FVec F S128x64 .bf16) (k : FVec F S512x64 .bf16) : FVec F S128x512 .f32 :=
  select m (mulf (matmul dot_S128x64_S512x64_S128x512_1_1_0_0_n_n none q k (constant S128x512 .f32 0x00000000#32))
    (broadcast S128x512 (Scalar.ofBits .f32 0x3E000000#32 : F .f32))) (broadcast S128x512 (Scalar.ofBits .f32 0xCE6E6B28#32 : F .f32))
/-- A head. -/
def headOf (m : IVec S128x512 1) (q : FVec F S128x64 .bf16) (k v : FVec F S512x64 .bf16) : FVec F S128x64 .f32 :=
  matmul dot_S128x512_S512x64_S128x64_1_0_0_1_n_n none (truncf .bf16 (weightOf (scoreOf m q k)) bitsLt_bf16_f32) v (constant S128x64 .f32 0x00000000#32)
/-- Four tiles of 64 columns, one below the other. -/
def stack (a b c d : FVec F S128x64 .bf16) : FVec F S512x64 .bf16 :=
  concatenate S512x64 0 [⟨S128x64, a⟩, ⟨S128x64, b⟩, ⟨S128x64, c⟩, ⟨S128x64, d⟩] concatenates_S128x64_S128x64_S128x64_S128x64_S512x64_d0
/-! ## Over the extended reals -/

theorem weightOf_apply (s : FVec Ideal S128x512 .f32) (i : Fin 128) (j : Fin 512) : weightOf s (ix2 i j) = Cert.ReferenceRun.wt (fun l => s (ix2 i l)) j := by
  unfold weightOf Cert.ReferenceRun.wt Cert.ReferenceRun.maxOf
  pointwise

theorem scoreOf_apply (m : IVec S128x512 1) (q : FVec Ideal S128x64 .bf16) (k : FVec Ideal S512x64 .bf16) (i : Fin 128) (j : Fin 512) :
    scoreOf m q k (ix2 i j) = Scalar.select (m (ix2 i j)) ((∑ l : Fin 64, q (ix2 i l) * k (ix2 j l)) * Ideal.ofBits .f32 0x3E000000#32)
      (Ideal.ofBits .f32 0xCE6E6B28#32) := by
  unfold scoreOf
  pointwise

theorem headOf_apply (m : IVec S128x512 1) (q : FVec Ideal S128x64 .bf16) (k v : FVec Ideal S512x64 .bf16) (i : Fin 128) (d : Fin 64) :
    headOf m q k v (ix2 i d) = ∑ j : Fin 512, Cert.ReferenceRun.wt (fun l => scoreOf m q k (ix2 i l)) j * v (ix2 j d) := by
  simp only [← weightOf_apply]
  unfold headOf
  pointwise

/-! ## Tiles of what was gathered -/

/-- 64 columns of the tile at slot `s`, rows from `b`, columns from `p + e`. -/
def colT (f : S4x256x256.Idx → Elt F .bf16) (s b p e : ℕ) (hT : ∀ a, (![s, b, p] : Fin 3 → ℕ) a + S1x128x128.size a ≤ S4x256x256.size a)
    (hs : Shape.Slices S128x128 ![0, e] S128x64) : FVec F S128x64 .bf16 :=
  extractStridedSlice S128x64 ![0, e] (shapeCast S128x128 (ldT f s b p hT) shapeCasts_S1x128x128_S128x128 : FVec F S128x128 .bf16) hs

theorem colT_apply (f : S4x256x256.Idx → Elt F .bf16) (s b p e : ℕ) (hT) (hs) (i : Fin 128) (d : Fin 64) (h0 : s < 4) (h1 : b + 128 ≤ 256) (h2 : p + e + 64 ≤ 256) :
    colT f s b p e hT hs (ix2 i d) = f (ix3 ⟨s, h0⟩ ⟨b + i.val, by omega⟩ ⟨p + e + d.val, by omega⟩) := by
  unfold colT
  pointwise
  unfold ldT
  refine congrArg f (funext fun a => ?_)
  fin_cases a
  · exact Fin.ext (by show s + 1 * 0 = s; omega)
  · exact Fin.ext (by show b + 1 * i.val = b + i.val; omega)
  · exact Fin.ext (by show p + 1 * (e + d.val) = p + e + d.val; omega)

theorem stack_apply (f : Fin 4 → FVec F S128x64 .bf16) (j : Fin 512) (d : Fin 64) :
    stack (f 0) (f 1) (f 2) (f 3) (ix2 j d) = f ⟨j.val / 128, by omega⟩ (ix2 ⟨j.val % 128, by omega⟩ d) := by
  have key : ∀ (t : Fin 4) (r : Fin 128), t.val = j.val / 128 → r.val = j.val % 128 →
      f t (ix2 r d) = f ⟨j.val / 128, by omega⟩ (ix2 ⟨j.val % 128, by omega⟩ d) := fun t r ht hr => by
    rw [show t = ⟨j.val / 128, by omega⟩ from Fin.ext ht, show r = ⟨j.val % 128, by omega⟩ from Fin.ext hr]
  have h0 : (0 : Fin 4).val = 0 := rfl
  have h1 : (1 : Fin 4).val = 1 := rfl
  have h2 : (2 : Fin 4).val = 2 := rfl
  have h3 : (3 : Fin 4).val = 3 := rfl
  unfold stack
  pointwise
  split
  · exact key 0 _ (by rw [h0]; omega) (by show j.val = _; omega)
  · split
    · exact key 1 _ (by rw [h1]; omega) (by show j.val - 128 = _; omega)
    · split
      · exact key 2 _ (by rw [h2]; omega) (by show j.val - 128 - 128 = _; omega)
      · exact key 3 _ (by rw [h3]; omega) (by show j.val - 128 - 128 - 128 = _; omega)

/-! ## The kernel's heads -/

theorem inbT (b p : ℕ) (hb : b + 128 ≤ 256) (hp : p + 128 ≤ 256) (s : Fin 4) : ∀ a, (![s.val, b, p] : Fin 3 → ℕ) a + S1x128x128.size a ≤ S4x256x256.size a := by
  intro a
  fin_cases a
  · show s.val + 1 ≤ 4; omega
  · exact hb
  · exact hp

/-- The head whose queries are the 64 columns from `hl` of the rows from `b`, and whose keys and values are the columns
    from `p + e` of the rows from `b` of every slot. -/
def headAt (m : IVec S128x512 1) (q : FVec F S256x256 .bf16) (g w : S4x256x256.Idx → Elt F .bf16) (b hl p e : ℕ) (hb : b + 128 ≤ 256) (hp : p + 128 ≤ 256)
    (hq : Shape.Slices S256x256 ![b, hl] S128x64) (hs : Shape.Slices S128x128 ![0, e] S128x64) : FVec F S128x64 .f32 :=
  headOf m (extractStridedSlice S128x64 ![b, hl] q hq)
    (stack (colT g 0 b p e (inbT b p hb hp 0) hs) (colT g 1 b p e (inbT b p hb hp 1) hs) (colT g 2 b p e (inbT b p hb hp 2) hs) (colT g 3 b p e (inbT b p hb hp 3) hs))
    (stack (colT w 0 b p e (inbT b p hb hp 0) hs) (colT w 1 b p e (inbT b p hb hp 1) hs) (colT w 2 b p e (inbT b p hb hp 2) hs) (colT w 3 b p e (inbT b p hb hp 3) hs))

theorem stack_colT (f : S4x256x256.Idx → Elt F .bf16) (b p e : ℕ) (hb : b + 128 ≤ 256) (hp : p + 128 ≤ 256) (hs : Shape.Slices S128x128 ![0, e] S128x64)
    (j : Fin 512) (d : Fin 64) (h2 : p + e + 64 ≤ 256) :
    stack (colT f 0 b p e (inbT b p hb hp 0) hs) (colT f 1 b p e (inbT b p hb hp 1) hs) (colT f 2 b p e (inbT b p hb hp 2) hs) (colT f 3 b p e (inbT b p hb hp 3) hs) (ix2 j d)
      = f (ix3 ⟨j.val / 128, by omega⟩ ⟨b + j.val % 128, by omega⟩ ⟨p + e + d.val, by omega⟩) :=
  (stack_apply (fun t : Fin 4 => colT f t.val b p e (inbT b p hb hp t) hs) j d).trans (colT_apply f _ b p e _ hs _ d (by show j.val / 128 < 4; omega) hb h2)

theorem headAt_apply (m : IVec S128x512 1) (q : FVec Ideal S256x256 .bf16) (g w : S4x256x256.Idx → Elt Ideal .bf16) (b hl p e : ℕ) (hb) (hp) (hq) (hs)
    (hl' : hl + 64 ≤ 256) (hpe : p + e + 64 ≤ 256) (i : Fin 128) (d : Fin 64) :
    headAt m q g w b hl p e hb hp hq hs (ix2 i d) = ∑ j : Fin 512, Cert.ReferenceRun.wt (fun l => Scalar.select (m (ix2 i l))
      ((∑ y : Fin 64, (q (ix2 ⟨b + i.val, by omega⟩ ⟨hl + y.val, by omega⟩) : EReal) * g (ix3 ⟨l.val / 128, by omega⟩ ⟨b + l.val % 128, by omega⟩ ⟨p + e + y.val, by omega⟩)) * Ideal.ofBits .f32 0x3E000000#32)
      (Ideal.ofBits .f32 0xCE6E6B28#32)) j * w (ix3 ⟨j.val / 128, by omega⟩ ⟨b + j.val % 128, by omega⟩ ⟨p + e + d.val, by omega⟩) := by
  have hx : ∀ y : Fin 64, extractStridedSlice S128x64 ![b, hl] q hq (ix2 i y) = q (ix2 ⟨b + i.val, by omega⟩ ⟨hl + y.val, by omega⟩) := fun y => by pointwise
  unfold headAt
  rw [headOf_apply]
  simp only [scoreOf_apply, hx, stack_colT (F := Ideal) g b p e hb hp hs _ _ hpe, stack_colT (F := Ideal) w b p e hb hp hs _ _ hpe]

section Instances
variable (q : FVec F S256x256 .bf16) (m : IVec S128x512 1) (g w : S4x256x256.Idx → Elt F .bf16) (wo : S256x512.Idx → Elt F .f32)

/-- Four heads, one beside the other. -/
def beside (a b c d : FVec F S128x64 .f32) : FVec F S128x256 .f32 :=
  concatenate S128x256 1 [⟨S128x64, a⟩, ⟨S128x64, b⟩, ⟨S128x64, c⟩, ⟨S128x64, d⟩] concatenates_S128x64_S128x64_S128x64_S128x64_S128x256_d1
theorem h0_eq : h0 q m g w = headAt m q g w 0 0 0 0 (by decide) (by decide) slices_S256x256_o0_0_S128x64 slices_S128x128_o0_0_S128x64 := by chain_rfl
theorem h1_eq : h1 q m g w = headAt m q g w 0 64 0 64 (by decide) (by decide) slices_S256x256_o0_64_S128x64 slices_S128x128_o0_64_S128x64 := by chain_rfl
theorem h4_eq : h4 q m g w = headAt m q g w 128 0 0 0 (by decide) (by decide) slices_S256x256_o128_0_S128x64 slices_S128x128_o0_0_S128x64 := by chain_rfl
theorem h5_eq : h5 q m g w = headAt m q g w 128 64 0 64 (by decide) (by decide) slices_S256x256_o128_64_S128x64 slices_S128x128_o0_64_S128x64 := by chain_rfl
theorem h6_eq : h6 q m g w = headAt m q g w 128 128 128 0 (by decide) (by decide) slices_S256x256_o128_128_S128x64 slices_S128x128_o0_0_S128x64 := by chain_rfl
theorem ctx0_eq : ctx0 q m g w = beside (h0 q m g w) (h1 q m g w) (headAt m q g w 0 128 128 0 (by decide) (by decide) slices_S256x256_o0_128_S128x64 slices_S128x128_o0_0_S128x64) (headAt m q g w 0 192 128 64 (by decide) (by decide) slices_S256x256_o0_192_S128x64 slices_S128x128_o0_64_S128x64) := by chain_rfl
theorem row0_heads : row0 q m g w wo = k0_pay38 (beside (headAt m q g w 0 0 0 0 (by decide) (by decide) slices_S256x256_o0_0_S128x64 slices_S128x128_o0_0_S128x64) (headAt m q g w 0 64 0 64 (by decide) (by decide) slices_S256x256_o0_64_S128x64 slices_S128x128_o0_64_S128x64) (headAt m q g w 0 128 128 0 (by decide) (by decide) slices_S256x256_o0_128_S128x64 slices_S128x128_o0_0_S128x64) (headAt m q g w 0 192 128 64 (by decide) (by decide) slices_S256x256_o0_192_S128x64 slices_S128x128_o0_64_S128x64)) (ldO wo) := by
  unfold row0
  rw [ctx0_eq, h0_eq, h1_eq]
theorem row1_beside : row1 q m g w wo = k0_pay38 (beside (h4 q m g w) (h5 q m g w) (h6 q m g w) (headAt m q g w 128 192 128 64 (by decide) (by decide) slices_S256x256_o128_192_S128x64 slices_S128x128_o0_64_S128x64)) (ldO wo) := by chain_rfl
theorem row1_heads : row1 q m g w wo = k0_pay38 (beside (headAt m q g w 128 0 0 0 (by decide) (by decide) slices_S256x256_o128_0_S128x64 slices_S128x128_o0_0_S128x64) (headAt m q g w 128 64 0 64 (by decide) (by decide) slices_S256x256_o128_64_S128x64 slices_S128x128_o0_64_S128x64) (headAt m q g w 128 128 128 0 (by decide) (by decide) slices_S256x256_o128_128_S128x64 slices_S128x128_o0_0_S128x64) (headAt m q g w 128 192 128 64 (by decide) (by decide) slices_S256x256_o128_192_S128x64 slices_S128x128_o0_64_S128x64)) (ldO wo) := by
  rw [row1_beside, h4_eq, h5_eq, h6_eq]
end Instances

end Cert.KernelIdealRun

end
-- ==== Proof.Mask.lean ====
/-
# The mask

The keys arrive rotated: the tile at slot `t` of device `c` is the one device `c + t` converted. The kernel's mask is
the reference's with its columns rotated the same way.
-/
module

public import proofs.«01_k».proof.Proof.Heads
public import Idealize.ShloMosaic.Lib.Pointwise

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The position of the key in column `j` of device `c`. -/
def keyOf (c : Dev nD) : Fin 512 ≃ Fin 512 where
  toFun j := ⟨(j.val + 128 * c.val) % 512, by omega⟩
  invFun j := ⟨(j.val + (512 - 128 * c.val)) % 512, by omega⟩
  left_inv j := by have : c.val < 4 := c.isLt; exact Fin.ext (by show ((j.val + 128 * c.val) % 512 + (512 - 128 * c.val)) % 512 = j.val; omega)
  right_inv j := by have : c.val < 4 := c.isLt; exact Fin.ext (by show ((j.val + (512 - 128 * c.val)) % 512 + 128 * c.val) % 512 = j.val; omega)

theorem keyOf_turn (c : Dev nD) (j : Fin 512) : (turn c (j.val / 128)).val * 128 + j.val % 128 = (keyOf c j).val := by
  have : c.val < 4 := c.isLt
  show (c.val + j.val / 128) % 4 * 128 + j.val % 128 = (j.val + 128 * c.val) % 512
  omega

theorem ori_swap (a b c : BitVec 1) : IntOp.ori (IntOp.ori a b) c = IntOp.ori a (IntOp.ori b c) := BitVec.or_assoc a b c

/-- The word of a slot's first key. -/
theorem slotWord (c : Dev nD) (t : Fin 4) : Scalar.muli 128#32 (Scalar.remsi (Scalar.addi (Scalar.remsi (Scalar.divsi (Dev.word c) 1#32) 4#32) (BitVec.ofNat 32 t.val)) 4#32)
    = BitVec.ofNat 32 (128 * (turn c t.val).val) := by
  revert c t; decide

theorem keyWord (c : Dev nD) (j : Fin 512) (t : Fin 4) (w : BitVec 32) (hw : w = BitVec.ofNat 32 t.val) (r : ℕ) (h : j.val = 128 * t.val + r) (hr : r < 128) :
    IntOp.addi (BitVec.ofNat 32 r) (Scalar.muli 128#32 (Scalar.remsi (Scalar.addi (Scalar.remsi (Scalar.divsi (Dev.word c) 1#32) 4#32) w) 4#32))
      = BitVec.ofNat 32 (keyOf c j).val := by
  subst hw
  rw [slotWord, ← keyOf_turn, show j.val / 128 = t.val by omega, show j.val % 128 = r by omega]
  refine (BitVec.ofNat_add r (128 * (turn c t.val).val)).symm.trans (congrArg _ ?_)
  omega

theorem maskV_apply (c : Dev nD) (i : Fin 128) (j : Fin 512) : maskV c (ix2 i j) = Cert.ReferenceRun.rmask (ix2 i (keyOf c j)) := by
  rw [Cert.ReferenceRun.rmask_apply]
  unfold maskV k0_pay9 Cert.ReferenceRun.maskBit
  pointwise
  rw [ori_swap]
  by_cases h0 : j.val < 128
  · rw [dif_pos h0, keyWord c j 0 0#32 rfl _ (by show j.val = 128 * 0 + _; omega) h0]
  · rw [dif_neg h0]
    by_cases h1 : j.val - 128 < 128
    · rw [dif_pos h1, keyWord c j 1 1#32 rfl _ (by show j.val = 128 * 1 + _; omega) h1]
    · rw [dif_neg h1]
      by_cases h2 : j.val - 128 - 128 < 128
      · rw [dif_pos h2, keyWord c j 2 2#32 rfl _ (by show j.val = 128 * 2 + _; omega) h2]
      · rw [dif_neg h2, keyWord c j 3 3#32 rfl _ (by show j.val = 128 * 3 + _; omega) (by omega)]

end Cert.KernelIdealRun

end
-- ==== Proof.Value.lean ====
/-
# The kernel's value is the reference's

With every device given its block of the whole arrays, each head of each device is the reference's head, each output
part the reference's sum over that device's heads, and the sum of the four parts the reference's result.
-/
module

public import proofs.«01_k».proof.Proof.Mask
public import Idealize.ShloMosaic.Lib.Pointwise

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.ReferenceIdeal (S512x1024 S2x512x16x64 S1024x512)
open Cert.ReferenceRun (rq rscore rout srow ctxAt rq_apply rscore_apply rout_apply weighted_perm)

/-- The devices hold blocks of whole arrays: all of the activations, a quarter of the columns of the query weights, a
    quarter of the keys and values, a quarter of the rows of the output weights. -/
structure Agree (I : Ins Ideal) (X : FVec Ideal S2x128x512 .f32) (WQ : FVec Ideal S512x1024 .f32) (K V : FVec Ideal S2x512x16x64 .f32)
    (WO : FVec Ideal S1024x512 .f32) : Prop where
  x : ∀ c, I.x c = X
  wq : ∀ (c : Dev nD) (l : Fin 512) (y : Fin 256) (z : Fin 1024), z.val = 256 * c.val + y.val → I.wq c (ix2 l y) = WQ (ix2 l z)
  k : ∀ (c : Dev nD) (r : Fin 256) (y : Fin 1024) (b : Fin 2) (j : Fin 512) (h : Fin 16) (d : Fin 64) (t : ℕ), t < 128 → r.val = 128 * b.val + t →
    j.val = 128 * c.val + t → y.val = 64 * h.val + d.val → I.k c (ix2 r y) = K (ix4 b j h d)
  v : ∀ (c : Dev nD) (r : Fin 256) (y : Fin 1024) (b : Fin 2) (j : Fin 512) (h : Fin 16) (d : Fin 64) (t : ℕ), t < 128 → r.val = 128 * b.val + t →
    j.val = 128 * c.val + t → y.val = 64 * h.val + d.val → I.v c (ix2 r y) = V (ix4 b j h d)
  wo : ∀ (c : Dev nD) (y : Fin 256) (z : Fin 1024) (n : Fin 512), z.val = 256 * c.val + y.val → I.wo c (ix2 y n) = WO (ix2 z n)

/-! ## Whole loads -/

theorem ldX_self {α : Type} (f : S2x128x512.Idx → α) : ldX f = f := by
  funext i
  refine congrArg f (funext fun a => Fin.ext ?_)
  fin_cases a
  · show 0 + 1 * (i 0).val = (i 0).val; omega
  · show 0 + 1 * (i 1).val = (i 1).val; omega
  · show 0 + 1 * (i 2).val = (i 2).val; omega
theorem ldQ_self {α : Type} (f : S512x256.Idx → α) : ldQ f = f := by
  funext i
  refine congrArg f (funext fun a => Fin.ext ?_)
  fin_cases a
  · show 0 + 1 * (i 0).val = (i 0).val; omega
  · show 0 + 1 * (i 1).val = (i 1).val; omega
theorem ldO_self {α : Type} (f : S256x512.Idx → α) : ldO f = f := by
  funext i
  refine congrArg f (funext fun a => Fin.ext ?_)
  fin_cases a
  · show 0 + 1 * (i 0).val = (i 0).val; omega
  · show 0 + 1 * (i 1).val = (i 1).val; omega

theorem qV_apply (x : FVec Ideal S2x128x512 .f32) (w : FVec Ideal S512x256 .f32) (r : Fin 256) (y : Fin 256) (b : Fin 2) (i : Fin 128) (h : r.val = 128 * b.val + i.val) :
    qV (F := Ideal) x w (ix2 r y) = ∑ l : Fin 512, x (ix3 b i l) * w (ix2 l y) := by
  unfold qV
  rw [ldX_self, ldQ_self]
  unfold k0_pay6 k0_pay7 k0_pay8
  pointwise
  have e : ∀ (b' : Fin 2) (i' : Fin 128) (l : Fin 512), b' = b → i' = i → x (ix3 b' i' l) = x (ix3 b i l) := by
    rintro _ _ l rfl rfl
    rfl
  refine Finset.sum_congr rfl fun l _ => congrArg (fun z => z * w (ix2 l y)) (e _ _ l (Fin.ext ?_) (Fin.ext ?_))
  · show r.val / 128 = b.val
    omega
  · show r.val % 128 = i.val
    omega

theorem pay38_apply (a : FVec Ideal S128x256 .f32) (w : FVec Ideal S256x512 .f32) (i : Fin 128) (n : Fin 512) :
    k0_pay38 (F := Ideal) a w (ix3 0 i n) = ∑ y : Fin 256, a (ix2 i y) * w (ix2 y n) := by
  unfold k0_pay38
  pointwise

theorem beside_apply (f : Fin 4 → FVec F S128x64 .f32) (i : Fin 128) (y : Fin 256) :
    beside (f 0) (f 1) (f 2) (f 3) (ix2 i y) = f ⟨y.val / 64, by omega⟩ (ix2 i ⟨y.val % 64, by omega⟩) := by
  have key : ∀ (t : Fin 4) (r : Fin 64), t.val = y.val / 64 → r.val = y.val % 64 →
      f t (ix2 i r) = f ⟨y.val / 64, by omega⟩ (ix2 i ⟨y.val % 64, by omega⟩) := fun t r ht hr => by
    rw [show t = ⟨y.val / 64, by omega⟩ from Fin.ext ht, show r = ⟨y.val % 64, by omega⟩ from Fin.ext hr]
  have h0 : (0 : Fin 4).val = 0 := rfl
  have h1 : (1 : Fin 4).val = 1 := rfl
  have h2 : (2 : Fin 4).val = 2 := rfl
  have h3 : (3 : Fin 4).val = 3 := rfl
  unfold beside
  pointwise
  split
  · exact key 0 _ (by rw [h0]; omega) (by show y.val = _; omega)
  · split
    · exact key 1 _ (by rw [h1]; omega) (by show y.val - 64 = _; omega)
    · split
      · exact key 2 _ (by rw [h2]; omega) (by show y.val - 64 - 64 = _; omega)
      · exact key 3 _ (by rw [h3]; omega) (by show y.val - 64 - 64 - 64 = _; omega)

theorem pay66_apply (a : FVec Ideal S1x128x512 .bf16) (u v w : FVec Ideal S1x1x128x512 .bf16) (i : Fin 128) (n : Fin 512) :
    k0_pay66 (F := Ideal) a u v w (ix3 0 i n) = ((a (ix3 0 i n) + u (ix4 0 0 i n)) + v (ix4 0 0 i n)) + w (ix4 0 0 i n) := by
  unfold k0_pay66
  pointwise
theorem pay68_apply (a : FVec Ideal S1x128x512 .bf16) (u v w : FVec Ideal S1x1x128x512 .bf16) (i : Fin 128) (n : Fin 512) :
    k0_pay1 (F := Ideal) (k0_pay68 (k0_pay67 a u) v w) (ix3 0 i n) = ((a (ix3 0 i n) + u (ix4 0 0 i n)) + v (ix4 0 0 i n)) + w (ix4 0 0 i n) := by
  unfold k0_pay1 k0_pay68 k0_pay67
  pointwise

/-! ## Each device -/

variable {I : Ins Ideal} {X : FVec Ideal S2x128x512 .f32} {WQ : FVec Ideal S512x1024 .f32} {K V : FVec Ideal S2x512x16x64 .f32} {WO : FVec Ideal S1024x512 .f32}

theorem Agree.q (A : Agree I X WQ K V WO) (c : Dev nD) (r y : Fin 256) (b : Fin 2) (i : Fin 128) (h : Fin 16) (d : Fin 64) (hr : r.val = 128 * b.val + i.val)
    (hy : 256 * c.val + y.val = 64 * h.val + d.val) : qI I c (ix2 r y) = rq X WQ (ix4 b i h d) := by
  unfold qI
  rw [qV_apply _ _ r y b i hr, rq_apply]
  refine Finset.sum_congr rfl fun l _ => ?_
  rw [A.x, A.wq c l y ⟨h.val * 64 + d.val, by omega⟩ (by show h.val * 64 + d.val = _; omega)]

theorem Agree.g (A : Agree I X WQ K V WO) (c : Dev nD) (s : Fin 4) (r y : Fin 256) (b : Fin 2) (j : Fin 512) (h : Fin 16) (d : Fin 64) (hs : s.val = j.val / 128)
    (hr : r.val = 128 * b.val + j.val % 128) (hy : 256 * c.val + y.val = 64 * h.val + d.val) : gI I c (ix3 s r y) = K (ix4 b (keyOf c j) h d) := by
  have hk := keyOf_turn c j
  rw [← hs] at hk
  exact A.k (turn c s.val) r ⟨256 * c.val + y.val, by have : c.val < 4 := c.isLt; omega⟩ b (keyOf c j) h d (j.val % 128) (by omega) hr (by omega) hy

theorem Agree.w (A : Agree I X WQ K V WO) (c : Dev nD) (s : Fin 4) (r y : Fin 256) (b : Fin 2) (j : Fin 512) (h : Fin 16) (d : Fin 64) (hs : s.val = j.val / 128)
    (hr : r.val = 128 * b.val + j.val % 128) (hy : 256 * c.val + y.val = 64 * h.val + d.val) : wI I c (ix3 s r y) = V (ix4 b (keyOf c j) h d) := by
  have hk := keyOf_turn c j
  rw [← hs] at hk
  exact A.v (turn c s.val) r ⟨256 * c.val + y.val, by have : c.val < 4 := c.isLt; omega⟩ b (keyOf c j) h d (j.val % 128) (by omega) hr (by omega) hy

/-- A head of a device is the reference's. -/
theorem Agree.head (A : Agree I X WQ K V WO) (c : Dev nD) (bn hn p e : ℕ) (hb) (hp) (hq) (hs) (b : Fin 2) (h : Fin 16) (hbn : bn = 128 * b.val)
    (hl : hn + 64 ≤ 256) (hhn : 256 * c.val + hn = 64 * h.val) (hpe : p + e = hn) (i : Fin 128) (d : Fin 64) :
    headAt (maskV c) (qI I c) (gI I c) (wI I c) bn hn p e hb hp hq hs (ix2 i d) = ctxAt X WQ K V b h i d := by
  rw [headAt_apply _ _ _ _ bn hn p e hb hp hq hs hl (by omega)]
  unfold ctxAt
  rw [← weighted_perm (keyOf c)]
  have hsc : ∀ l : Fin 512, srow X WQ K b h i (keyOf c l) = Scalar.select (maskV c (ix2 i l))
      ((∑ y : Fin 64, (qI I c (ix2 ⟨bn + i.val, by omega⟩ ⟨hn + y.val, by omega⟩) : EReal) * gI I c (ix3 ⟨l.val / 128, by omega⟩ ⟨bn + l.val % 128, by omega⟩ ⟨p + e + y.val, by omega⟩)) * Ideal.ofBits .f32 0x3E000000#32)
      (Ideal.ofBits .f32 0xCE6E6B28#32) := fun l => by
    unfold srow
    rw [rscore_apply, maskV_apply]
    refine congrArg (fun z => Scalar.select _ (z * _) _) (Finset.sum_congr rfl fun y _ => ?_)
    rw [A.q c ⟨bn + i.val, by omega⟩ ⟨hn + y.val, by omega⟩ b i h y (by show bn + i.val = _; omega) (by show 256 * c.val + (hn + y.val) = _; omega),
      A.g c ⟨l.val / 128, by omega⟩ ⟨bn + l.val % 128, by omega⟩ ⟨p + e + y.val, by omega⟩ b l h y rfl (by show bn + l.val % 128 = _; omega) (by show 256 * c.val + (p + e + y.val) = _; omega)]
  simp only [← hsc]
  refine Finset.sum_congr rfl fun j _ => ?_
  rw [A.w c ⟨j.val / 128, by omega⟩ ⟨bn + j.val % 128, by omega⟩ ⟨p + e + d.val, by omega⟩ b j h d rfl (by show bn + j.val % 128 = _; omega) (by show 256 * c.val + (p + e + d.val) = _; omega)]

/-- Column `y` of device `c`'s heads, among all. -/
def at4 (c : Fin 4) (y : Fin 256) : Fin 1024 := ⟨256 * c.val + y.val, by omega⟩
/-- One term of the reference's result. -/
def term (X : FVec Ideal S2x128x512 .f32) (WQ : FVec Ideal S512x1024 .f32) (K V : FVec Ideal S2x512x16x64 .f32) (WO : FVec Ideal S1024x512 .f32)
    (b : Fin 2) (i : Fin 128) (n : Fin 512) (z : Fin 1024) : EReal :=
  ctxAt X WQ K V b ⟨z.val / 64, by omega⟩ i ⟨z.val % 64, by omega⟩ * WO (ix2 z n)

/-- Four heads side by side, times the output weights. -/
theorem Agree.rows (A : Agree I X WQ K V WO) (c : Dev nD) (b : Fin 2) (f : Fin 4 → FVec Ideal S128x64 .f32)
    (hf : ∀ (t : Fin 4) (i : Fin 128) (d : Fin 64) (h : Fin 16), h.val = 4 * c.val + t.val → f t (ix2 i d) = ctxAt X WQ K V b h i d) (i : Fin 128) (n : Fin 512) :
    k0_pay38 (beside (f 0) (f 1) (f 2) (f 3)) (ldO (I.wo c)) (ix3 0 i n) = ∑ y : Fin 256, term X WQ K V WO b i n (at4 c y) := by
  have hc : c.val < 4 := c.isLt
  rw [pay38_apply, ldO_self]
  refine Finset.sum_congr rfl fun y _ => ?_
  have ey : (at4 c y).val = 256 * c.val + y.val := rfl
  rw [beside_apply, hf ⟨y.val / 64, by omega⟩ i ⟨y.val % 64, by omega⟩ ⟨(at4 c y).val / 64, by omega⟩ (by show (256 * c.val + y.val) / 64 = 4 * c.val + y.val / 64; omega),
    A.wo c y (at4 c y) n rfl]
  unfold term
  refine congrArg (fun z => ctxAt X WQ K V b _ i z * _) (Fin.ext ?_)
  show y.val % 64 = (256 * c.val + y.val) % 64
  omega

theorem Agree.row0 (A : Agree I X WQ K V WO) (c : Dev nD) (i : Fin 128) (n : Fin 512) :
    Cert.KernelIdealRun.row0 (qI I c) (maskV c) (gI I c) (wI I c) (I.wo c) (ix3 0 i n) = ∑ y : Fin 256, term X WQ K V WO 0 i n (at4 c y) := by
  rw [row0_heads]
  refine A.rows c 0 (fun t : Fin 4 => match t with
    | 0 => headAt (maskV c) (qI I c) (gI I c) (wI I c) 0 0 0 0 (by decide) (by decide) slices_S256x256_o0_0_S128x64 slices_S128x128_o0_0_S128x64
    | 1 => headAt (maskV c) (qI I c) (gI I c) (wI I c) 0 64 0 64 (by decide) (by decide) slices_S256x256_o0_64_S128x64 slices_S128x128_o0_64_S128x64
    | 2 => headAt (maskV c) (qI I c) (gI I c) (wI I c) 0 128 128 0 (by decide) (by decide) slices_S256x256_o0_128_S128x64 slices_S128x128_o0_0_S128x64
    | 3 => headAt (maskV c) (qI I c) (gI I c) (wI I c) 0 192 128 64 (by decide) (by decide) slices_S256x256_o0_192_S128x64 slices_S128x128_o0_64_S128x64) (fun t i d h hh => ?_) i n
  fin_cases t
  · exact A.head c 0 0 0 0 _ _ _ _ 0 h rfl (by decide) (by have : h.val = 4 * c.val + 0 := hh; omega) rfl i d
  · exact A.head c 0 64 0 64 _ _ _ _ 0 h rfl (by decide) (by have : h.val = 4 * c.val + 1 := hh; omega) rfl i d
  · exact A.head c 0 128 128 0 _ _ _ _ 0 h rfl (by decide) (by have : h.val = 4 * c.val + 2 := hh; omega) rfl i d
  · exact A.head c 0 192 128 64 _ _ _ _ 0 h rfl (by decide) (by have : h.val = 4 * c.val + 3 := hh; omega) rfl i d

theorem Agree.row1 (A : Agree I X WQ K V WO) (c : Dev nD) (i : Fin 128) (n : Fin 512) :
    Cert.KernelIdealRun.row1 (qI I c) (maskV c) (gI I c) (wI I c) (I.wo c) (ix3 0 i n) = ∑ y : Fin 256, term X WQ K V WO 1 i n (at4 c y) := by
  rw [row1_heads]
  refine A.rows c 1 (fun t : Fin 4 => match t with
    | 0 => headAt (maskV c) (qI I c) (gI I c) (wI I c) 128 0 0 0 (by decide) (by decide) slices_S256x256_o128_0_S128x64 slices_S128x128_o0_0_S128x64
    | 1 => headAt (maskV c) (qI I c) (gI I c) (wI I c) 128 64 0 64 (by decide) (by decide) slices_S256x256_o128_64_S128x64 slices_S128x128_o0_64_S128x64
    | 2 => headAt (maskV c) (qI I c) (gI I c) (wI I c) 128 128 128 0 (by decide) (by decide) slices_S256x256_o128_128_S128x64 slices_S128x128_o0_0_S128x64
    | 3 => headAt (maskV c) (qI I c) (gI I c) (wI I c) 128 192 128 64 (by decide) (by decide) slices_S256x256_o128_192_S128x64 slices_S128x128_o0_64_S128x64) (fun t i d h hh => ?_) i n
  fin_cases t
  · exact A.head c 128 0 0 0 _ _ _ _ 1 h rfl (by decide) (by have : h.val = 4 * c.val + 0 := hh; omega) rfl i d
  · exact A.head c 128 64 0 64 _ _ _ _ 1 h rfl (by decide) (by have : h.val = 4 * c.val + 1 := hh; omega) rfl i d
  · exact A.head c 128 128 128 0 _ _ _ _ 1 h rfl (by decide) (by have : h.val = 4 * c.val + 2 := hh; omega) rfl i d
  · exact A.head c 128 192 128 64 _ _ _ _ 1 h rfl (by decide) (by have : h.val = 4 * c.val + 3 := hh; omega) rfl i d

theorem Agree.part (A : Agree I X WQ K V WO) (c : Dev nD) (b : Fin 2) (i : Fin 128) (n : Fin 512) :
    partF I c (ix3 b i n) = ∑ y : Fin 256, term X WQ K V WO b i n (at4 c y) := by
  fin_cases b
  · exact A.row0 c i n
  · exact A.row1 c i n

/-! ## The sum of the parts -/

theorem sum_at4 (f : Fin 1024 → EReal) : ∑ c : Fin 4, ∑ y : Fin 256, f (at4 c y) = ∑ z : Fin 1024, f z := by
  have e : ∑ c : Fin 4, ∑ y : Fin 256, f (at4 c y) = ∑ p : Fin 4 × Fin 256, f (finProdFinEquiv p) := by
    rw [Fintype.sum_prod_type]
    refine Finset.sum_congr rfl fun c _ => Finset.sum_congr rfl fun y _ => congrArg f (Fin.ext ?_)
    show 256 * c.val + y.val = y.val + 256 * c.val
    omega
  rw [e]
  exact Equiv.sum_comp (finProdFinEquiv (m := 4) (n := 256)) (f : Fin (4 * 256) → EReal)

theorem sum_turn (c : Dev nD) (g : Fin 4 → EReal) : ((g c + g (turn c 1)) + g (turn c 2)) + g (turn c 3) = ∑ t : Fin 4, g t := by
  rw [Fin.sum_univ_four]
  fin_cases c
  · rfl
  · show ((g 1 + g 2) + g 3) + g 0 = _
    ac_rfl
  · show ((g 2 + g 3) + g 0) + g 1 = _
    ac_rfl
  · show ((g 3 + g 0) + g 1) + g 2 = _
    ac_rfl

theorem ldP_apply {α : Type} (f : S2x128x512.Idx → α) (b : ℕ) (h) (hb : b < 2) (i : Fin 128) (n : Fin 512) : ldP f b h (ix3 0 i n) = f (ix3 ⟨b, hb⟩ i n) := by
  refine congrArg f (funext fun a => Fin.ext ?_)
  fin_cases a
  · show b + 1 * 0 = b; omega
  · show 0 + 1 * i.val = i.val; omega
  · show 0 + 1 * n.val = n.val; omega
theorem ldA_apply {α : Type} (f : S3x2x128x512.Idx → α) (s b : ℕ) (h) (hs : s < 3) (hb : b < 2) (i : Fin 128) (n : Fin 512) :
    ldA f s b h (ix4 0 0 i n) = f (ix4 ⟨s, hs⟩ ⟨b, hb⟩ i n) := by
  refine congrArg f (funext fun a => Fin.ext ?_)
  fin_cases a
  · show s + 1 * 0 = s; omega
  · show b + 1 * 0 = b; omega
  · show 0 + 1 * i.val = i.val; omega
  · show 0 + 1 * n.val = n.val; omega

theorem Agree.sum (A : Agree I X WQ K V WO) (c : Dev nD) (b : Fin 2) (i : Fin 128) (n : Fin 512) :
    ((partF I c (ix3 b i n) + accOf (partF I) c (ix4 0 b i n)) + accOf (partF I) c (ix4 1 b i n)) + accOf (partF I) c (ix4 2 b i n) = (rout X WQ K V WO (ix3 b i n) : EReal) := by
  refine (sum_turn c fun t => partF I t (ix3 b i n)).trans ?_
  rw [rout_apply]
  refine Eq.trans ?_ (sum_at4 fun z => term X WQ K V WO b i n z)
  exact Finset.sum_congr rfl fun t _ => A.part t b i n

theorem Agree.out (A : Agree I X WQ K V WO) (c : Dev nD) : outF I c = rout X WQ K V WO := by
  have key : ∀ (b : Fin 2) (i : Fin 128) (n : Fin 512), outF I c (ix3 b i n) = rout X WQ K V WO (ix3 b i n) := fun b i n => by
    fin_cases b
    · refine Eq.trans ?_ (A.sum c 0 i n)
      show out0 I c (ix3 0 i n) = _
      unfold out0
      rw [pay66_apply, ldP_apply _ 0 _ (by decide), ldA_apply _ 0 0 _ (by decide) (by decide), ldA_apply _ 1 0 _ (by decide) (by decide), ldA_apply _ 2 0 _ (by decide) (by decide)]
      rfl
    · refine Eq.trans ?_ (A.sum c 1 i n)
      show out1 I c (ix3 0 i n) = _
      unfold out1
      rw [pay68_apply, ldP_apply _ 1 _ (by decide), ldA_apply _ 0 1 _ (by decide) (by decide), ldA_apply _ 1 1 _ (by decide) (by decide), ldA_apply _ 2 1 _ (by decide) (by decide)]
      rfl
  funext y
  have ey : y = ix3 (n0 := 2) (n1 := 128) (n2 := 512) (y 0) (y 1) (y 2) := by
    funext a
    fin_cases a <;> rfl
  rw [ey]
  exact key (y 0) (y 1) (y 2)

end Cert.KernelIdealRun

end
-- ==== Proof.Algebraic.lean ====
/-
# The value claim

The devices' inputs are blocks of the reference's arrays, so every device's result is the reference's.
-/
module

public import proofs.«01_k».proof.Defs
public import proofs.«01_k».proof.Proof.Value
public import proofs.«01_k».proof.Proof.Launch
public import proofs.«01_k».proof.Proof.Ref
public import Idealize.ShloMosaic.Lib.Pointwise

@[expose] public section

set_option maxRecDepth 16384

noncomputable section

namespace Cert.KernelIdealRun

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.ReferenceIdeal (S512x1024 S2x512x16x64 S1024x512)

variable (m : (ℓ : Loc nD τ sig) → Buf (Elt F) ℓ) (c : Dev nD)

/-! ## What the region is given -/

/-- The keys and the values as the region finds them: reshaped. -/
theorem V_main_v1 : Gen.V m c main_v1 = shapeCast S256x1024 (m ((c : Thread nD τ).loc main_arg2)) shapeCasts_S2x128x16x64_S256x1024 := by
  show StableHlo.after hostOps0 (fun b => m (c, b)) _ = _
  unfold hostOps0
  after_results_simp
  rfl
theorem V_main_v2 : Gen.V m c main_v2 = shapeCast S256x1024 (m ((c : Thread nD τ).loc main_arg3)) shapeCasts_S2x128x16x64_S256x1024 := by
  show StableHlo.after hostOps0 (fun b => m (c, b)) _ = _
  unfold hostOps0
  after_results_simp
  rfl

theorem ins_x : (ins m).x c = m ((c : Thread nD τ).loc main_arg0) := by
  have hz : (fun a => (win0_0.index (0 : Fin 1)) a * main_arg0.ty.shape.size a) = fun _ => 0 := funext fun a => by fin_cases a <;> decide
  exact (Memref.read_access_unit_zero (Elt F) main_arg0 hz (fun a => by fin_cases a <;> decide) (Gen.V m c main_arg0)).trans (V_main_arg0 m c)
theorem ins_wq : (ins m).wq c = m ((c : Thread nD τ).loc main_arg1) := by
  have hz : (fun a => (win0_1.index (0 : Fin 1)) a * main_arg1.ty.shape.size a) = fun _ => 0 := funext fun a => by fin_cases a <;> decide
  exact (Memref.read_access_unit_zero (Elt F) main_arg1 hz (fun a => by fin_cases a <;> decide) (Gen.V m c main_arg1)).trans (V_main_arg1 m c)
theorem ins_k : (ins m).k c = shapeCast S256x1024 (m ((c : Thread nD τ).loc main_arg2)) shapeCasts_S2x128x16x64_S256x1024 := by
  have hz : (fun a => (win0_2.index (0 : Fin 1)) a * main_v1.ty.shape.size a) = fun _ => 0 := funext fun a => by fin_cases a <;> decide
  exact (Memref.read_access_unit_zero (Elt F) main_v1 hz (fun a => by fin_cases a <;> decide) (Gen.V m c main_v1)).trans (V_main_v1 m c)
theorem ins_v : (ins m).v c = shapeCast S256x1024 (m ((c : Thread nD τ).loc main_arg3)) shapeCasts_S2x128x16x64_S256x1024 := by
  have hz : (fun a => (win0_3.index (0 : Fin 1)) a * main_v2.ty.shape.size a) = fun _ => 0 := funext fun a => by fin_cases a <;> decide
  exact (Memref.read_access_unit_zero (Elt F) main_v2 hz (fun a => by fin_cases a <;> decide) (Gen.V m c main_v2)).trans (V_main_v2 m c)
theorem ins_wo : (ins m).wo c = m ((c : Thread nD τ).loc main_arg4) := by
  have hz : (fun a => (win0_4.index (0 : Fin 1)) a * main_arg4.ty.shape.size a) = fun _ => 0 := funext fun a => by fin_cases a <;> decide
  exact (Memref.read_access_unit_zero (Elt F) main_arg4 hz (fun a => by fin_cases a <;> decide) (Gen.V m c main_arg4)).trans (V_main_arg4 m c)

/-! ## Blocks -/

theorem cols_apply {α : Type} (f : S512x1024.Idx → α) (c : Fin 4) (l : Fin 512) (y : Fin 256) (z : Fin 1024) (h : z.val = 256 * c.val + y.val) :
    Layout.block ⟨2, ![512, 256]⟩ ⟨2, ![512, 1024]⟩ 1 4 c f (by decide) (ix2 l y) = f (ix2 l z) := by
  refine congrArg f (funext fun a => Fin.ext ?_)
  fin_cases a
  · rfl
  · show c.val * 256 + y.val = z.val
    omega
theorem rows_apply {α : Type} (f : S1024x512.Idx → α) (c : Fin 4) (y : Fin 256) (n : Fin 512) (z : Fin 1024) (h : z.val = 256 * c.val + y.val) :
    Layout.block ⟨2, ![256, 512]⟩ ⟨2, ![1024, 512]⟩ 0 4 c f (by decide) (ix2 y n) = f (ix2 z n) := by
  refine congrArg f (funext fun a => Fin.ext ?_)
  fin_cases a
  · show c.val * 256 + y.val = z.val
    omega
  · rfl
theorem keys_apply {α : Type} (f : S2x512x16x64.Idx → α) (c : Fin 4) (b : Fin 2) (t : Fin 128) (h : Fin 16) (d : Fin 64) (j : Fin 512) (hj : j.val = 128 * c.val + t.val) :
    Layout.block ⟨4, ![2, 128, 16, 64]⟩ ⟨4, ![2, 512, 16, 64]⟩ 1 4 c f (by decide) (ix4 b t h d) = f (ix4 b j h d) := by
  refine congrArg f (funext fun a => Fin.ext ?_)
  fin_cases a
  · rfl
  · show c.val * 128 + t.val = j.val
    omega
  · rfl
  · rfl

theorem flat_apply (f : FVec F S2x128x16x64 .f32) (r : Fin 256) (y : Fin 1024) (b : Fin 2) (t : Fin 128) (h : Fin 16) (d : Fin 64)
    (hr : r.val = 128 * b.val + t.val) (hy : y.val = 64 * h.val + d.val) :
    shapeCast S256x1024 f shapeCasts_S2x128x16x64_S256x1024 (ix2 r y) = f (ix4 b t h d) := by
  pointwise
  have e : ∀ (b' : Fin 2) (t' : Fin 128) (h' : Fin 16) (d' : Fin 64), b' = b → t' = t → h' = h → d' = d → f (ix4 b' t' h' d') = f (ix4 b t h d) := by
    rintro _ _ _ _ rfl rfl rfl rfl
    rfl
  refine e _ _ _ _ (Fin.ext ?_) (Fin.ext ?_) (Fin.ext ?_) (Fin.ext ?_)
  · show r.val / 128 = b.val
    omega
  · show r.val % 128 = t.val
    omega
  · show y.val / 64 = h.val
    omega
  · show y.val % 64 = d.val
    omega

/-! ## The claim -/

theorem agree (m : (ℓ : Loc nD τ sig) → Buf (Elt Ideal) ℓ) (X : FVec Ideal S2x128x512 .f32) (WQ : FVec Ideal S512x1024 .f32) (K V : FVec Ideal S2x512x16x64 .f32)
    (WO : FVec Ideal S1024x512 .f32)
    (h : ∀ c : Dev nD, m ((c.tc : Thread nD τ).loc main_arg0) = X
      ∧ m ((c.tc : Thread nD τ).loc main_arg1) = Layout.block ⟨2, ![512, 256]⟩ ⟨2, ![512, 1024]⟩ 1 4 c WQ
      ∧ m ((c.tc : Thread nD τ).loc main_arg2) = Layout.block ⟨4, ![2, 128, 16, 64]⟩ ⟨4, ![2, 512, 16, 64]⟩ 1 4 c K
      ∧ m ((c.tc : Thread nD τ).loc main_arg3) = Layout.block ⟨4, ![2, 128, 16, 64]⟩ ⟨4, ![2, 512, 16, 64]⟩ 1 4 c V
      ∧ m ((c.tc : Thread nD τ).loc main_arg4) = Layout.block ⟨2, ![256, 512]⟩ ⟨2, ![1024, 512]⟩ 0 4 c WO) : Agree (ins m) X WQ K V WO where
  x c := (ins_x m c).trans (h c).1
  wq c l y z hz := by
    rw [ins_wq]
    exact (congrFun (h c).2.1 _).trans (cols_apply WQ c l y z hz)
  k c r y b j h' d t ht hr hj hy := by
    rw [ins_k]
    exact (flat_apply (F := Ideal) (m ((c.tc : Thread nD τ).loc main_arg2)) r y b ⟨t, ht⟩ h' d hr hy).trans ((congrFun (h c).2.2.1 _).trans (keys_apply K c b ⟨t, ht⟩ h' d j hj))
  v c r y b j h' d t ht hr hj hy := by
    rw [ins_v]
    exact (flat_apply (F := Ideal) (m ((c.tc : Thread nD τ).loc main_arg3)) r y b ⟨t, ht⟩ h' d hr hy).trans ((congrFun (h c).2.2.2.1 _).trans (keys_apply V c b ⟨t, ht⟩ h' d j hj))
  wo c y z n hz := by
    rw [ins_wo]
    exact (congrFun (h c).2.2.2.2 _).trans (rows_apply WO c y n z hz)

theorem algebraic : algebraic_KernelIdeal_ReferenceIdeal (hKernelIdeal := Cert.KernelIdeal.Gen.facts) (hReferenceIdeal := Cert.ReferenceIdeal.Gen.facts) := by
  intro m g m' g' _ h
  have A := agree m _ _ _ _ _ h
  refine ⟨_, ?_, (θ_run Cert.ReferenceIdeal.defs _ _).mono (fun _ h => h.1 0) (Cert.ReferenceRun.run_main m' g')⟩
  refine (θ_run defs _ _).mono (fun _ h c => ?_) (run_main m g)
  have hc := h.1 c
  exact ⟨hc.2.2.2.2.2.trans (A.out c), hc.1, hc.2.1, hc.2.2.1, hc.2.2.2.1, hc.2.2.2.2.1⟩

end Cert.KernelIdealRun

end
-- ==== Proof.lean ====
/-
# The claims

The run of the kernel on its four devices, the run of the reference, and the claims about them.
-/
module

public import proofs.«01_k».proof.Defs
public import proofs.«01_k».proof.Proof.Frames
public import proofs.«01_k».proof.Proof.Ref
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts,
    Cert.KernelIdealRun.frame_printed, Cert.KernelIdealRun.frame_ideal, Cert.ReferenceRun.frame, trivial, Cert.KernelIdealRun.algebraic⟩

end Cert.Proof

end
